-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S4096x8192 : Shape := ⟨2, ![4096, 8192]⟩
abbrev S4x512x2048 : Shape := ⟨3, ![4, 512, 2048]⟩
abbrev S512x4096 : Shape := ⟨2, ![512, 4096]⟩
abbrev S8x8x128 : Shape := ⟨3, ![8, 8, 128]⟩
abbrev S2 : Shape := ⟨1, ![2]⟩
abbrev S7 : Shape := ⟨1, ![7]⟩
abbrev S8 : Shape := ⟨1, ![8]⟩
abbrev S_ : Shape := ⟨0, ![]⟩
abbrev S512x512 : Shape := ⟨2, ![512, 512]⟩
abbrev S512x2048 : Shape := ⟨2, ![512, 2048]⟩
abbrev S1x512x2048 : Shape := ⟨3, ![1, 512, 2048]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S4096x8192, .f32⟩
  | .local _ .vmem, ⟨0, _⟩ => ⟨S4096x512, .f32⟩
  | .local _ .vmem, ⟨1, _⟩ => ⟨S512x8192, .f32⟩
  | .local _ .vmem, ⟨2, _⟩ => ⟨S4x512x2048, .f32⟩
  | .local _ .vmem, ⟨3, _⟩ => ⟨S4x512x2048, .fp8e4m3⟩
  | .local _ .vmem, ⟨4, _⟩ => ⟨S512x4096, .f32⟩
  | .local _ .vmem, ⟨5, _⟩ => ⟨S8x8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 5 25 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_30 : BitVec 32 := 1#32
  let v50 : BitVec 32 := Scalar.muli v14 c1_i32_30
  let v51 : BitVec 32 := Scalar.addi c0_i32_31 v50
  v51.toNat
def k0_dev2 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_33 : BitVec 32 := 1#32
  let v52 : BitVec 32 := Scalar.muli v25 c1_i32_33
  let v53 : BitVec 32 := Scalar.addi c0_i32_34 v52
  v53.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v54 : BitVec 32 := Scalar.muli v2 c512_i32
  let v55 : Index := Scalar.indexCast v54
  let c0 : Index := 0#32
  ![v55.toNat, 0]
@[reducible] def k0_t1_loop : Scf.Loop 32 :=
  let c0_i32_46 : BitVec 32 := 0#32
  let c7_i32 : BitVec 32 := 7#32
  let v74 : BitVec 32 := Scalar.addi c0_i32_46 c7_i32
  let c1_i32_47 : BitVec 32 := 1#32
  ⟨c0_i32_46, v74, c1_i32_47⟩
def k0_off2 (k0_t1 : Fin k0_t1_loop.trips) (c0_i32_649 : BitVec 32) : Fin 3 → Nat :=
  let c0_i32_46 : BitVec 32 := 0#32
  let c1_i32_47 : BitVec 32 := 1#32
  let arg15 : BitVec 32 := Scf.iv c0_i32_46 c1_i32_47 k0_t1
  let c1_i32_639 : BitVec 32 := 1#32
  let v831 : BitVec 32 := Scalar.addi arg15 c1_i32_639
  let c2_i32_640 : BitVec 32 := 2#32
  let c0_i32_641 : BitVec 32 := 0#32
  let v832 : BitVec 1 := Scalar.cmpi .eq c2_i32_640 c0_i32_641
  let c1_i32_642 : BitVec 32 := 1#32
  let v833 : BitVec 32 := Scalar.select v832 c1_i32_642 c2_i32_640
  let v834 : BitVec 32 := Scalar.remsi v831 v833
  let c0_i32_644 : BitVec 32 := 0#32
  let v836 : BitVec 1 := Scalar.cmpi .slt v834 c0_i32_644
  let c0_i32_645 : BitVec 32 := 0#32
  let v837 : BitVec 1 := Scalar.cmpi .slt v833 c0_i32_645
  let v838 : BitVec 1 := Scalar.xori v836 v837
  let c0_i32_643 : BitVec 32 := 0#32
  let v835 : BitVec 1 := Scalar.cmpi .ne v834 c0_i32_643
  let v839 : BitVec 1 := Scalar.andi v838 v835
  let v840 : BitVec 32 := Scalar.addi v834 v833
  let v841 : BitVec 32 := Scalar.select v839 v840 v834
  let v846 : BitVec 32 := Scalar.addi c0_i32_649 v841
  let c0_i32_654 : BitVec 32 := 0#32
  let c0_i32_655 : BitVec 32 := 0#32
  ![v846.toNat, 0, 0]
def k0_off3 (k0_t1 : Fin k0_t1_loop.trips) (c0_i32_648 : BitVec 32) : Fin 3 → Nat :=
  let c0_i32_46 : BitVec 32 := 0#32
  let c1_i32_47 : BitVec 32 := 1#32
  let arg15 : BitVec 32 := Scf.iv c0_i32_46 c1_i32_47 k0_t1
  let c2_i32_633 : BitVec 32 := 2#32
  let c0_i32_634 : BitVec 32 := 0#32
  let v821 : BitVec 1 := Scalar.cmpi .eq c2_i32_633 c0_i32_634
  let c1_i32_635 : BitVec 32 := 1#32
  let v822 : BitVec 32 := Scalar.select v821 c1_i32_635 c2_i32_633
  let v823 : BitVec 32 := Scalar.remsi arg15 v822
  let c0_i32_637 : BitVec 32 := 0#32
  let v825 : BitVec 1 := Scalar.cmpi .slt v823 c0_i32_637
  let c0_i32_638 : BitVec 32 := 0#32
  let v826 : BitVec 1 := Scalar.cmpi .slt v822 c0_i32_638
  let v827 : BitVec 1 := Scalar.xori v825 v826
  let c0_i32_636 : BitVec 32 := 0#32
  let v824 : BitVec 1 := Scalar.cmpi .ne v823 c0_i32_636
  let v828 : BitVec 1 := Scalar.andi v827 v824
  let v829 : BitVec 32 := Scalar.addi v823 v822
  let v830 : BitVec 32 := Scalar.select v828 v829 v823
  let v845 : BitVec 32 := Scalar.addi c0_i32_648 v830
  let c0_i32_656 : BitVec 32 := 0#32
  let c0_i32_657 : BitVec 32 := 0#32
  ![v845.toNat, 0, 0]
def k0_dev3 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_652 : BitVec 32 := 1#32
  let v847 : BitVec 32 := Scalar.muli v25 c1_i32_652
  let v848 : BitVec 32 := Scalar.addi c0_i32_653 v847
  v848.toNat
def k0_dev4 (d0 : Dev nD) : Nat :=
  let c0_i32_663 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_662 : BitVec 32 := 1#32
  let v859 : BitVec 32 := Scalar.muli v14 c1_i32_662
  let v860 : BitVec 32 := Scalar.addi c0_i32_663 v859
  v860.toNat
def k0_off4 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_46 : BitVec 32 := 0#32
  let c1_i32_47 : BitVec 32 := 1#32
  let arg15 : BitVec 32 := Scf.iv c0_i32_46 c1_i32_47 k0_t1
  let v869 : BitVec 32 := Scalar.subi v2 arg15
  let c1_i32_668 : BitVec 32 := 1#32
  let v870 : BitVec 32 := Scalar.subi v869 c1_i32_668
  let c8_i32_669 : BitVec 32 := 8#32
  let c0_i32_670 : BitVec 32 := 0#32
  let v871 : BitVec 1 := Scalar.cmpi .eq c8_i32_669 c0_i32_670
  let c1_i32_671 : BitVec 32 := 1#32
  let v872 : BitVec 32 := Scalar.select v871 c1_i32_671 c8_i32_669
  let v873 : BitVec 32 := Scalar.remsi v870 v872
  let c0_i32_673 : BitVec 32 := 0#32
  let v875 : BitVec 1 := Scalar.cmpi .slt v873 c0_i32_673
  let c0_i32_674 : BitVec 32 := 0#32
  let v876 : BitVec 1 := Scalar.cmpi .slt v872 c0_i32_674
  let v877 : BitVec 1 := Scalar.xori v875 v876
  let c0_i32_672 : BitVec 32 := 0#32
  let v874 : BitVec 1 := Scalar.cmpi .ne v873 c0_i32_672
  let v878 : BitVec 1 := Scalar.andi v877 v874
  let v879 : BitVec 32 := Scalar.addi v873 v872
  let v880 : BitVec 32 := Scalar.select v878 v879 v873
  let c512_i32_675 : BitVec 32 := 512#32
  let v881 : BitVec 32 := Scalar.muli v880 c512_i32_675
  let v882 : Index := Scalar.indexCast v881
  let c0_676 : Index := 0#32
  ![v882.toNat, 0]
def k0_off5 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_46 : BitVec 32 := 0#32
  let c1_i32_47 : BitVec 32 := 1#32
  let arg15 : BitVec 32 := Scf.iv c0_i32_46 c1_i32_47 k0_t1
  let v891 : BitVec 32 := Scalar.addi v2 arg15
  let c1_i32_682 : BitVec 32 := 1#32
  let v892 : BitVec 32 := Scalar.addi v891 c1_i32_682
  let c8_i32_683 : BitVec 32 := 8#32
  let c0_i32_684 : BitVec 32 := 0#32
  let v893 : BitVec 1 := Scalar.cmpi .eq c8_i32_683 c0_i32_684
  let c1_i32_685 : BitVec 32 := 1#32
  let v894 : BitVec 32 := Scalar.select v893 c1_i32_685 c8_i32_683
  let v895 : BitVec 32 := Scalar.remsi v892 v894
  let c0_i32_687 : BitVec 32 := 0#32
  let v897 : BitVec 1 := Scalar.cmpi .slt v895 c0_i32_687
  let c0_i32_688 : BitVec 32 := 0#32
  let v898 : BitVec 1 := Scalar.cmpi .slt v894 c0_i32_688
  let v899 : BitVec 1 := Scalar.xori v897 v898
  let c0_i32_686 : BitVec 32 := 0#32
  let v896 : BitVec 1 := Scalar.cmpi .ne v895 c0_i32_686
  let v900 : BitVec 1 := Scalar.andi v899 v896
  let v901 : BitVec 32 := Scalar.addi v895 v894
  let v902 : BitVec 32 := Scalar.select v900 v901 v895
  let c512_i32_689 : BitVec 32 := 512#32
  let v903 : BitVec 32 := Scalar.muli v902 c512_i32_689
  let v904 : Index := Scalar.indexCast v903
  let c0_690 : Index := 0#32
  ![v904.toNat, 0]
def k0_off6 (k0_t1 : Fin k0_t1_loop.trips) (c0_i32_726 : BitVec 32) : Fin 3 → Nat :=
  let c0_i32_46 : BitVec 32 := 0#32
  let c1_i32_47 : BitVec 32 := 1#32
  let arg15 : BitVec 32 := Scf.iv c0_i32_46 c1_i32_47 k0_t1
  let c1_i32_639 : BitVec 32 := 1#32
  let v831 : BitVec 32 := Scalar.addi arg15 c1_i32_639
  let c2_i32_640 : BitVec 32 := 2#32
  let c0_i32_641 : BitVec 32 := 0#32
  let v832 : BitVec 1 := Scalar.cmpi .eq c2_i32_640 c0_i32_641
  let c1_i32_642 : BitVec 32 := 1#32
  let v833 : BitVec 32 := Scalar.select v832 c1_i32_642 c2_i32_640
  let v834 : BitVec 32 := Scalar.remsi v831 v833
  let c0_i32_644 : BitVec 32 := 0#32
  let v836 : BitVec 1 := Scalar.cmpi .slt v834 c0_i32_644
  let c0_i32_645 : BitVec 32 := 0#32
  let v837 : BitVec 1 := Scalar.cmpi .slt v833 c0_i32_645
  let v838 : BitVec 1 := Scalar.xori v836 v837
  let c0_i32_643 : BitVec 32 := 0#32
  let v835 : BitVec 1 := Scalar.cmpi .ne v834 c0_i32_643
  let v839 : BitVec 1 := Scalar.andi v838 v835
  let v840 : BitVec 32 := Scalar.addi v834 v833
  let v841 : BitVec 32 := Scalar.select v839 v840 v834
  let v941 : BitVec 32 := Scalar.addi c0_i32_726 v841
  let v942 : Index := Scalar.indexCast v941
  let c0_727 : Index := 0#32
  let c0_728 : Index := 0#32
  ![v942.toNat, 0, 0]
def k0_cond2 (k0_t1 : Fin k0_t1_loop.trips) : BitVec 1 :=
  let c0_i32_46 : BitVec 32 := 0#32
  let c1_i32_47 : BitVec 32 := 1#32
  let arg15 : BitVec 32 := Scf.iv c0_i32_46 c1_i32_47 k0_t1
  let c6_i32_742 : BitVec 32 := 6#32
  let v963 : BitVec 1 := Scalar.cmpi .slt arg15 c6_i32_742
  let v964 : BitVec 32 := Scalar.extui v963
  let c0_i32_743 : BitVec 32 := 0#32
  let v965 : BitVec 1 := Scalar.cmpi .ne v964 c0_i32_743
  v965

def k0_dev5 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_746 : BitVec 32 := 1#32
  let v968 : BitVec 32 := Scalar.muli v14 c1_i32_746
  let v969 : BitVec 32 := Scalar.addi c0_i32_747 v968
  v969.toNat
def k0_dev6 (d0 : Dev nD) : Nat :=
  let c0_i32_751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_750 : BitVec 32 := 1#32
  let v972 : BitVec 32 := Scalar.muli v25 c1_i32_750
  let v973 : BitVec 32 := Scalar.addi c0_i32_751 v972
  v973.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v26 : BitVec 32 := Scalar.addi v2 c1_i32_14
  let c8_i32_15 : BitVec 32 := 8#32
  let c0_i32_16 : BitVec 32 := 0#32
  let v27 : BitVec 1 := Scalar.cmpi .eq c8_i32_15 c0_i32_16
  let c1_i32_17 : BitVec 32 := 1#32
  let v28 : BitVec 32 := Scalar.select v27 c1_i32_17 c8_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c512_i32_55 : BitVec 32 := 512#32
  let v90 : BitVec 32 := Scalar.muli v36 c512_i32_55
  let c0_i32_58 : BitVec 32 := 0#32
  ![v90.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_21 : BitVec 32 := 8#32
  let v37 : BitVec 32 := Scalar.addi v2 c8_i32_21
  let c1_i32_22 : BitVec 32 := 1#32
  let v38 : BitVec 32 := Scalar.subi v37 c1_i32_22
  let c8_i32_23 : BitVec 32 := 8#32
  let c0_i32_24 : BitVec 32 := 0#32
  let v39 : BitVec 1 := Scalar.cmpi .eq c8_i32_23 c0_i32_24
  let c1_i32_25 : BitVec 32 := 1#32
  let v40 : BitVec 32 := Scalar.select v39 c1_i32_25 c8_i32_23
  let v41 : BitVec 32 := Scalar.remsi v38 v40
  let c0_i32_27 : BitVec 32 := 0#32
  let v43 : BitVec 1 := Scalar.cmpi .slt v41 c0_i32_27
  let c0_i32_28 : BitVec 32 := 0#32
  let v44 : BitVec 1 := Scalar.cmpi .slt v40 c0_i32_28
  let v45 : BitVec 1 := Scalar.xori v43 v44
  let c0_i32_26 : BitVec 32 := 0#32
  let v42 : BitVec 1 := Scalar.cmpi .ne v41 c0_i32_26
  let v46 : BitVec 1 := Scalar.andi v45 v42
  let v47 : BitVec 32 := Scalar.addi v41 v40
  let v48 : BitVec 32 := Scalar.select v46 v47 v41
  let c512_i32_61 : BitVec 32 := 512#32
  let v96 : BitVec 32 := Scalar.muli v48 c512_i32_61
  let c2048_i32 : BitVec 32 := 2048#32
  ![v96.toNat, 2048]
def k0_dev7 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_77 : BitVec 32 := 1#32
  let v114 : BitVec 32 := Scalar.muli v14 c1_i32_77
  let v115 : BitVec 32 := Scalar.addi c0_i32_78 v114
  v115.toNat
def k0_dev8 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_81 : BitVec 32 := 1#32
  let v118 : BitVec 32 := Scalar.muli v25 c1_i32_81
  let v119 : BitVec 32 := Scalar.addi c0_i32_82 v118
  v119.toNat
@[reducible] def k0_t2_loop : Scf.Loop 32 :=
  let c0_i32_97 : BitVec 32 := 0#32
  let c7_i32_98 : BitVec 32 := 7#32
  let v140 : BitVec 32 := Scalar.addi c0_i32_97 c7_i32_98
  let c1_i32_99 : BitVec 32 := 1#32
  ⟨c0_i32_97, v140, c1_i32_99⟩
def k0_off9 (k0_t2 : Fin k0_t2_loop.trips) (c0_i32_653 : BitVec 32) : Fin 3 → Nat :=
  let c0_i32_97 : BitVec 32 := 0#32
  let c1_i32_99 : BitVec 32 := 1#32
  let arg15 : BitVec 32 := Scf.iv c0_i32_97 c1_i32_99 k0_t2
  let c1_i32_639 : BitVec 32 := 1#32
  let v831 : BitVec 32 := Scalar.addi arg15 c1_i32_639
  let c2_i32_640 : BitVec 32 := 2#32
  let c0_i32_641 : BitVec 32 := 0#32
  let v832 : BitVec 1 := Scalar.cmpi .eq c2_i32_640 c0_i32_641
  let c1_i32_642 : BitVec 32 := 1#32
  let v833 : BitVec 32 := Scalar.select v832 c1_i32_642 c2_i32_640
  let v834 : BitVec 32 := Scalar.remsi v831 v833
  let c0_i32_644 : BitVec 32 := 0#32
  let v836 : BitVec 1 := Scalar.cmpi .slt v834 c0_i32_644
  let c0_i32_645 : BitVec 32 := 0#32
  let v837 : BitVec 1 := Scalar.cmpi .slt v833 c0_i32_645
  let v838 : BitVec 1 := Scalar.xori v836 v837
  let c0_i32_643 : BitVec 32 := 0#32
  let v835 : BitVec 1 := Scalar.cmpi .ne v834 c0_i32_643
  let v839 : BitVec 1 := Scalar.andi v838 v835
  let v840 : BitVec 32 := Scalar.addi v834 v833
  let v841 : BitVec 32 := Scalar.select v839 v840 v834
  let v847 : BitVec 32 := Scalar.addi c0_i32_653 v841
  let c0_i32_658 : BitVec 32 := 0#32
  let c0_i32_659 : BitVec 32 := 0#32
  ![v847.toNat, 0, 0]
def k0_off10 (k0_t2 : Fin k0_t2_loop.trips) (c0_i32_652 : BitVec 32) : Fin 3 → Nat :=
  let c0_i32_97 : BitVec 32 := 0#32
  let c1_i32_99 : BitVec 32 := 1#32
  let arg15 : BitVec 32 := Scf.iv c0_i32_97 c1_i32_99 k0_t2
  let c2_i32_633 : BitVec 32 := 2#32
  let c0_i32_634 : BitVec 32 := 0#32
  let v821 : BitVec 1 := Scalar.cmpi .eq c2_i32_633 c0_i32_634
  let c1_i32_635 : BitVec 32 := 1#32
  let v822 : BitVec 32 := Scalar.select v821 c1_i32_635 c2_i32_633
  let v823 : BitVec 32 := Scalar.remsi arg15 v822
  let c0_i32_637 : BitVec 32 := 0#32
  let v825 : BitVec 1 := Scalar.cmpi .slt v823 c0_i32_637
  let c0_i32_638 : BitVec 32 := 0#32
  let v826 : BitVec 1 := Scalar.cmpi .slt v822 c0_i32_638
  let v827 : BitVec 1 := Scalar.xori v825 v826
  let c0_i32_636 : BitVec 32 := 0#32
  let v824 : BitVec 1 := Scalar.cmpi .ne v823 c0_i32_636
  let v828 : BitVec 1 := Scalar.andi v827 v824
  let v829 : BitVec 32 := Scalar.addi v823 v822
  let v830 : BitVec 32 := Scalar.select v828 v829 v823
  let v846 : BitVec 32 := Scalar.addi c0_i32_652 v830
  let c0_i32_660 : BitVec 32 := 0#32
  let c0_i32_661 : BitVec 32 := 0#32
  ![v846.toNat, 0, 0]
def k0_dev9 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_656 : BitVec 32 := 1#32
  let v848 : BitVec 32 := Scalar.muli v25 c1_i32_656
  let v849 : BitVec 32 := Scalar.addi c0_i32_657 v848
  v849.toNat
def k0_dev10 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_666 : BitVec 32 := 1#32
  let v860 : BitVec 32 := Scalar.muli v14 c1_i32_666
  let v861 : BitVec 32 := Scalar.addi c0_i32_667 v860
  v861.toNat
def k0_off11 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_97 : BitVec 32 := 0#32
  let c1_i32_99 : BitVec 32 := 1#32
  let arg15 : BitVec 32 := Scf.iv c0_i32_97 c1_i32_99 k0_t2
  let v870 : BitVec 32 := Scalar.subi v2 arg15
  let c1_i32_672 : BitVec 32 := 1#32
  let v871 : BitVec 32 := Scalar.subi v870 c1_i32_672
  let c8_i32_673 : BitVec 32 := 8#32
  let c0_i32_674 : BitVec 32 := 0#32
  let v872 : BitVec 1 := Scalar.cmpi .eq c8_i32_673 c0_i32_674
  let c1_i32_675 : BitVec 32 := 1#32
  let v873 : BitVec 32 := Scalar.select v872 c1_i32_675 c8_i32_673
  let v874 : BitVec 32 := Scalar.remsi v871 v873
  let c0_i32_677 : BitVec 32 := 0#32
  let v876 : BitVec 1 := Scalar.cmpi .slt v874 c0_i32_677
  let c0_i32_678 : BitVec 32 := 0#32
  let v877 : BitVec 1 := Scalar.cmpi .slt v873 c0_i32_678
  let v878 : BitVec 1 := Scalar.xori v876 v877
  let c0_i32_676 : BitVec 32 := 0#32
  let v875 : BitVec 1 := Scalar.cmpi .ne v874 c0_i32_676
  let v879 : BitVec 1 := Scalar.andi v878 v875
  let v880 : BitVec 32 := Scalar.addi v874 v873
  let v881 : BitVec 32 := Scalar.select v879 v880 v874
  let c512_i32_679 : BitVec 32 := 512#32
  let v882 : BitVec 32 := Scalar.muli v881 c512_i32_679
  let v883 : Index := Scalar.indexCast v882
  let c0_680 : Index := 0#32
  ![v883.toNat, 0]
def k0_off12 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_97 : BitVec 32 := 0#32
  let c1_i32_99 : BitVec 32 := 1#32
  let arg15 : BitVec 32 := Scf.iv c0_i32_97 c1_i32_99 k0_t2
  let v892 : BitVec 32 := Scalar.addi v2 arg15
  let c1_i32_686 : BitVec 32 := 1#32
  let v893 : BitVec 32 := Scalar.addi v892 c1_i32_686
  let c8_i32_687 : BitVec 32 := 8#32
  let c0_i32_688 : BitVec 32 := 0#32
  let v894 : BitVec 1 := Scalar.cmpi .eq c8_i32_687 c0_i32_688
  let c1_i32_689 : BitVec 32 := 1#32
  let v895 : BitVec 32 := Scalar.select v894 c1_i32_689 c8_i32_687
  let v896 : BitVec 32 := Scalar.remsi v893 v895
  let c0_i32_691 : BitVec 32 := 0#32
  let v898 : BitVec 1 := Scalar.cmpi .slt v896 c0_i32_691
  let c0_i32_692 : BitVec 32 := 0#32
  let v899 : BitVec 1 := Scalar.cmpi .slt v895 c0_i32_692
  let v900 : BitVec 1 := Scalar.xori v898 v899
  let c0_i32_690 : BitVec 32 := 0#32
  let v897 : BitVec 1 := Scalar.cmpi .ne v896 c0_i32_690
  let v901 : BitVec 1 := Scalar.andi v900 v897
  let v902 : BitVec 32 := Scalar.addi v896 v895
  let v903 : BitVec 32 := Scalar.select v901 v902 v896
  let c512_i32_693 : BitVec 32 := 512#32
  let v904 : BitVec 32 := Scalar.muli v903 c512_i32_693
  let v905 : Index := Scalar.indexCast v904
  let c0_694 : Index := 0#32
  ![v905.toNat, 0]
def k0_off13 (k0_t2 : Fin k0_t2_loop.trips) (c0_i32_730 : BitVec 32) : Fin 3 → Nat :=
  let c0_i32_97 : BitVec 32 := 0#32
  let c1_i32_99 : BitVec 32 := 1#32
  let arg15 : BitVec 32 := Scf.iv c0_i32_97 c1_i32_99 k0_t2
  let c1_i32_639 : BitVec 32 := 1#32
  let v831 : BitVec 32 := Scalar.addi arg15 c1_i32_639
  let c2_i32_640 : BitVec 32 := 2#32
  let c0_i32_641 : BitVec 32 := 0#32
  let v832 : BitVec 1 := Scalar.cmpi .eq c2_i32_640 c0_i32_641
  let c1_i32_642 : BitVec 32 := 1#32
  let v833 : BitVec 32 := Scalar.select v832 c1_i32_642 c2_i32_640
  let v834 : BitVec 32 := Scalar.remsi v831 v833
  let c0_i32_644 : BitVec 32 := 0#32
  let v836 : BitVec 1 := Scalar.cmpi .slt v834 c0_i32_644
  let c0_i32_645 : BitVec 32 := 0#32
  let v837 : BitVec 1 := Scalar.cmpi .slt v833 c0_i32_645
  let v838 : BitVec 1 := Scalar.xori v836 v837
  let c0_i32_643 : BitVec 32 := 0#32
  let v835 : BitVec 1 := Scalar.cmpi .ne v834 c0_i32_643
  let v839 : BitVec 1 := Scalar.andi v838 v835
  let v840 : BitVec 32 := Scalar.addi v834 v833
  let v841 : BitVec 32 := Scalar.select v839 v840 v834
  let v942 : BitVec 32 := Scalar.addi c0_i32_730 v841
  let v943 : Index := Scalar.indexCast v942
  let c0_731 : Index := 0#32
  let c0_732 : Index := 0#32
  ![v943.toNat, 0, 0]
def k0_cond3 (k0_t2 : Fin k0_t2_loop.trips) : BitVec 1 :=
  let c0_i32_97 : BitVec 32 := 0#32
  let c1_i32_99 : BitVec 32 := 1#32
  let arg15 : BitVec 32 := Scf.iv c0_i32_97 c1_i32_99 k0_t2
  let c6_i32_746 : BitVec 32 := 6#32
  let v964 : BitVec 1 := Scalar.cmpi .slt arg15 c6_i32_746
  let v965 : BitVec 32 := Scalar.extui v964
  let c0_i32_747 : BitVec 32 := 0#32
  let v966 : BitVec 1 := Scalar.cmpi .ne v965 c0_i32_747
  v966

def k0_dev11 (d0 : Dev nD) : Nat :=
  let c0_i32_751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_750 : BitVec 32 := 1#32
  let v969 : BitVec 32 := Scalar.muli v14 c1_i32_750
  let v970 : BitVec 32 := Scalar.addi c0_i32_751 v969
  v970.toNat
def k0_dev12 (d0 : Dev nD) : Nat :=
  let c0_i32_755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_754 : BitVec 32 := 1#32
  let v973 : BitVec 32 := Scalar.muli v25 c1_i32_754
  let v974 : BitVec 32 := Scalar.addi c0_i32_755 v973
  v974.toNat
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v26 : BitVec 32 := Scalar.addi v2 c1_i32_14
  let c8_i32_15 : BitVec 32 := 8#32
  let c0_i32_16 : BitVec 32 := 0#32
  let v27 : BitVec 1 := Scalar.cmpi .eq c8_i32_15 c0_i32_16
  let c1_i32_17 : BitVec 32 := 1#32
  let v28 : BitVec 32 := Scalar.select v27 c1_i32_17 c8_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c512_i32_109 : BitVec 32 := 512#32
  let v157 : BitVec 32 := Scalar.muli v36 c512_i32_109
  let c4096_i32 : BitVec 32 := 4096#32
  ![v157.toNat, 4096]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_21 : BitVec 32 := 8#32
  let v37 : BitVec 32 := Scalar.addi v2 c8_i32_21
  let c1_i32_22 : BitVec 32 := 1#32
  let v38 : BitVec 32 := Scalar.subi v37 c1_i32_22
  let c8_i32_23 : BitVec 32 := 8#32
  let c0_i32_24 : BitVec 32 := 0#32
  let v39 : BitVec 1 := Scalar.cmpi .eq c8_i32_23 c0_i32_24
  let c1_i32_25 : BitVec 32 := 1#32
  let v40 : BitVec 32 := Scalar.select v39 c1_i32_25 c8_i32_23
  let v41 : BitVec 32 := Scalar.remsi v38 v40
  let c0_i32_27 : BitVec 32 := 0#32
  let v43 : BitVec 1 := Scalar.cmpi .slt v41 c0_i32_27
  let c0_i32_28 : BitVec 32 := 0#32
  let v44 : BitVec 1 := Scalar.cmpi .slt v40 c0_i32_28
  let v45 : BitVec 1 := Scalar.xori v43 v44
  let c0_i32_26 : BitVec 32 := 0#32
  let v42 : BitVec 1 := Scalar.cmpi .ne v41 c0_i32_26
  let v46 : BitVec 1 := Scalar.andi v45 v42
  let v47 : BitVec 32 := Scalar.addi v41 v40
  let v48 : BitVec 32 := Scalar.select v46 v47 v41
  let c512_i32_114 : BitVec 32 := 512#32
  let v163 : BitVec 32 := Scalar.muli v48 c512_i32_114
  let c6144_i32 : BitVec 32 := 6144#32
  ![v163.toNat, 6144]
def k0_dev13 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_131 : BitVec 32 := 1#32
  let v181 : BitVec 32 := Scalar.muli v14 c1_i32_131
  let v182 : BitVec 32 := Scalar.addi c0_i32_132 v181
  v182.toNat
def k0_dev14 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_135 : BitVec 32 := 1#32
  let v185 : BitVec 32 := Scalar.muli v25 c1_i32_135
  let v186 : BitVec 32 := Scalar.addi c0_i32_136 v185
  v186.toNat
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v188 : Index := Scalar.indexCast v2
  let c0_137 : Index := 0#32
  let c0_138 : Index := 0#32
  ![v188.toNat, 0, 0]
def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_149 : BitVec 32 := 0#32
  let c0_i32_150 : BitVec 32 := 0#32
  ![v2.toNat, 0, 0]
def k0_dev15 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_139 : BitVec 32 := 1#32
  let v192 : BitVec 32 := Scalar.addi v2 c1_i32_139
  let c8_i32_140 : BitVec 32 := 8#32
  let c0_i32_141 : BitVec 32 := 0#32
  let v193 : BitVec 1 := Scalar.cmpi .eq c8_i32_140 c0_i32_141
  let c1_i32_142 : BitVec 32 := 1#32
  let v194 : BitVec 32 := Scalar.select v193 c1_i32_142 c8_i32_140
  let v195 : BitVec 32 := Scalar.remsi v192 v194
  let c0_i32_144 : BitVec 32 := 0#32
  let v197 : BitVec 1 := Scalar.cmpi .slt v195 c0_i32_144
  let c0_i32_145 : BitVec 32 := 0#32
  let v198 : BitVec 1 := Scalar.cmpi .slt v194 c0_i32_145
  let v199 : BitVec 1 := Scalar.xori v197 v198
  let c0_i32_143 : BitVec 32 := 0#32
  let v196 : BitVec 1 := Scalar.cmpi .ne v195 c0_i32_143
  let v200 : BitVec 1 := Scalar.andi v199 v196
  let v201 : BitVec 32 := Scalar.addi v195 v194
  let v202 : BitVec 32 := Scalar.select v200 v201 v195
  let c1_i32_147 : BitVec 32 := 1#32
  let v203 : BitVec 32 := Scalar.muli v202 c1_i32_147
  let v204 : BitVec 32 := Scalar.addi c0_i32_148 v203
  v204.toNat
def k0_dev16 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_153 : BitVec 32 := 2#32
  let v213 : BitVec 32 := Scalar.addi v2 c2_i32_153
  let c8_i32_154 : BitVec 32 := 8#32
  let c0_i32_155 : BitVec 32 := 0#32
  let v214 : BitVec 1 := Scalar.cmpi .eq c8_i32_154 c0_i32_155
  let c1_i32_156 : BitVec 32 := 1#32
  let v215 : BitVec 32 := Scalar.select v214 c1_i32_156 c8_i32_154
  let v216 : BitVec 32 := Scalar.remsi v213 v215
  let c0_i32_158 : BitVec 32 := 0#32
  let v218 : BitVec 1 := Scalar.cmpi .slt v216 c0_i32_158
  let c0_i32_159 : BitVec 32 := 0#32
  let v219 : BitVec 1 := Scalar.cmpi .slt v215 c0_i32_159
  let v220 : BitVec 1 := Scalar.xori v218 v219
  let c0_i32_157 : BitVec 32 := 0#32
  let v217 : BitVec 1 := Scalar.cmpi .ne v216 c0_i32_157
  let v221 : BitVec 1 := Scalar.andi v220 v217
  let v222 : BitVec 32 := Scalar.addi v216 v215
  let v223 : BitVec 32 := Scalar.select v221 v222 v216
  let c1_i32_161 : BitVec 32 := 1#32
  let v224 : BitVec 32 := Scalar.muli v223 c1_i32_161
  let v225 : BitVec 32 := Scalar.addi c0_i32_162 v224
  v225.toNat
def k0_dev17 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_167 : BitVec 32 := 3#32
  let v234 : BitVec 32 := Scalar.addi v2 c3_i32_167
  let c8_i32_168 : BitVec 32 := 8#32
  let c0_i32_169 : BitVec 32 := 0#32
  let v235 : BitVec 1 := Scalar.cmpi .eq c8_i32_168 c0_i32_169
  let c1_i32_170 : BitVec 32 := 1#32
  let v236 : BitVec 32 := Scalar.select v235 c1_i32_170 c8_i32_168
  let v237 : BitVec 32 := Scalar.remsi v234 v236
  let c0_i32_172 : BitVec 32 := 0#32
  let v239 : BitVec 1 := Scalar.cmpi .slt v237 c0_i32_172
  let c0_i32_173 : BitVec 32 := 0#32
  let v240 : BitVec 1 := Scalar.cmpi .slt v236 c0_i32_173
  let v241 : BitVec 1 := Scalar.xori v239 v240
  let c0_i32_171 : BitVec 32 := 0#32
  let v238 : BitVec 1 := Scalar.cmpi .ne v237 c0_i32_171
  let v242 : BitVec 1 := Scalar.andi v241 v238
  let v243 : BitVec 32 := Scalar.addi v237 v236
  let v244 : BitVec 32 := Scalar.select v242 v243 v237
  let c1_i32_175 : BitVec 32 := 1#32
  let v245 : BitVec 32 := Scalar.muli v244 c1_i32_175
  let v246 : BitVec 32 := Scalar.addi c0_i32_176 v245
  v246.toNat
def k0_dev18 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v255 : BitVec 32 := Scalar.addi v2 c4_i32
  let c8_i32_181 : BitVec 32 := 8#32
  let c0_i32_182 : BitVec 32 := 0#32
  let v256 : BitVec 1 := Scalar.cmpi .eq c8_i32_181 c0_i32_182
  let c1_i32_183 : BitVec 32 := 1#32
  let v257 : BitVec 32 := Scalar.select v256 c1_i32_183 c8_i32_181
  let v258 : BitVec 32 := Scalar.remsi v255 v257
  let c0_i32_185 : BitVec 32 := 0#32
  let v260 : BitVec 1 := Scalar.cmpi .slt v258 c0_i32_185
  let c0_i32_186 : BitVec 32 := 0#32
  let v261 : BitVec 1 := Scalar.cmpi .slt v257 c0_i32_186
  let v262 : BitVec 1 := Scalar.xori v260 v261
  let c0_i32_184 : BitVec 32 := 0#32
  let v259 : BitVec 1 := Scalar.cmpi .ne v258 c0_i32_184
  let v263 : BitVec 1 := Scalar.andi v262 v259
  let v264 : BitVec 32 := Scalar.addi v258 v257
  let v265 : BitVec 32 := Scalar.select v263 v264 v258
  let c1_i32_188 : BitVec 32 := 1#32
  let v266 : BitVec 32 := Scalar.muli v265 c1_i32_188
  let v267 : BitVec 32 := Scalar.addi c0_i32_189 v266
  v267.toNat
def k0_dev19 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v276 : BitVec 32 := Scalar.addi v2 c5_i32
  let c8_i32_194 : BitVec 32 := 8#32
  let c0_i32_195 : BitVec 32 := 0#32
  let v277 : BitVec 1 := Scalar.cmpi .eq c8_i32_194 c0_i32_195
  let c1_i32_196 : BitVec 32 := 1#32
  let v278 : BitVec 32 := Scalar.select v277 c1_i32_196 c8_i32_194
  let v279 : BitVec 32 := Scalar.remsi v276 v278
  let c0_i32_198 : BitVec 32 := 0#32
  let v281 : BitVec 1 := Scalar.cmpi .slt v279 c0_i32_198
  let c0_i32_199 : BitVec 32 := 0#32
  let v282 : BitVec 1 := Scalar.cmpi .slt v278 c0_i32_199
  let v283 : BitVec 1 := Scalar.xori v281 v282
  let c0_i32_197 : BitVec 32 := 0#32
  let v280 : BitVec 1 := Scalar.cmpi .ne v279 c0_i32_197
  let v284 : BitVec 1 := Scalar.andi v283 v280
  let v285 : BitVec 32 := Scalar.addi v279 v278
  let v286 : BitVec 32 := Scalar.select v284 v285 v279
  let c1_i32_201 : BitVec 32 := 1#32
  let v287 : BitVec 32 := Scalar.muli v286 c1_i32_201
  let v288 : BitVec 32 := Scalar.addi c0_i32_202 v287
  v288.toNat
def k0_dev20 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v297 : BitVec 32 := Scalar.addi v2 c6_i32
  let c8_i32_207 : BitVec 32 := 8#32
  let c0_i32_208 : BitVec 32 := 0#32
  let v298 : BitVec 1 := Scalar.cmpi .eq c8_i32_207 c0_i32_208
  let c1_i32_209 : BitVec 32 := 1#32
  let v299 : BitVec 32 := Scalar.select v298 c1_i32_209 c8_i32_207
  let v300 : BitVec 32 := Scalar.remsi v297 v299
  let c0_i32_211 : BitVec 32 := 0#32
  let v302 : BitVec 1 := Scalar.cmpi .slt v300 c0_i32_211
  let c0_i32_212 : BitVec 32 := 0#32
  let v303 : BitVec 1 := Scalar.cmpi .slt v299 c0_i32_212
  let v304 : BitVec 1 := Scalar.xori v302 v303
  let c0_i32_210 : BitVec 32 := 0#32
  let v301 : BitVec 1 := Scalar.cmpi .ne v300 c0_i32_210
  let v305 : BitVec 1 := Scalar.andi v304 v301
  let v306 : BitVec 32 := Scalar.addi v300 v299
  let v307 : BitVec 32 := Scalar.select v305 v306 v300
  let c1_i32_214 : BitVec 32 := 1#32
  let v308 : BitVec 32 := Scalar.muli v307 c1_i32_214
  let v309 : BitVec 32 := Scalar.addi c0_i32_215 v308
  v309.toNat
def k0_dev21 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_220 : BitVec 32 := 7#32
  let v318 : BitVec 32 := Scalar.addi v2 c7_i32_220
  let c8_i32_221 : BitVec 32 := 8#32
  let c0_i32_222 : BitVec 32 := 0#32
  let v319 : BitVec 1 := Scalar.cmpi .eq c8_i32_221 c0_i32_222
  let c1_i32_223 : BitVec 32 := 1#32
  let v320 : BitVec 32 := Scalar.select v319 c1_i32_223 c8_i32_221
  let v321 : BitVec 32 := Scalar.remsi v318 v320
  let c0_i32_225 : BitVec 32 := 0#32
  let v323 : BitVec 1 := Scalar.cmpi .slt v321 c0_i32_225
  let c0_i32_226 : BitVec 32 := 0#32
  let v324 : BitVec 1 := Scalar.cmpi .slt v320 c0_i32_226
  let v325 : BitVec 1 := Scalar.xori v323 v324
  let c0_i32_224 : BitVec 32 := 0#32
  let v322 : BitVec 1 := Scalar.cmpi .ne v321 c0_i32_224
  let v326 : BitVec 1 := Scalar.andi v325 v322
  let v327 : BitVec 32 := Scalar.addi v321 v320
  let v328 : BitVec 32 := Scalar.select v326 v327 v321
  let c1_i32_228 : BitVec 32 := 1#32
  let v329 : BitVec 32 := Scalar.muli v328 c1_i32_228
  let v330 : BitVec 32 := Scalar.addi c0_i32_229 v329
  v330.toNat
def k0_off19 (d0 : Dev nD) (c1_i32_234 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v339 : BitVec 32 := Scalar.addi v2 c1_i32_234
  let c8_i32_235 : BitVec 32 := 8#32
  let c0_i32_236 : BitVec 32 := 0#32
  let v340 : BitVec 1 := Scalar.cmpi .eq c8_i32_235 c0_i32_236
  let c1_i32_237 : BitVec 32 := 1#32
  let v341 : BitVec 32 := Scalar.select v340 c1_i32_237 c8_i32_235
  let v342 : BitVec 32 := Scalar.remsi v339 v341
  let c0_i32_239 : BitVec 32 := 0#32
  let v344 : BitVec 1 := Scalar.cmpi .slt v342 c0_i32_239
  let c0_i32_240 : BitVec 32 := 0#32
  let v345 : BitVec 1 := Scalar.cmpi .slt v341 c0_i32_240
  let v346 : BitVec 1 := Scalar.xori v344 v345
  let c0_i32_238 : BitVec 32 := 0#32
  let v343 : BitVec 1 := Scalar.cmpi .ne v342 c0_i32_238
  let v347 : BitVec 1 := Scalar.andi v346 v343
  let v348 : BitVec 32 := Scalar.addi v342 v341
  let v349 : BitVec 32 := Scalar.select v347 v348 v342
  ![v349.toNat]
def k0_off20 (d0 : Dev nD) (c1_i32_234 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v339 : BitVec 32 := Scalar.addi v2 c1_i32_234
  let c8_i32_235 : BitVec 32 := 8#32
  let c0_i32_236 : BitVec 32 := 0#32
  let v340 : BitVec 1 := Scalar.cmpi .eq c8_i32_235 c0_i32_236
  let c1_i32_237 : BitVec 32 := 1#32
  let v341 : BitVec 32 := Scalar.select v340 c1_i32_237 c8_i32_235
  let v342 : BitVec 32 := Scalar.remsi v339 v341
  let c0_i32_239 : BitVec 32 := 0#32
  let v344 : BitVec 1 := Scalar.cmpi .slt v342 c0_i32_239
  let c0_i32_240 : BitVec 32 := 0#32
  let v345 : BitVec 1 := Scalar.cmpi .slt v341 c0_i32_240
  let v346 : BitVec 1 := Scalar.xori v344 v345
  let c0_i32_238 : BitVec 32 := 0#32
  let v343 : BitVec 1 := Scalar.cmpi .ne v342 c0_i32_238
  let v347 : BitVec 1 := Scalar.andi v346 v343
  let v348 : BitVec 32 := Scalar.addi v342 v341
  let v349 : BitVec 32 := Scalar.select v347 v348 v342
  let c0_i32_244 : BitVec 32 := 0#32
  let c0_i32_245 : BitVec 32 := 0#32
  ![v349.toNat, 0, 0]
@[reducible] def k0_t3_loop : Scf.Loop 32 :=
  let c0_i32_453 : BitVec 32 := 0#32
  let c7_i32_454 : BitVec 32 := 7#32
  let v609 : BitVec 32 := Scalar.addi c0_i32_453 c7_i32_454
  let c1_i32_455 : BitVec 32 := 1#32
  ⟨c0_i32_453, v609, c1_i32_455⟩
def k0_off21 (k0_t3 : Fin k0_t3_loop.trips) (c0_i32_653 : BitVec 32) : Fin 3 → Nat :=
  let c0_i32_453 : BitVec 32 := 0#32
  let c1_i32_455 : BitVec 32 := 1#32
  let arg15 : BitVec 32 := Scf.iv c0_i32_453 c1_i32_455 k0_t3
  let c1_i32_639 : BitVec 32 := 1#32
  let v831 : BitVec 32 := Scalar.addi arg15 c1_i32_639
  let c2_i32_640 : BitVec 32 := 2#32
  let c0_i32_641 : BitVec 32 := 0#32
  let v832 : BitVec 1 := Scalar.cmpi .eq c2_i32_640 c0_i32_641
  let c1_i32_642 : BitVec 32 := 1#32
  let v833 : BitVec 32 := Scalar.select v832 c1_i32_642 c2_i32_640
  let v834 : BitVec 32 := Scalar.remsi v831 v833
  let c0_i32_644 : BitVec 32 := 0#32
  let v836 : BitVec 1 := Scalar.cmpi .slt v834 c0_i32_644
  let c0_i32_645 : BitVec 32 := 0#32
  let v837 : BitVec 1 := Scalar.cmpi .slt v833 c0_i32_645
  let v838 : BitVec 1 := Scalar.xori v836 v837
  let c0_i32_643 : BitVec 32 := 0#32
  let v835 : BitVec 1 := Scalar.cmpi .ne v834 c0_i32_643
  let v839 : BitVec 1 := Scalar.andi v838 v835
  let v840 : BitVec 32 := Scalar.addi v834 v833
  let v841 : BitVec 32 := Scalar.select v839 v840 v834
  let v847 : BitVec 32 := Scalar.addi c0_i32_653 v841
  let c0_i32_658 : BitVec 32 := 0#32
  let c0_i32_659 : BitVec 32 := 0#32
  ![v847.toNat, 0, 0]
def k0_off22 (k0_t3 : Fin k0_t3_loop.trips) (c0_i32_652 : BitVec 32) : Fin 3 → Nat :=
  let c0_i32_453 : BitVec 32 := 0#32
  let c1_i32_455 : BitVec 32 := 1#32
  let arg15 : BitVec 32 := Scf.iv c0_i32_453 c1_i32_455 k0_t3
  let c2_i32_633 : BitVec 32 := 2#32
  let c0_i32_634 : BitVec 32 := 0#32
  let v821 : BitVec 1 := Scalar.cmpi .eq c2_i32_633 c0_i32_634
  let c1_i32_635 : BitVec 32 := 1#32
  let v822 : BitVec 32 := Scalar.select v821 c1_i32_635 c2_i32_633
  let v823 : BitVec 32 := Scalar.remsi arg15 v822
  let c0_i32_637 : BitVec 32 := 0#32
  let v825 : BitVec 1 := Scalar.cmpi .slt v823 c0_i32_637
  let c0_i32_638 : BitVec 32 := 0#32
  let v826 : BitVec 1 := Scalar.cmpi .slt v822 c0_i32_638
  let v827 : BitVec 1 := Scalar.xori v825 v826
  let c0_i32_636 : BitVec 32 := 0#32
  let v824 : BitVec 1 := Scalar.cmpi .ne v823 c0_i32_636
  let v828 : BitVec 1 := Scalar.andi v827 v824
  let v829 : BitVec 32 := Scalar.addi v823 v822
  let v830 : BitVec 32 := Scalar.select v828 v829 v823
  let v846 : BitVec 32 := Scalar.addi c0_i32_652 v830
  let c0_i32_660 : BitVec 32 := 0#32
  let c0_i32_661 : BitVec 32 := 0#32
  ![v846.toNat, 0, 0]
def k0_dev22 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_656 : BitVec 32 := 1#32
  let v848 : BitVec 32 := Scalar.muli v25 c1_i32_656
  let v849 : BitVec 32 := Scalar.addi c0_i32_657 v848
  v849.toNat
def k0_dev23 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_666 : BitVec 32 := 1#32
  let v860 : BitVec 32 := Scalar.muli v14 c1_i32_666
  let v861 : BitVec 32 := Scalar.addi c0_i32_667 v860
  v861.toNat
def k0_cond4 (k0_t3 : Fin k0_t3_loop.trips) : BitVec 1 :=
  let c0_i32_453 : BitVec 32 := 0#32
  let c1_i32_455 : BitVec 32 := 1#32
  let arg15 : BitVec 32 := Scf.iv c0_i32_453 c1_i32_455 k0_t3
  let c1_i32_672 : BitVec 32 := 1#32
  let v870 : BitVec 1 := Scalar.cmpi .sgt arg15 c1_i32_672
  let v871 : BitVec 32 := Scalar.extui v870
  let c0_i32_673 : BitVec 32 := 0#32
  let v872 : BitVec 1 := Scalar.cmpi .ne v871 c0_i32_673
  v872

def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v26 : BitVec 32 := Scalar.addi v2 c1_i32_14
  let c8_i32_15 : BitVec 32 := 8#32
  let c0_i32_16 : BitVec 32 := 0#32
  let v27 : BitVec 1 := Scalar.cmpi .eq c8_i32_15 c0_i32_16
  let c1_i32_17 : BitVec 32 := 1#32
  let v28 : BitVec 32 := Scalar.select v27 c1_i32_17 c8_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c512_i32_708 : BitVec 32 := 512#32
  let v907 : BitVec 32 := Scalar.muli v36 c512_i32_708
  let c0_i32_710 : BitVec 32 := 0#32
  ![v907.toNat, 0]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_21 : BitVec 32 := 8#32
  let v37 : BitVec 32 := Scalar.addi v2 c8_i32_21
  let c1_i32_22 : BitVec 32 := 1#32
  let v38 : BitVec 32 := Scalar.subi v37 c1_i32_22
  let c8_i32_23 : BitVec 32 := 8#32
  let c0_i32_24 : BitVec 32 := 0#32
  let v39 : BitVec 1 := Scalar.cmpi .eq c8_i32_23 c0_i32_24
  let c1_i32_25 : BitVec 32 := 1#32
  let v40 : BitVec 32 := Scalar.select v39 c1_i32_25 c8_i32_23
  let v41 : BitVec 32 := Scalar.remsi v38 v40
  let c0_i32_27 : BitVec 32 := 0#32
  let v43 : BitVec 1 := Scalar.cmpi .slt v41 c0_i32_27
  let c0_i32_28 : BitVec 32 := 0#32
  let v44 : BitVec 1 := Scalar.cmpi .slt v40 c0_i32_28
  let v45 : BitVec 1 := Scalar.xori v43 v44
  let c0_i32_26 : BitVec 32 := 0#32
  let v42 : BitVec 1 := Scalar.cmpi .ne v41 c0_i32_26
  let v46 : BitVec 1 := Scalar.andi v45 v42
  let v47 : BitVec 32 := Scalar.addi v41 v40
  let v48 : BitVec 32 := Scalar.select v46 v47 v41
  let c512_i32_713 : BitVec 32 := 512#32
  let v912 : BitVec 32 := Scalar.muli v48 c512_i32_713
  let c2048_i32_715 : BitVec 32 := 2048#32
  ![v912.toNat, 2048]
def k0_cond5 (k0_t3 : Fin k0_t3_loop.trips) : BitVec 1 :=
  let c0_i32_453 : BitVec 32 := 0#32
  let c1_i32_455 : BitVec 32 := 1#32
  let arg15 : BitVec 32 := Scf.iv c0_i32_453 c1_i32_455 k0_t3
  let c0_i32_674 : BitVec 32 := 0#32
  let v873 : BitVec 1 := Scalar.cmpi .sgt arg15 c0_i32_674
  let v874 : BitVec 32 := Scalar.extui v873
  let c0_i32_675 : BitVec 32 := 0#32
  let v875 : BitVec 1 := Scalar.cmpi .ne v874 c0_i32_675
  v875

def k0_off25 (k0_t3 : Fin k0_t3_loop.trips) (c0_i32_708 : BitVec 32) : Fin 3 → Nat :=
  let c0_i32_453 : BitVec 32 := 0#32
  let c1_i32_455 : BitVec 32 := 1#32
  let arg15 : BitVec 32 := Scf.iv c0_i32_453 c1_i32_455 k0_t3
  let c2_i32_633 : BitVec 32 := 2#32
  let c0_i32_634 : BitVec 32 := 0#32
  let v821 : BitVec 1 := Scalar.cmpi .eq c2_i32_633 c0_i32_634
  let c1_i32_635 : BitVec 32 := 1#32
  let v822 : BitVec 32 := Scalar.select v821 c1_i32_635 c2_i32_633
  let v823 : BitVec 32 := Scalar.remsi arg15 v822
  let c0_i32_637 : BitVec 32 := 0#32
  let v825 : BitVec 1 := Scalar.cmpi .slt v823 c0_i32_637
  let c0_i32_638 : BitVec 32 := 0#32
  let v826 : BitVec 1 := Scalar.cmpi .slt v822 c0_i32_638
  let v827 : BitVec 1 := Scalar.xori v825 v826
  let c0_i32_636 : BitVec 32 := 0#32
  let v824 : BitVec 1 := Scalar.cmpi .ne v823 c0_i32_636
  let v828 : BitVec 1 := Scalar.andi v827 v824
  let v829 : BitVec 32 := Scalar.addi v823 v822
  let v830 : BitVec 32 := Scalar.select v828 v829 v823
  let v907 : BitVec 32 := Scalar.addi c0_i32_708 v830
  let v908 : Index := Scalar.indexCast v907
  let c0_709 : Index := 0#32
  let c0_710 : Index := 0#32
  ![v908.toNat, 0, 0]
def k0_off26 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_453 : BitVec 32 := 0#32
  let c1_i32_455 : BitVec 32 := 1#32
  let arg15 : BitVec 32 := Scf.iv c0_i32_453 c1_i32_455 k0_t3
  let c1_i32_718 : BitVec 32 := 1#32
  let v927 : BitVec 32 := Scalar.subi arg15 c1_i32_718
  let v928 : BitVec 32 := Scalar.subi v2 v927
  let c8_i32_719 : BitVec 32 := 8#32
  let c0_i32_720 : BitVec 32 := 0#32
  let v929 : BitVec 1 := Scalar.cmpi .eq c8_i32_719 c0_i32_720
  let c1_i32_721 : BitVec 32 := 1#32
  let v930 : BitVec 32 := Scalar.select v929 c1_i32_721 c8_i32_719
  let v931 : BitVec 32 := Scalar.remsi v928 v930
  let c0_i32_723 : BitVec 32 := 0#32
  let v933 : BitVec 1 := Scalar.cmpi .slt v931 c0_i32_723
  let c0_i32_724 : BitVec 32 := 0#32
  let v934 : BitVec 1 := Scalar.cmpi .slt v930 c0_i32_724
  let v935 : BitVec 1 := Scalar.xori v933 v934
  let c0_i32_722 : BitVec 32 := 0#32
  let v932 : BitVec 1 := Scalar.cmpi .ne v931 c0_i32_722
  let v936 : BitVec 1 := Scalar.andi v935 v932
  let v937 : BitVec 32 := Scalar.addi v931 v930
  let v938 : BitVec 32 := Scalar.select v936 v937 v931
  let c512_i32_732 : BitVec 32 := 512#32
  let v951 : BitVec 32 := Scalar.muli v938 c512_i32_732
  let c0_i32_734 : BitVec 32 := 0#32
  ![v951.toNat, 0]
def k0_off27 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_453 : BitVec 32 := 0#32
  let c1_i32_455 : BitVec 32 := 1#32
  let arg15 : BitVec 32 := Scf.iv c0_i32_453 c1_i32_455 k0_t3
  let c1_i32_725 : BitVec 32 := 1#32
  let v939 : BitVec 32 := Scalar.subi arg15 c1_i32_725
  let v940 : BitVec 32 := Scalar.addi v2 v939
  let c8_i32_726 : BitVec 32 := 8#32
  let c0_i32_727 : BitVec 32 := 0#32
  let v941 : BitVec 1 := Scalar.cmpi .eq c8_i32_726 c0_i32_727
  let c1_i32_728 : BitVec 32 := 1#32
  let v942 : BitVec 32 := Scalar.select v941 c1_i32_728 c8_i32_726
  let v943 : BitVec 32 := Scalar.remsi v940 v942
  let c0_i32_730 : BitVec 32 := 0#32
  let v945 : BitVec 1 := Scalar.cmpi .slt v943 c0_i32_730
  let c0_i32_731 : BitVec 32 := 0#32
  let v946 : BitVec 1 := Scalar.cmpi .slt v942 c0_i32_731
  let v947 : BitVec 1 := Scalar.xori v945 v946
  let c0_i32_729 : BitVec 32 := 0#32
  let v944 : BitVec 1 := Scalar.cmpi .ne v943 c0_i32_729
  let v948 : BitVec 1 := Scalar.andi v947 v944
  let v949 : BitVec 32 := Scalar.addi v943 v942
  let v950 : BitVec 32 := Scalar.select v948 v949 v943
  let c512_i32_737 : BitVec 32 := 512#32
  let v956 : BitVec 32 := Scalar.muli v950 c512_i32_737
  let c2048_i32_739 : BitVec 32 := 2048#32
  ![v956.toNat, 2048]
def k0_cond6 (k0_t3 : Fin k0_t3_loop.trips) : BitVec 1 :=
  let c0_i32_453 : BitVec 32 := 0#32
  let c1_i32_455 : BitVec 32 := 1#32
  let arg15 : BitVec 32 := Scf.iv c0_i32_453 c1_i32_455 k0_t3
  let c6_i32_706 : BitVec 32 := 6#32
  let v904 : BitVec 1 := Scalar.cmpi .slt arg15 c6_i32_706
  let v905 : BitVec 32 := Scalar.extui v904
  let c0_i32_707 : BitVec 32 := 0#32
  let v906 : BitVec 1 := Scalar.cmpi .ne v905 c0_i32_707
  v906

def k0_dev24 (d0 : Dev nD) : Nat :=
  let c0_i32_711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_710 : BitVec 32 := 1#32
  let v909 : BitVec 32 := Scalar.muli v14 c1_i32_710
  let v910 : BitVec 32 := Scalar.addi c0_i32_711 v909
  v910.toNat
def k0_dev25 (d0 : Dev nD) : Nat :=
  let c0_i32_715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_714 : BitVec 32 := 1#32
  let v913 : BitVec 32 := Scalar.muli v25 c1_i32_714
  let v914 : BitVec 32 := Scalar.addi c0_i32_715 v913
  v914.toNat
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_477 : BitVec 32 := 6#32
  let v636 : BitVec 32 := Scalar.subi v2 c6_i32_477
  let c8_i32_478 : BitVec 32 := 8#32
  let c0_i32_479 : BitVec 32 := 0#32
  let v637 : BitVec 1 := Scalar.cmpi .eq c8_i32_478 c0_i32_479
  let c1_i32_480 : BitVec 32 := 1#32
  let v638 : BitVec 32 := Scalar.select v637 c1_i32_480 c8_i32_478
  let v639 : BitVec 32 := Scalar.remsi v636 v638
  let c0_i32_482 : BitVec 32 := 0#32
  let v641 : BitVec 1 := Scalar.cmpi .slt v639 c0_i32_482
  let c0_i32_483 : BitVec 32 := 0#32
  let v642 : BitVec 1 := Scalar.cmpi .slt v638 c0_i32_483
  let v643 : BitVec 1 := Scalar.xori v641 v642
  let c0_i32_481 : BitVec 32 := 0#32
  let v640 : BitVec 1 := Scalar.cmpi .ne v639 c0_i32_481
  let v644 : BitVec 1 := Scalar.andi v643 v640
  let v645 : BitVec 32 := Scalar.addi v639 v638
  let v646 : BitVec 32 := Scalar.select v644 v645 v639
  let c512_i32_491 : BitVec 32 := 512#32
  let v658 : BitVec 32 := Scalar.muli v646 c512_i32_491
  let c0_i32_493 : BitVec 32 := 0#32
  ![v658.toNat, 0]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_484 : BitVec 32 := 6#32
  let v647 : BitVec 32 := Scalar.addi v2 c6_i32_484
  let c8_i32_485 : BitVec 32 := 8#32
  let c0_i32_486 : BitVec 32 := 0#32
  let v648 : BitVec 1 := Scalar.cmpi .eq c8_i32_485 c0_i32_486
  let c1_i32_487 : BitVec 32 := 1#32
  let v649 : BitVec 32 := Scalar.select v648 c1_i32_487 c8_i32_485
  let v650 : BitVec 32 := Scalar.remsi v647 v649
  let c0_i32_489 : BitVec 32 := 0#32
  let v652 : BitVec 1 := Scalar.cmpi .slt v650 c0_i32_489
  let c0_i32_490 : BitVec 32 := 0#32
  let v653 : BitVec 1 := Scalar.cmpi .slt v649 c0_i32_490
  let v654 : BitVec 1 := Scalar.xori v652 v653
  let c0_i32_488 : BitVec 32 := 0#32
  let v651 : BitVec 1 := Scalar.cmpi .ne v650 c0_i32_488
  let v655 : BitVec 1 := Scalar.andi v654 v651
  let v656 : BitVec 32 := Scalar.addi v650 v649
  let v657 : BitVec 32 := Scalar.select v655 v656 v650
  let c512_i32_496 : BitVec 32 := 512#32
  let v663 : BitVec 32 := Scalar.muli v657 c512_i32_496
  let c2048_i32_498 : BitVec 32 := 2048#32
  ![v663.toNat, 2048]
def k0_dev26 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_503 : BitVec 32 := 1#32
  let v670 : BitVec 32 := Scalar.muli v14 c1_i32_503
  let v671 : BitVec 32 := Scalar.addi c0_i32_504 v670
  v671.toNat
def k0_dev27 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_507 : BitVec 32 := 1#32
  let v674 : BitVec 32 := Scalar.muli v25 c1_i32_507
  let v675 : BitVec 32 := Scalar.addi c0_i32_508 v674
  v675.toNat
@[reducible] def k0_t4_loop : Scf.Loop 32 :=
  let c0_i32_575 : BitVec 32 := 0#32
  let c7_i32_576 : BitVec 32 := 7#32
  let v752 : BitVec 32 := Scalar.addi c0_i32_575 c7_i32_576
  let c1_i32_577 : BitVec 32 := 1#32
  ⟨c0_i32_575, v752, c1_i32_577⟩
def k0_off30 (k0_t4 : Fin k0_t4_loop.trips) (c0_i32_653 : BitVec 32) : Fin 3 → Nat :=
  let c0_i32_575 : BitVec 32 := 0#32
  let c1_i32_577 : BitVec 32 := 1#32
  let arg15 : BitVec 32 := Scf.iv c0_i32_575 c1_i32_577 k0_t4
  let c1_i32_639 : BitVec 32 := 1#32
  let v831 : BitVec 32 := Scalar.addi arg15 c1_i32_639
  let c2_i32_640 : BitVec 32 := 2#32
  let c0_i32_641 : BitVec 32 := 0#32
  let v832 : BitVec 1 := Scalar.cmpi .eq c2_i32_640 c0_i32_641
  let c1_i32_642 : BitVec 32 := 1#32
  let v833 : BitVec 32 := Scalar.select v832 c1_i32_642 c2_i32_640
  let v834 : BitVec 32 := Scalar.remsi v831 v833
  let c0_i32_644 : BitVec 32 := 0#32
  let v836 : BitVec 1 := Scalar.cmpi .slt v834 c0_i32_644
  let c0_i32_645 : BitVec 32 := 0#32
  let v837 : BitVec 1 := Scalar.cmpi .slt v833 c0_i32_645
  let v838 : BitVec 1 := Scalar.xori v836 v837
  let c0_i32_643 : BitVec 32 := 0#32
  let v835 : BitVec 1 := Scalar.cmpi .ne v834 c0_i32_643
  let v839 : BitVec 1 := Scalar.andi v838 v835
  let v840 : BitVec 32 := Scalar.addi v834 v833
  let v841 : BitVec 32 := Scalar.select v839 v840 v834
  let v847 : BitVec 32 := Scalar.addi c0_i32_653 v841
  let c0_i32_658 : BitVec 32 := 0#32
  let c0_i32_659 : BitVec 32 := 0#32
  ![v847.toNat, 0, 0]
def k0_off31 (k0_t4 : Fin k0_t4_loop.trips) (c0_i32_652 : BitVec 32) : Fin 3 → Nat :=
  let c0_i32_575 : BitVec 32 := 0#32
  let c1_i32_577 : BitVec 32 := 1#32
  let arg15 : BitVec 32 := Scf.iv c0_i32_575 c1_i32_577 k0_t4
  let c2_i32_633 : BitVec 32 := 2#32
  let c0_i32_634 : BitVec 32 := 0#32
  let v821 : BitVec 1 := Scalar.cmpi .eq c2_i32_633 c0_i32_634
  let c1_i32_635 : BitVec 32 := 1#32
  let v822 : BitVec 32 := Scalar.select v821 c1_i32_635 c2_i32_633
  let v823 : BitVec 32 := Scalar.remsi arg15 v822
  let c0_i32_637 : BitVec 32 := 0#32
  let v825 : BitVec 1 := Scalar.cmpi .slt v823 c0_i32_637
  let c0_i32_638 : BitVec 32 := 0#32
  let v826 : BitVec 1 := Scalar.cmpi .slt v822 c0_i32_638
  let v827 : BitVec 1 := Scalar.xori v825 v826
  let c0_i32_636 : BitVec 32 := 0#32
  let v824 : BitVec 1 := Scalar.cmpi .ne v823 c0_i32_636
  let v828 : BitVec 1 := Scalar.andi v827 v824
  let v829 : BitVec 32 := Scalar.addi v823 v822
  let v830 : BitVec 32 := Scalar.select v828 v829 v823
  let v846 : BitVec 32 := Scalar.addi c0_i32_652 v830
  let c0_i32_660 : BitVec 32 := 0#32
  let c0_i32_661 : BitVec 32 := 0#32
  ![v846.toNat, 0, 0]
def k0_dev28 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_656 : BitVec 32 := 1#32
  let v848 : BitVec 32 := Scalar.muli v25 c1_i32_656
  let v849 : BitVec 32 := Scalar.addi c0_i32_657 v848
  v849.toNat
def k0_dev29 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_666 : BitVec 32 := 1#32
  let v860 : BitVec 32 := Scalar.muli v14 c1_i32_666
  let v861 : BitVec 32 := Scalar.addi c0_i32_667 v860
  v861.toNat
def k0_cond7 (k0_t4 : Fin k0_t4_loop.trips) : BitVec 1 :=
  let c0_i32_575 : BitVec 32 := 0#32
  let c1_i32_577 : BitVec 32 := 1#32
  let arg15 : BitVec 32 := Scf.iv c0_i32_575 c1_i32_577 k0_t4
  let c1_i32_672 : BitVec 32 := 1#32
  let v870 : BitVec 1 := Scalar.cmpi .sgt arg15 c1_i32_672
  let v871 : BitVec 32 := Scalar.extui v870
  let c0_i32_673 : BitVec 32 := 0#32
  let v872 : BitVec 1 := Scalar.cmpi .ne v871 c0_i32_673
  v872

def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v26 : BitVec 32 := Scalar.addi v2 c1_i32_14
  let c8_i32_15 : BitVec 32 := 8#32
  let c0_i32_16 : BitVec 32 := 0#32
  let v27 : BitVec 1 := Scalar.cmpi .eq c8_i32_15 c0_i32_16
  let c1_i32_17 : BitVec 32 := 1#32
  let v28 : BitVec 32 := Scalar.select v27 c1_i32_17 c8_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c512_i32_708 : BitVec 32 := 512#32
  let v907 : BitVec 32 := Scalar.muli v36 c512_i32_708
  let c4096_i32_710 : BitVec 32 := 4096#32
  ![v907.toNat, 4096]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_21 : BitVec 32 := 8#32
  let v37 : BitVec 32 := Scalar.addi v2 c8_i32_21
  let c1_i32_22 : BitVec 32 := 1#32
  let v38 : BitVec 32 := Scalar.subi v37 c1_i32_22
  let c8_i32_23 : BitVec 32 := 8#32
  let c0_i32_24 : BitVec 32 := 0#32
  let v39 : BitVec 1 := Scalar.cmpi .eq c8_i32_23 c0_i32_24
  let c1_i32_25 : BitVec 32 := 1#32
  let v40 : BitVec 32 := Scalar.select v39 c1_i32_25 c8_i32_23
  let v41 : BitVec 32 := Scalar.remsi v38 v40
  let c0_i32_27 : BitVec 32 := 0#32
  let v43 : BitVec 1 := Scalar.cmpi .slt v41 c0_i32_27
  let c0_i32_28 : BitVec 32 := 0#32
  let v44 : BitVec 1 := Scalar.cmpi .slt v40 c0_i32_28
  let v45 : BitVec 1 := Scalar.xori v43 v44
  let c0_i32_26 : BitVec 32 := 0#32
  let v42 : BitVec 1 := Scalar.cmpi .ne v41 c0_i32_26
  let v46 : BitVec 1 := Scalar.andi v45 v42
  let v47 : BitVec 32 := Scalar.addi v41 v40
  let v48 : BitVec 32 := Scalar.select v46 v47 v41
  let c512_i32_713 : BitVec 32 := 512#32
  let v912 : BitVec 32 := Scalar.muli v48 c512_i32_713
  let c6144_i32_715 : BitVec 32 := 6144#32
  ![v912.toNat, 6144]
def k0_cond8 (k0_t4 : Fin k0_t4_loop.trips) : BitVec 1 :=
  let c0_i32_575 : BitVec 32 := 0#32
  let c1_i32_577 : BitVec 32 := 1#32
  let arg15 : BitVec 32 := Scf.iv c0_i32_575 c1_i32_577 k0_t4
  let c0_i32_674 : BitVec 32 := 0#32
  let v873 : BitVec 1 := Scalar.cmpi .sgt arg15 c0_i32_674
  let v874 : BitVec 32 := Scalar.extui v873
  let c0_i32_675 : BitVec 32 := 0#32
  let v875 : BitVec 1 := Scalar.cmpi .ne v874 c0_i32_675
  v875

def k0_off34 (k0_t4 : Fin k0_t4_loop.trips) (c0_i32_708 : BitVec 32) : Fin 3 → Nat :=
  let c0_i32_575 : BitVec 32 := 0#32
  let c1_i32_577 : BitVec 32 := 1#32
  let arg15 : BitVec 32 := Scf.iv c0_i32_575 c1_i32_577 k0_t4
  let c2_i32_633 : BitVec 32 := 2#32
  let c0_i32_634 : BitVec 32 := 0#32
  let v821 : BitVec 1 := Scalar.cmpi .eq c2_i32_633 c0_i32_634
  let c1_i32_635 : BitVec 32 := 1#32
  let v822 : BitVec 32 := Scalar.select v821 c1_i32_635 c2_i32_633
  let v823 : BitVec 32 := Scalar.remsi arg15 v822
  let c0_i32_637 : BitVec 32 := 0#32
  let v825 : BitVec 1 := Scalar.cmpi .slt v823 c0_i32_637
  let c0_i32_638 : BitVec 32 := 0#32
  let v826 : BitVec 1 := Scalar.cmpi .slt v822 c0_i32_638
  let v827 : BitVec 1 := Scalar.xori v825 v826
  let c0_i32_636 : BitVec 32 := 0#32
  let v824 : BitVec 1 := Scalar.cmpi .ne v823 c0_i32_636
  let v828 : BitVec 1 := Scalar.andi v827 v824
  let v829 : BitVec 32 := Scalar.addi v823 v822
  let v830 : BitVec 32 := Scalar.select v828 v829 v823
  let v907 : BitVec 32 := Scalar.addi c0_i32_708 v830
  let v908 : Index := Scalar.indexCast v907
  let c0_709 : Index := 0#32
  let c0_710 : Index := 0#32
  ![v908.toNat, 0, 0]
def k0_off35 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_575 : BitVec 32 := 0#32
  let c1_i32_577 : BitVec 32 := 1#32
  let arg15 : BitVec 32 := Scf.iv c0_i32_575 c1_i32_577 k0_t4
  let c1_i32_718 : BitVec 32 := 1#32
  let v927 : BitVec 32 := Scalar.subi arg15 c1_i32_718
  let v928 : BitVec 32 := Scalar.subi v2 v927
  let c8_i32_719 : BitVec 32 := 8#32
  let c0_i32_720 : BitVec 32 := 0#32
  let v929 : BitVec 1 := Scalar.cmpi .eq c8_i32_719 c0_i32_720
  let c1_i32_721 : BitVec 32 := 1#32
  let v930 : BitVec 32 := Scalar.select v929 c1_i32_721 c8_i32_719
  let v931 : BitVec 32 := Scalar.remsi v928 v930
  let c0_i32_723 : BitVec 32 := 0#32
  let v933 : BitVec 1 := Scalar.cmpi .slt v931 c0_i32_723
  let c0_i32_724 : BitVec 32 := 0#32
  let v934 : BitVec 1 := Scalar.cmpi .slt v930 c0_i32_724
  let v935 : BitVec 1 := Scalar.xori v933 v934
  let c0_i32_722 : BitVec 32 := 0#32
  let v932 : BitVec 1 := Scalar.cmpi .ne v931 c0_i32_722
  let v936 : BitVec 1 := Scalar.andi v935 v932
  let v937 : BitVec 32 := Scalar.addi v931 v930
  let v938 : BitVec 32 := Scalar.select v936 v937 v931
  let c512_i32_732 : BitVec 32 := 512#32
  let v951 : BitVec 32 := Scalar.muli v938 c512_i32_732
  let c4096_i32_734 : BitVec 32 := 4096#32
  ![v951.toNat, 4096]
def k0_off36 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_575 : BitVec 32 := 0#32
  let c1_i32_577 : BitVec 32 := 1#32
  let arg15 : BitVec 32 := Scf.iv c0_i32_575 c1_i32_577 k0_t4
  let c1_i32_725 : BitVec 32 := 1#32
  let v939 : BitVec 32 := Scalar.subi arg15 c1_i32_725
  let v940 : BitVec 32 := Scalar.addi v2 v939
  let c8_i32_726 : BitVec 32 := 8#32
  let c0_i32_727 : BitVec 32 := 0#32
  let v941 : BitVec 1 := Scalar.cmpi .eq c8_i32_726 c0_i32_727
  let c1_i32_728 : BitVec 32 := 1#32
  let v942 : BitVec 32 := Scalar.select v941 c1_i32_728 c8_i32_726
  let v943 : BitVec 32 := Scalar.remsi v940 v942
  let c0_i32_730 : BitVec 32 := 0#32
  let v945 : BitVec 1 := Scalar.cmpi .slt v943 c0_i32_730
  let c0_i32_731 : BitVec 32 := 0#32
  let v946 : BitVec 1 := Scalar.cmpi .slt v942 c0_i32_731
  let v947 : BitVec 1 := Scalar.xori v945 v946
  let c0_i32_729 : BitVec 32 := 0#32
  let v944 : BitVec 1 := Scalar.cmpi .ne v943 c0_i32_729
  let v948 : BitVec 1 := Scalar.andi v947 v944
  let v949 : BitVec 32 := Scalar.addi v943 v942
  let v950 : BitVec 32 := Scalar.select v948 v949 v943
  let c512_i32_737 : BitVec 32 := 512#32
  let v956 : BitVec 32 := Scalar.muli v950 c512_i32_737
  let c6144_i32_739 : BitVec 32 := 6144#32
  ![v956.toNat, 6144]
def k0_cond9 (k0_t4 : Fin k0_t4_loop.trips) : BitVec 1 :=
  let c0_i32_575 : BitVec 32 := 0#32
  let c1_i32_577 : BitVec 32 := 1#32
  let arg15 : BitVec 32 := Scf.iv c0_i32_575 c1_i32_577 k0_t4
  let c6_i32_706 : BitVec 32 := 6#32
  let v904 : BitVec 1 := Scalar.cmpi .slt arg15 c6_i32_706
  let v905 : BitVec 32 := Scalar.extui v904
  let c0_i32_707 : BitVec 32 := 0#32
  let v906 : BitVec 1 := Scalar.cmpi .ne v905 c0_i32_707
  v906

def k0_dev30 (d0 : Dev nD) : Nat :=
  let c0_i32_711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_710 : BitVec 32 := 1#32
  let v909 : BitVec 32 := Scalar.muli v14 c1_i32_710
  let v910 : BitVec 32 := Scalar.addi c0_i32_711 v909
  v910.toNat
def k0_dev31 (d0 : Dev nD) : Nat :=
  let c0_i32_715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_714 : BitVec 32 := 1#32
  let v913 : BitVec 32 := Scalar.muli v25 c1_i32_714
  let v914 : BitVec 32 := Scalar.addi c0_i32_715 v913
  v914.toNat
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_599 : BitVec 32 := 6#32
  let v779 : BitVec 32 := Scalar.subi v2 c6_i32_599
  let c8_i32_600 : BitVec 32 := 8#32
  let c0_i32_601 : BitVec 32 := 0#32
  let v780 : BitVec 1 := Scalar.cmpi .eq c8_i32_600 c0_i32_601
  let c1_i32_602 : BitVec 32 := 1#32
  let v781 : BitVec 32 := Scalar.select v780 c1_i32_602 c8_i32_600
  let v782 : BitVec 32 := Scalar.remsi v779 v781
  let c0_i32_604 : BitVec 32 := 0#32
  let v784 : BitVec 1 := Scalar.cmpi .slt v782 c0_i32_604
  let c0_i32_605 : BitVec 32 := 0#32
  let v785 : BitVec 1 := Scalar.cmpi .slt v781 c0_i32_605
  let v786 : BitVec 1 := Scalar.xori v784 v785
  let c0_i32_603 : BitVec 32 := 0#32
  let v783 : BitVec 1 := Scalar.cmpi .ne v782 c0_i32_603
  let v787 : BitVec 1 := Scalar.andi v786 v783
  let v788 : BitVec 32 := Scalar.addi v782 v781
  let v789 : BitVec 32 := Scalar.select v787 v788 v782
  let c512_i32_613 : BitVec 32 := 512#32
  let v801 : BitVec 32 := Scalar.muli v789 c512_i32_613
  let c4096_i32_615 : BitVec 32 := 4096#32
  ![v801.toNat, 4096]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_606 : BitVec 32 := 6#32
  let v790 : BitVec 32 := Scalar.addi v2 c6_i32_606
  let c8_i32_607 : BitVec 32 := 8#32
  let c0_i32_608 : BitVec 32 := 0#32
  let v791 : BitVec 1 := Scalar.cmpi .eq c8_i32_607 c0_i32_608
  let c1_i32_609 : BitVec 32 := 1#32
  let v792 : BitVec 32 := Scalar.select v791 c1_i32_609 c8_i32_607
  let v793 : BitVec 32 := Scalar.remsi v790 v792
  let c0_i32_611 : BitVec 32 := 0#32
  let v795 : BitVec 1 := Scalar.cmpi .slt v793 c0_i32_611
  let c0_i32_612 : BitVec 32 := 0#32
  let v796 : BitVec 1 := Scalar.cmpi .slt v792 c0_i32_612
  let v797 : BitVec 1 := Scalar.xori v795 v796
  let c0_i32_610 : BitVec 32 := 0#32
  let v794 : BitVec 1 := Scalar.cmpi .ne v793 c0_i32_610
  let v798 : BitVec 1 := Scalar.andi v797 v794
  let v799 : BitVec 32 := Scalar.addi v793 v792
  let v800 : BitVec 32 := Scalar.select v798 v799 v793
  let c512_i32_618 : BitVec 32 := 512#32
  let v806 : BitVec 32 := Scalar.muli v800 c512_i32_618
  let c6144_i32_620 : BitVec 32 := 6144#32
  ![v806.toNat, 6144]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .local _ .vmem, ⟨0, _⟩ => ⟨S4096x4096, .f32⟩
  | .local _ .vmem, ⟨1, _⟩ => ⟨S4096x8192, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Forms.lean ====
/- The ring's arithmetic: neighbours of a device in both directions, and what the kernel's offsets, device
   ids and conditions are in these terms. -/
module

public import proofs.«01_k».proof.Proof.Gen.KernelIdeal

@[expose] public section

namespace Cert.Proof.KI

open Cert.KernelIdeal
open Idealize.ShloMosaic

/-- The device that direction `d` sends to: the right neighbour for `0`, the left one for `1`. -/
def nx (d : Fin 2) (c : Dev nD) : Dev nD := if d = 0 then c + 1 else c - 1

/-- The device that direction `d` receives from. -/
def pv (d : Fin 2) (c : Dev nD) : Dev nD := if d = 0 then c - 1 else c + 1

/-- The device `t` hops upstream of `c` in direction `d`. -/
def up (d : Fin 2) (t : Nat) (c : Dev nD) : Dev nD := (pv d)^[t] c

/-- The slot of direction `d` at step `p`: two slots per direction, in turn. -/
def sl (d : Fin 2) (p : Nat) : Fin 4 := ⟨2 * d.val + p % 2, by omega⟩

theorem sl_add_two (d : Fin 2) (p : Nat) : sl d (p + 2) = sl d p := by
  unfold sl; exact Fin.ext (by simp)
theorem sl_congr (d : Fin 2) {p q : Nat} (h : p % 2 = q % 2) : sl d p = sl d q := by
  unfold sl; exact Fin.ext (by simp [h])

theorem nx_pv (d : Fin 2) (c : Dev nD) : nx d (pv d c) = c := by revert d c; decide
theorem pv_nx (d : Fin 2) (c : Dev nD) : pv d (nx d c) = c := by revert d c; decide
theorem up_zero (d : Fin 2) (c : Dev nD) : up d 0 c = c := rfl
theorem up_succ (d : Fin 2) (t : Nat) (c : Dev nD) : up d (t + 1) c = up d t (pv d c) := rfl
theorem up_succ' (d : Fin 2) (t : Nat) (c : Dev nD) : up d (t + 1) c = pv d (up d t c) := by
  unfold up; rw [Function.iterate_succ_apply']
theorem up_seven (d : Fin 2) (c : Dev nD) : up d 7 c = nx d c := by revert d c; decide
theorem up_nx (d : Fin 2) (t : Nat) (c : Dev nD) : up d (t + 1) (nx d c) = up d t c := by
  rw [up_succ, pv_nx]

theorem dev1 : ∀ c, (k0_dev1 c) = (pv 0 c).val := by decide +kernel
theorem dev2 : ∀ c, (k0_dev2 c) = (pv 1 c).val := by decide +kernel
theorem dev3 : ∀ c, (k0_dev3 c) = (nx 0 c).val := by decide +kernel
theorem dev4 : ∀ c, (k0_dev4 c) = (nx 1 c).val := by decide +kernel
theorem dev5 : ∀ c, (k0_dev5 c) = (pv 0 c).val := by decide +kernel
theorem dev6 : ∀ c, (k0_dev6 c) = (pv 1 c).val := by decide +kernel
theorem dev7 : ∀ c, (k0_dev7 c) = (pv 0 c).val := by decide +kernel
theorem dev8 : ∀ c, (k0_dev8 c) = (pv 1 c).val := by decide +kernel
theorem dev9 : ∀ c, (k0_dev9 c) = (nx 0 c).val := by decide +kernel
theorem dev10 : ∀ c, (k0_dev10 c) = (nx 1 c).val := by decide +kernel
theorem dev11 : ∀ c, (k0_dev11 c) = (pv 0 c).val := by decide +kernel
theorem dev12 : ∀ c, (k0_dev12 c) = (pv 1 c).val := by decide +kernel
theorem dev13 : ∀ c, (k0_dev13 c) = (pv 0 c).val := by decide +kernel
theorem dev14 : ∀ c, (k0_dev14 c) = (pv 1 c).val := by decide +kernel
theorem dev15 : ∀ c : Dev nD, (k0_dev15 c) = (c + 1).val := by decide +kernel
theorem dev16 : ∀ c : Dev nD, (k0_dev16 c) = (c + 2).val := by decide +kernel
theorem dev17 : ∀ c : Dev nD, (k0_dev17 c) = (c + 3).val := by decide +kernel
theorem dev18 : ∀ c : Dev nD, (k0_dev18 c) = (c + 4).val := by decide +kernel
theorem dev19 : ∀ c : Dev nD, (k0_dev19 c) = (c + 5).val := by decide +kernel
theorem dev20 : ∀ c : Dev nD, (k0_dev20 c) = (c + 6).val := by decide +kernel
theorem dev21 : ∀ c : Dev nD, (k0_dev21 c) = (c + 7).val := by decide +kernel
theorem dev22 : ∀ c, (k0_dev22 c) = (nx 0 c).val := by decide +kernel
theorem dev23 : ∀ c, (k0_dev23 c) = (nx 1 c).val := by decide +kernel
theorem dev24 : ∀ c, (k0_dev24 c) = (pv 0 c).val := by decide +kernel
theorem dev25 : ∀ c, (k0_dev25 c) = (pv 1 c).val := by decide +kernel
theorem dev26 : ∀ c, (k0_dev26 c) = (pv 0 c).val := by decide +kernel
theorem dev27 : ∀ c, (k0_dev27 c) = (pv 1 c).val := by decide +kernel
theorem dev28 : ∀ c, (k0_dev28 c) = (nx 0 c).val := by decide +kernel
theorem dev29 : ∀ c, (k0_dev29 c) = (nx 1 c).val := by decide +kernel
theorem dev30 : ∀ c, (k0_dev30 c) = (pv 0 c).val := by decide +kernel
theorem dev31 : ∀ c, (k0_dev31 c) = (pv 1 c).val := by decide +kernel

theorem off1 : ∀ c : Dev nD, k0_off1 c = ![512 * c.val, 0] := by decide +kernel
theorem off2a : ∀ t, k0_off2 t 0#32 = ![(sl 0 (t.val + 1)).val, 0, 0] := by decide +kernel
theorem off2b : ∀ t, k0_off2 t 2#32 = ![(sl 1 (t.val + 1)).val, 0, 0] := by decide +kernel
theorem off3a : ∀ t, k0_off3 t 0#32 = ![(sl 0 t.val).val, 0, 0] := by decide +kernel
theorem off3b : ∀ t, k0_off3 t 2#32 = ![(sl 1 t.val).val, 0, 0] := by decide +kernel
theorem off4 : ∀ c t, k0_off4 c t = ![512 * (up 0 (t.val + 1) c).val, 0] := by decide +kernel
theorem off5 : ∀ c t, k0_off5 c t = ![512 * (up 1 (t.val + 1) c).val, 0] := by decide +kernel
theorem off6a : ∀ t, k0_off6 t 0#32 = ![(sl 0 (t.val + 1)).val, 0, 0] := by decide +kernel
theorem off6b : ∀ t, k0_off6 t 2#32 = ![(sl 1 (t.val + 1)).val, 0, 0] := by decide +kernel
theorem off7 : ∀ c, k0_off7 c = ![512 * (nx 0 c).val, 0] := by decide +kernel
theorem off8 : ∀ c, k0_off8 c = ![512 * (nx 1 c).val, 2048] := by decide +kernel
theorem off9a : ∀ t, k0_off9 t 0#32 = ![(sl 0 (t.val + 1)).val, 0, 0] := by decide +kernel
theorem off9b : ∀ t, k0_off9 t 2#32 = ![(sl 1 (t.val + 1)).val, 0, 0] := by decide +kernel
theorem off10a : ∀ t, k0_off10 t 0#32 = ![(sl 0 t.val).val, 0, 0] := by decide +kernel
theorem off10b : ∀ t, k0_off10 t 2#32 = ![(sl 1 t.val).val, 0, 0] := by decide +kernel
theorem off11 : ∀ c t, k0_off11 c t = ![512 * (up 0 (t.val + 1) c).val, 0] := by decide +kernel
theorem off12 : ∀ c t, k0_off12 c t = ![512 * (up 1 (t.val + 1) c).val, 0] := by decide +kernel
theorem off13a : ∀ t, k0_off13 t 0#32 = ![(sl 0 (t.val + 1)).val, 0, 0] := by decide +kernel
theorem off13b : ∀ t, k0_off13 t 2#32 = ![(sl 1 (t.val + 1)).val, 0, 0] := by decide +kernel
theorem off14 : ∀ c, k0_off14 c = ![512 * (nx 0 c).val, 4096] := by decide +kernel
theorem off15 : ∀ c, k0_off15 c = ![512 * (nx 1 c).val, 6144] := by decide +kernel
theorem off16 : ∀ c : Dev nD, k0_off16 c = ![c.val, 0, 0] := by decide +kernel
theorem off17 : ∀ c : Dev nD, k0_off17 c = ![c.val] := by decide +kernel
theorem off18 : ∀ c : Dev nD, k0_off18 c = ![c.val, 0, 0] := by decide +kernel
theorem off19 : ∀ (c : Dev nD) (k : Fin 8), k0_off19 c (BitVec.ofNat 32 k.val) = ![(c + k).val] := by decide +kernel
theorem off20 : ∀ (c : Dev nD) (k : Fin 8), k0_off20 c (BitVec.ofNat 32 k.val) = ![(c + k).val, 0, 0] := by decide +kernel
theorem off21a : ∀ t, k0_off21 t 0#32 = ![(sl 0 (t.val + 1)).val, 0, 0] := by decide +kernel
theorem off21b : ∀ t, k0_off21 t 2#32 = ![(sl 1 (t.val + 1)).val, 0, 0] := by decide +kernel
theorem off22a : ∀ t, k0_off22 t 0#32 = ![(sl 0 t.val).val, 0, 0] := by decide +kernel
theorem off22b : ∀ t, k0_off22 t 2#32 = ![(sl 1 t.val).val, 0, 0] := by decide +kernel
theorem off25a : ∀ t, k0_off25 t 0#32 = ![(sl 0 t.val).val, 0, 0] := by decide +kernel
theorem off25b : ∀ t, k0_off25 t 2#32 = ![(sl 1 t.val).val, 0, 0] := by decide +kernel
theorem off26 : ∀ c t, k0_off26 c t = ![512 * (nx 0 (up 0 t.val c)).val, 0] := by decide +kernel
theorem off27 : ∀ c t, k0_off27 c t = ![512 * (nx 1 (up 1 t.val c)).val, 2048] := by decide +kernel
theorem off28 : ∀ c, k0_off28 c = ![512 * (nx 0 (up 0 7 c)).val, 0] := by decide +kernel
theorem off29 : ∀ c, k0_off29 c = ![512 * (nx 1 (up 1 7 c)).val, 2048] := by decide +kernel
theorem off30a : ∀ t, k0_off30 t 0#32 = ![(sl 0 (t.val + 1)).val, 0, 0] := by decide +kernel
theorem off30b : ∀ t, k0_off30 t 2#32 = ![(sl 1 (t.val + 1)).val, 0, 0] := by decide +kernel
theorem off31a : ∀ t, k0_off31 t 0#32 = ![(sl 0 t.val).val, 0, 0] := by decide +kernel
theorem off31b : ∀ t, k0_off31 t 2#32 = ![(sl 1 t.val).val, 0, 0] := by decide +kernel
theorem off34a : ∀ t, k0_off34 t 0#32 = ![(sl 0 t.val).val, 0, 0] := by decide +kernel
theorem off34b : ∀ t, k0_off34 t 2#32 = ![(sl 1 t.val).val, 0, 0] := by decide +kernel
theorem off35 : ∀ c t, k0_off35 c t = ![512 * (nx 0 (up 0 t.val c)).val, 4096] := by decide +kernel
theorem off36 : ∀ c t, k0_off36 c t = ![512 * (nx 1 (up 1 t.val c)).val, 6144] := by decide +kernel
theorem off37 : ∀ c, k0_off37 c = ![512 * (nx 0 (up 0 7 c)).val, 4096] := by decide +kernel
theorem off38 : ∀ c, k0_off38 c = ![512 * (nx 1 (up 1 7 c)).val, 6144] := by decide +kernel

theorem cond2 : ∀ t, k0_cond2 t = 1#1 ↔ t.val < 6 := by decide +kernel
theorem cond3 : ∀ t, k0_cond3 t = 1#1 ↔ t.val < 6 := by decide +kernel
theorem cond4 : ∀ t, k0_cond4 t = 1#1 ↔ 1 < t.val := by decide +kernel
theorem cond5 : ∀ t, k0_cond5 t = 1#1 ↔ 0 < t.val := by decide +kernel
theorem cond6 : ∀ t, k0_cond6 t = 1#1 ↔ t.val < 6 := by decide +kernel
theorem cond7 : ∀ t, k0_cond7 t = 1#1 ↔ 1 < t.val := by decide +kernel
theorem cond8 : ∀ t, k0_cond8 t = 1#1 ↔ 0 < t.val := by decide +kernel
theorem cond9 : ∀ t, k0_cond9 t = 1#1 ↔ t.val < 6 := by decide +kernel

theorem trips1 : k0_t1_loop.trips = 7 := by decide +kernel
theorem trips2 : k0_t2_loop.trips = 7 := by decide +kernel
theorem trips3 : k0_t3_loop.trips = 7 := by decide +kernel
theorem trips4 : k0_t4_loop.trips = 7 := by decide +kernel

end Cert.Proof.KI
-- ==== Proof.Vals.lean ====
/- The buffers' parts that the kernel works on, and what each of them holds: the running sums of the
   reduce-scatter, the maximum, the quantised chunks, and the blocks of the result. -/
module

public import proofs.«01_k».proof.Proof.Forms
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic
public import Idealize.ShloMosaic.Lib.Memref

@[expose] public section

noncomputable section

namespace Cert.Proof.KI

open Cert.KernelIdeal Cert.KernelIdeal.Gen
open Idealize.ShloMosaic
open Idealize.ShloMosaic.TcCoe

variable {F : FTy → Type} [FloatOps F]

/-! ## Parts of the buffers -/

theorem inb4 (j : Fin 4) : ∀ a, (![j.val, 0, 0] : Fin 3 → Nat) a + S1x512x2048.size a ≤ S4x512x2048.size a := by
  revert j; decide
theorem inb8 (j : Fin 8) : ∀ a, (![j.val, 0, 0] : Fin 3 → Nat) a + S1x8x128.size a ≤ S8x8x128.size a := by
  revert j; decide
theorem inbD (d : Fin 2) : ∀ a, (![0, 2048 * d.val] : Fin 2 → Nat) a + S512x2048.size a ≤ S512x4096.size a := by
  revert d; decide
theorem inbO (k : Fin 8) (b : Fin 4) : ∀ a, (![512 * k.val, 2048 * b.val] : Fin 2 → Nat) a + S512x2048.size a ≤ S4096x8192.size a := by
  revert k b; decide
theorem inbX (k : Fin 8) : ∀ a, (![512 * k.val, 0] : Fin 2 → Nat) a + S512x512.size a ≤ S4096x512.size a := by
  revert k; decide
theorem inbW (b : Fin 4) : ∀ a, (![0, 2048 * b.val] : Fin 2 → Nat) a + S512x2048.size a ≤ S512x8192.size a := by
  revert b; decide

/-- Slot `j` of the buffer that the partial sums travel in. -/
abbrev cS (j : Fin 4) : Memref sig .tc .vmem S512x2048 .f32 :=
  ((Memref.whole cc0_scratch0).slice (Rect.unit (s := S4x512x2048) ![j.val, 0, 0] S1x512x2048.size (inb4 j)) (fun _ => rfl)).squeeze S512x2048 squeezes_S1x512x2048_S512x2048
/-- Slot `j` of the buffer that the quantised chunks travel in. -/
abbrev qS (j : Fin 4) : Memref sig .tc .vmem S512x2048 .fp8e4m3 :=
  ((Memref.whole cc0_scratch1).slice (Rect.unit (s := S4x512x2048) ![j.val, 0, 0] S1x512x2048.size (inb4 j)) (fun _ => rfl)).squeeze S512x2048 squeezes_S1x512x2048_S512x2048
/-- Half `d` of the buffer for products and dequantised chunks. -/
abbrev dH (d : Fin 2) : Memref sig .tc .vmem S512x2048 .f32 :=
  (Memref.whole cc0_scratch2).slice (Rect.unit (s := S512x4096) ![0, 2048 * d.val] S512x2048.size (inbD d)) (fun _ => rfl)
/-- Row `j` of the table of maxima. -/
abbrev aS (j : Fin 8) : Memref sig .tc .vmem S8x128 .f32 :=
  ((Memref.whole cc0_scratch3).slice (Rect.unit (s := S8x8x128) ![j.val, 0, 0] S1x8x128.size (inb8 j)) (fun _ => rfl)).squeeze S8x128 squeezes_S1x8x128_S8x128
/-- Block of the result: rows of chunk `k`, columns of quarter `b`. -/
abbrev oB (k : Fin 8) (b : Fin 4) : Memref sig .tc .hbm S512x2048 .f32 :=
  (Memref.whole main_v1).slice (Rect.unit (s := S4096x8192) ![512 * k.val, 2048 * b.val] S512x2048.size (inbO k b)) (fun _ => rfl)

/-- The quarter of the columns that half `h` and direction `d` work on. -/
def qd (h d : Fin 2) : Fin 4 := ⟨2 * h.val + d.val, by omega⟩

/-! ## Values -/

/-- A chunk with a leading axis of extent one. -/
abbrev up1 {α : Type} (X : S512x2048.Idx → α) : S1x512x2048.Idx → α := shapeCast S1x512x2048 X shapeCasts_S512x2048_S1x512x2048

section Values

variable (X : Dev nD → Vec F S4096x512 .f32) (W : Dev nD → Vec F S512x8192 .f32)

/-- Rows `k` of the device's part of `x`. -/
def xk (Xc : Vec F S4096x512 .f32) (k : Fin 8) : Vec F S512x512 .f32 :=
  fun j => Xc ((Rect.unit (s := S4096x512) ![512 * k.val, 0] S512x512.size (inbX k)).emb j)

/-- Columns `b` of the device's part of `w`. -/
def wk (Wc : Vec F S512x8192 .f32) (b : Fin 4) : Vec F S512x2048 .f32 :=
  fun j => Wc ((Rect.unit (s := S512x8192) ![0, 2048 * b.val] S512x2048.size (inbW b)).emb j)

/-- The product of a chunk of rows and a quarter of columns. -/
def mm (a : Vec F S512x512 .f32) (b : Vec F S512x2048 .f32) : FVec F S512x2048 .f32 :=
  matmul dot_S512x512_S512x2048_S512x2048_1_0_0_1_n_n (some .fp32) a b (constant S512x2048 .f32 0x00000000#32)

/-- What device `c` adds to chunk `k` in half `h`, direction `d`. -/
def prod (c k : Dev nD) (h d : Fin 2) : FVec F S512x2048 .f32 := mm (xk (X c) k) (wk (W c) (qd h d))

/-- The running sum that sits in device `c`'s slot after `s` steps. -/
def acc (h d : Fin 2) : Nat → Dev nD → FVec F S512x2048 .f32
  | 0, c => prod X W c c h d
  | s + 1, c => addf (acc h d s (pv d c)) (prod X W c (up d (s + 1) c) h d)

/-- The largest magnitude among the sums that end on device `c`. -/
def lam (c : Dev nD) : F .f32 :=
  k0_pay23 (k0_pay17 (up1 (acc X W 0 0 7 c)) (up1 (acc X W 0 1 7 c))) (up1 (acc X W 1 0 7 c)) (up1 (acc X W 1 1 7 c))

/-- The row of the table of maxima that device `c` fills. -/
def amv (c : Dev nD) : Vec F S8x128 .f32 := shapeCast S8x128 (k0_pay24 (lam X W c)) shapeCasts_S1x8x128_S8x128

abbrev upA {α : Type} (Y : S8x128.Idx → α) : S1x8x128.Idx → α := shapeCast S1x8x128 Y shapeCasts_S8x128_S1x8x128

/-- The scale. -/
def scl : F .f32 :=
  k0_pay27 (k0_pay25 (upA (amv X W 0))) (upA (amv X W 1)) (upA (amv X W 2)) (upA (amv X W 3)) (upA (amv X W 4)) (upA (amv X W 5)) (upA (amv X W 6)) (upA (amv X W 7))
/-- What the sums are multiplied with before they are rounded. -/
def inv : F .f32 :=
  k0_pay28 (k0_pay25 (upA (amv X W 0))) (upA (amv X W 1)) (upA (amv X W 2)) (upA (amv X W 3)) (upA (amv X W 4)) (upA (amv X W 5)) (upA (amv X W 6)) (upA (amv X W 7))

/-- The quantised chunk that device `c` starts to pass round. -/
def q0 (h d : Fin 2) (c : Dev nD) : FVec F S512x2048 .fp8e4m3 :=
  truncf .fp8e4m3 (mulf (acc X W h d 7 c) (broadcast S512x2048 (inv X W))) bitsLt_fp8e4m3_f32

/-- A quantised chunk at its scale again. -/
def dq (s : F .f32) (Y : FVec F S512x2048 .fp8e4m3) : FVec F S512x2048 .f32 :=
  mulf (extf .f32 Y bitsLt_fp8e4m3_f32) (broadcast S512x2048 s)

/-- What the block of chunk `k` holds in the end. -/
def ob (h d : Fin 2) (k : Dev nD) : FVec F S512x2048 .f32 := dq (scl X W) (q0 X W h d (pv d k))

end Values

/-! ## The stored values in these terms -/

theorem pay13_eq (a : Vec F S512x512 .f32) (b : Vec F S512x2048 .f32) :
    (shapeCast S512x2048 (k0_pay13 a b) shapeCasts_S1x512x2048_S512x2048 : S512x2048.Idx → _) = mm a b := by
  unfold k0_pay13 mm; simp only [shapeCast_shapeCast, shapeCast_self]
theorem pay14_eq (a : Vec F S512x512 .f32) (b : Vec F S512x2048 .f32) :
    (shapeCast S512x2048 (k0_pay14 a b) shapeCasts_S1x512x2048_S512x2048 : S512x2048.Idx → _) = mm a b := by
  unfold k0_pay14 mm; simp only [shapeCast_shapeCast, shapeCast_self]
theorem pay19_eq (a : Vec F S512x512 .f32) (b : Vec F S512x2048 .f32) :
    (shapeCast S512x2048 (k0_pay19 (k0_pay18 a) b) shapeCasts_S1x512x2048_S512x2048 : S512x2048.Idx → _) = mm a b := by
  unfold k0_pay19 k0_pay18 mm; simp only [shapeCast_shapeCast, shapeCast_self]
theorem pay20_eq (a : Vec F S512x512 .f32) (b : Vec F S512x2048 .f32) :
    (shapeCast S512x2048 (k0_pay20 a b) shapeCasts_S1x512x2048_S512x2048 : S512x2048.Idx → _) = mm a b := by
  unfold k0_pay20 mm; simp only [shapeCast_shapeCast, shapeCast_self]
theorem pay2_eq (a : Vec F S512x512 .f32) (b : Vec F S512x2048 .f32) : k0_pay2 (k0_pay1 a b) = mm a b := by
  unfold k0_pay2 k0_pay1 mm; simp only [shapeCast_self]
theorem pay3_eq (a : Vec F S512x512 .f32) (b : Vec F S512x2048 .f32) : k0_pay3 a b = mm a b := by
  unfold k0_pay3 mm; simp only [shapeCast_self]
theorem pay6_eq (a : Vec F S512x512 .f32) (b : Vec F S512x2048 .f32) : k0_pay6 (k0_pay5 a) b = mm a b := by
  unfold k0_pay6 k0_pay5 mm; simp only [shapeCast_self]
theorem pay7_eq (a : Vec F S512x512 .f32) (b : Vec F S512x2048 .f32) : k0_pay7 a b = mm a b := by
  unfold k0_pay7 mm; simp only [shapeCast_self]
theorem pay15_eq (a b : FVec F S512x2048 .f32) :
    (shapeCast S512x2048 (k0_pay15 (k0_pay4 (up1 a) b)) shapeCasts_S1x512x2048_S512x2048 : S512x2048.Idx → _) = addf a b := by
  unfold k0_pay15 k0_pay4; simp only [shapeCast_shapeCast, shapeCast_self]
theorem pay16_eq (a b : FVec F S512x2048 .f32) :
    (shapeCast S512x2048 (k0_pay16 (up1 a) b) shapeCasts_S1x512x2048_S512x2048 : S512x2048.Idx → _) = addf a b := by
  unfold k0_pay16; simp only [shapeCast_shapeCast, shapeCast_self]
theorem pay21_eq (a b : FVec F S512x2048 .f32) :
    (shapeCast S512x2048 (k0_pay21 (k0_pay8 (up1 a) b)) shapeCasts_S1x512x2048_S512x2048 : S512x2048.Idx → _) = addf a b := by
  unfold k0_pay21 k0_pay8; simp only [shapeCast_shapeCast, shapeCast_self]
theorem pay22_eq (a b : FVec F S512x2048 .f32) :
    (shapeCast S512x2048 (k0_pay22 (up1 a) b) shapeCasts_S1x512x2048_S512x2048 : S512x2048.Idx → _) = addf a b := by
  unfold k0_pay22; simp only [shapeCast_shapeCast, shapeCast_self]
theorem pay9_eq (s : F .f32) (Y : FVec F S512x2048 .fp8e4m3) : k0_pay9 s (up1 Y) = dq s Y := by
  unfold k0_pay9 dq; simp only [shapeCast_shapeCast, shapeCast_self]
theorem pay10_eq (s : F .f32) (Y : FVec F S512x2048 .fp8e4m3) : k0_pay10 s (up1 Y) = dq s Y := by
  unfold k0_pay10 dq; simp only [shapeCast_shapeCast, shapeCast_self]
theorem pay11_eq (s : F .f32) (Y : FVec F S512x2048 .fp8e4m3) : k0_pay11 s (up1 Y) = dq s Y := by
  unfold k0_pay11 dq; simp only [shapeCast_shapeCast, shapeCast_self]
theorem pay12_eq (s : F .f32) (Y : FVec F S512x2048 .fp8e4m3) : k0_pay12 s (up1 Y) = dq s Y := by
  unfold k0_pay12 dq; simp only [shapeCast_shapeCast, shapeCast_self]
theorem pay31_eq (s : F .f32) (Y : FVec F S512x2048 .fp8e4m3) : k0_pay31 s (up1 Y) = dq s Y := by
  unfold k0_pay31 dq; simp only [shapeCast_shapeCast, shapeCast_self]
theorem pay32_eq (s : F .f32) (Y : FVec F S512x2048 .fp8e4m3) : k0_pay32 s (up1 Y) = dq s Y := by
  unfold k0_pay32 dq; simp only [shapeCast_shapeCast, shapeCast_self]
theorem pay37_eq (s : F .f32) (Y : FVec F S512x2048 .fp8e4m3) : k0_pay37 s (up1 Y) = dq s Y := by
  unfold k0_pay37 dq; simp only [shapeCast_shapeCast, shapeCast_self]
theorem pay38_eq (s : F .f32) (Y : FVec F S512x2048 .fp8e4m3) : k0_pay38 s (up1 Y) = dq s Y := by
  unfold k0_pay38 dq; simp only [shapeCast_shapeCast, shapeCast_self]
theorem pay33_eq (s : F .f32) (Y : FVec F S512x2048 .fp8e4m3) : k0_pay33 s (up1 Y) = dq s Y := by
  unfold k0_pay33 dq; simp only [shapeCast_shapeCast, shapeCast_self]
theorem pay34_eq (s : F .f32) (Y : FVec F S512x2048 .fp8e4m3) : k0_pay34 s (up1 Y) = dq s Y := by
  unfold k0_pay34 dq; simp only [shapeCast_shapeCast, shapeCast_self]
theorem pay39_eq (s : F .f32) (Y : FVec F S512x2048 .fp8e4m3) : k0_pay39 s (up1 Y) = dq s Y := by
  unfold k0_pay39 dq; simp only [shapeCast_shapeCast, shapeCast_self]
theorem pay40_eq (s : F .f32) (Y : FVec F S512x2048 .fp8e4m3) : k0_pay40 s (up1 Y) = dq s Y := by
  unfold k0_pay40 dq; simp only [shapeCast_shapeCast, shapeCast_self]
theorem pay29_eq (s : F .f32) (Y : FVec F S512x2048 .f32) :
    (shapeCast S512x2048 (k0_pay29 s Y) shapeCasts_S1x512x2048_S512x2048 : S512x2048.Idx → _)
      = truncf .fp8e4m3 (mulf Y (broadcast S512x2048 s)) bitsLt_fp8e4m3_f32 := by
  unfold k0_pay29; simp only [shapeCast_shapeCast, shapeCast_self]
theorem pay30_eq (s : F .f32) (Y : FVec F S512x2048 .f32) :
    (shapeCast S512x2048 (k0_pay30 s Y) shapeCasts_S1x512x2048_S512x2048 : S512x2048.Idx → _)
      = truncf .fp8e4m3 (mulf Y (broadcast S512x2048 s)) bitsLt_fp8e4m3_f32 := by
  unfold k0_pay30; simp only [shapeCast_shapeCast, shapeCast_self]
theorem pay35_eq (s : F .f32) (Y : FVec F S512x2048 .f32) :
    (shapeCast S512x2048 (k0_pay35 s Y) shapeCasts_S1x512x2048_S512x2048 : S512x2048.Idx → _)
      = truncf .fp8e4m3 (mulf Y (broadcast S512x2048 s)) bitsLt_fp8e4m3_f32 := by
  unfold k0_pay35; simp only [shapeCast_shapeCast, shapeCast_self]
theorem pay36_eq (s : F .f32) (Y : FVec F S512x2048 .f32) :
    (shapeCast S512x2048 (k0_pay36 s Y) shapeCasts_S1x512x2048_S512x2048 : S512x2048.Idx → _)
      = truncf .fp8e4m3 (mulf Y (broadcast S512x2048 s)) bitsLt_fp8e4m3_f32 := by
  unfold k0_pay36; simp only [shapeCast_shapeCast, shapeCast_self]

end Cert.Proof.KI
-- ==== Proof.Own.lean ====
/- Loads, stores and the shapes of what is owned, over memrefs held at known contents. -/
module

public import proofs.«01_k».proof.Proof.Vals
public import Idealize.ShloMosaic.Lib.ViewIndex

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the kernel's own semaphores. -/
abbrev UB : Type := URounds (GSem nD τ sig) (Fin 2)
/-- The pipeline's part and the kernel's part. -/
abbrev UU : Type := UR sig nD τ × UB

local notation "𝕄" => MT nD τ sig ℕ (Elt F) ℕ UU ℕ

/-- The pipeline's part of the algebra. -/
abbrev EP : Emb (UR sig nD τ) (MT nD τ sig ℕ (Elt F) ℕ UU ℕ) := embL
/-- The kernel's part of the algebra. -/
abbrev ER : Emb UB (MT nD τ sig ℕ (Elt F) ℕ UU ℕ) := embR

/-- The thread of a device that the kernel runs on. -/
abbrev tc (c : Dev nD) : Thread nD τ := (c : Thread nD τ)

section Owned

variable (c : Dev nD) {sp : Space} {s s' : Shape} {e : EltTy}

/-- A memref held at some contents. -/
def some (m : Memref sig .tc sp s e) : sProp 𝕄 := iprop(∃ X : s.Idx → Elt F e, owns (c : Thread nD τ) m fullShare X)

instance some_storable (m : Memref sig .tc sp s e) : BI.Storable (upEmb : UEmb _ 𝕄) (some (F := F) c m) := by
  unfold some; infer_instance

omit [FloatOps F] in
theorem owns_some (m : Memref sig .tc sp s e) (X : s.Idx → Elt F e) : (owns (c : Thread nD τ) m fullShare X : sProp 𝕄) ⊢ some c m := by
  unfold some; iintro H; iexists X; iexact H

omit [FloatOps F] in
/-- A memref held at a share is held in its two halves. -/
theorem owns_split (m : Memref sig .tc sp s e) (q : PosShare TreeShare) (X : s.Idx → Elt F e) :
    (owns (c : Thread nD τ) m q X : sProp 𝕄) ⊢ iprop(owns (c : Thread nD τ) m q.left X ∗ owns (c : Thread nD τ) m q.right X) := by
  unfold owns
  iintro ⟨%f, %hf, H⟩
  ihave H := (pointsTo_share (PosShare.mem_left_op_right q)).1 $$ H
  icases H with ⟨H1, H2⟩
  isplitl [H1]
  · iexists f; iframe H1; ipureintro; exact hf
  · iexists f; iframe H2; ipureintro; exact hf

omit [FloatOps F] in
/-- The two halves at the same contents make the share again. -/
theorem owns_unsplit (m : Memref sig .tc sp s e) (q : PosShare TreeShare) (X : s.Idx → Elt F e) :
    iprop(owns (c : Thread nD τ) m q.left X ∗ owns (c : Thread nD τ) m q.right X) ⊢ (owns (c : Thread nD τ) m q X : sProp 𝕄) := by
  unfold owns
  iintro ⟨⟨%f, %hf, H1⟩, ⟨%g, %hg, H2⟩⟩
  iexists f
  isplitr; · ipureintro; exact hf
  have hfg : ∀ i ∈ m.view.set, g i = f i := fun i hi => by
    obtain ⟨x, -, rfl⟩ := Finset.mem_map.mp hi
    exact View.eq_of_read_eq (by rw [hf, hg])
  ihave H2 := (Entails.of_eq (pointsTo_congr hfg)) $$ H2
  iapply (pointsTo_share (PosShare.mem_left_op_right q)).2
  iframe H1 H2

omit [FloatOps F] in
/-- A memref at another arrangement of the same elements. -/
theorem owns_squeeze' (m : Memref sig .tc sp s e) (h : s.Squeezes s') (q : PosShare TreeShare) (X : s'.Idx → Elt F e) :
    (owns (c : Thread nD τ) (m.squeeze s' h) q X : sProp 𝕄) = owns (c : Thread nD τ) m q (shapeCast s X h.numel_eq.symm) := by
  have hs : (m.squeeze s' h).view.set = m.view.set := View.set_reshape m.view h.numel_eq
  have h1 : (owns (c : Thread nD τ) (m.squeeze s' h) q X : sProp 𝕄) ⊢ owns (c : Thread nD τ) m q (shapeCast s X h.numel_eq.symm) := by
    unfold owns
    rw [hs]
    iintro ⟨%f, %hf, H⟩
    iexists f
    isplitr
    · ipureintro; subst hf
      exact ((congrArg (fun z => shapeCast s z h.numel_eq.symm) (show (m.squeeze s' h).view.read (Elt F) f = shapeCast s' (m.view.read (Elt F) f) h.numel_eq from rfl)).trans
        (shapeCast_shapeCast ..)).symm
    · iexact H
  have h2 : (owns (c : Thread nD τ) m q (shapeCast s X h.numel_eq.symm) : sProp 𝕄) ⊢ owns (c : Thread nD τ) (m.squeeze s' h) q X := by
    unfold owns
    rw [hs]
    iintro ⟨%f, %hf, H⟩
    iexists f
    isplitr
    · ipureintro
      refine (show (m.squeeze s' h).view.read (Elt F) f = shapeCast s' (m.view.read (Elt F) f) h.numel_eq from rfl).trans ?_
      rw [hf]; exact shapeCast_shapeCast ..
    · iexact H
  exact BI.equiv_iff.mp ⟨h1, h2⟩

omit [FloatOps F] in
/-- The same, said of contents at the arrangement before. -/
theorem owns_squeeze (m : Memref sig .tc sp s e) (h : s.Squeezes s') (q : PosShare TreeShare) (X : s.Idx → Elt F e) :
    (owns (c : Thread nD τ) (m.squeeze s' h) q (shapeCast s' X h.numel_eq) : sProp 𝕄) = owns (c : Thread nD τ) m q X :=
  (owns_squeeze' c m h q _).trans (congrArg _ (shapeCast_shapeCast ..))

variable {cs : CoreSpace}

/-- The weakest precondition of a part of the body on device `c`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

theorem load_slice {m : Memref sig .tc cs s e} {r : Rect s} {hr : ∀ a, r.stride a = 1} {hl : m.view.LoadsAt r.toLoadRect}
    {α : Type} {Q : α → sProp 𝕄} {k : (r.shape.Idx → Elt F e) → Prog (TpuEff nD τ sig (Elt F) Λ₀ .tc) α} (q : PosShare TreeShare) (X : r.shape.Idx → Elt F e) :
    (owns (c : Thread nD τ) (m.slice r hr) q X : sProp 𝕄)
      ⊢ iprop((owns (c : Thread nD τ) (m.slice r hr) q X -∗ WP c (k X) Q) -∗ WP c (.op (.load m r.toLoadRect hl) k) Q) := by
  unfold owns
  iintro ⟨%f, %hf, H⟩ Hk
  iapply (wp_load_rect (defs := defs₀ (F := F)) Variants.none (c : Thread nD τ) none Set.univ (m := m) (r := r) (S := (m.slice r hr).view.set) (f := f) (Finset.Subset.refl _)) $$ [H]
  · iexact H
  iintro H
  have hf' : (m.access r).read (Elt F) f = X := hf
  rw [hf']
  iapply Hk
  iexists f; iframe H; ipureintro; exact hf

theorem load_squeeze {m : Memref sig .tc cs s e} {r : Rect s} {hr : ∀ a, r.stride a = 1} {h : r.shape.Squeezes s'} {hl : m.view.LoadsAt r.toLoadRect}
    {α : Type} {Q : α → sProp 𝕄} {k : (r.shape.Idx → Elt F e) → Prog (TpuEff nD τ sig (Elt F) Λ₀ .tc) α} (q : PosShare TreeShare) (X : s'.Idx → Elt F e) :
    (owns (c : Thread nD τ) ((m.slice r hr).squeeze s' h) q X : sProp 𝕄)
      ⊢ iprop((owns (c : Thread nD τ) ((m.slice r hr).squeeze s' h) q X -∗ WP c (k (shapeCast r.shape X h.numel_eq.symm)) Q)
          -∗ WP c (.op (.load m r.toLoadRect hl) k) Q) := by
  rw [owns_squeeze']
  exact load_slice c q _

/-- The load of a rectangle that is about to be overwritten, and the store. -/
theorem store_slice {m : Memref sig .tc cs s e} {r : Rect s} {hr : ∀ a, r.stride a = 1} {hl : m.view.LoadsAt r.toLoadRect}
    {w : r.shape.Idx → Elt F e} {hx : (m.access r).Stores Finset.univ} {hm : Finset.univ = Finset.univ ∨ ∀ a, r.stride a = 1}
    {α : Type} {Q : α → sProp 𝕄} {k : PUnit → Prog (TpuEff nD τ sig (Elt F) Λ₀ .tc) α} :
    (some (F := F) c (m.slice r hr) : sProp 𝕄)
      ⊢ iprop((owns (c : Thread nD τ) (m.slice r hr) fullShare w -∗ WP c (k ⟨⟩) Q)
          -∗ WP c (.op (.load m r.toLoadRect hl) fun _ => .op (.store m r w Finset.univ hx hm) k) Q) := by
  unfold some
  iintro ⟨%X, H⟩ Hk
  iapply (load_slice c fullShare X) $$ H
  iintro H
  unfold owns
  icases H with ⟨%f, -, H⟩
  iapply (wp_store (defs := defs₀ (F := F)) Variants.none (c : Thread nD τ) none Set.univ (m := m) (r := r) (S := (m.slice r hr).view.set) (f := f) (Finset.Subset.refl _)) $$ [H]
  · iexact H
  iintro H
  iapply Hk
  iexists (m.access r).write (Elt F) f w Finset.univ
  isplitr
  · ipureintro; exact View.read_write_univ f w
  · iexact H

omit [FloatOps F] in
theorem some_squeeze (m : Memref sig .tc sp s e) (h : s.Squeezes s') : (some (F := F) c (m.squeeze s' h) : sProp 𝕄) = some c m := by
  have h1 : (some (F := F) c (m.squeeze s' h) : sProp 𝕄) ⊢ some c m := by
    unfold some
    iintro ⟨%X, H⟩
    ihave H := (Entails.of_eq (owns_squeeze' c m h fullShare X)) $$ H
    iexists _; iexact H
  have h2 : (some (F := F) c m : sProp 𝕄) ⊢ some c (m.squeeze s' h) := by
    unfold some
    iintro ⟨%X, H⟩
    ihave H := (Entails.of_eq (owns_squeeze c m h fullShare X).symm) $$ H
    iexists _; iexact H
  exact BI.equiv_iff.mp ⟨h1, h2⟩

theorem store_squeeze {m : Memref sig .tc cs s e} {r : Rect s} {hr : ∀ a, r.stride a = 1} {h : r.shape.Squeezes s'} {hl : m.view.LoadsAt r.toLoadRect}
    {w : r.shape.Idx → Elt F e} {hx : (m.access r).Stores Finset.univ} {hm : Finset.univ = Finset.univ ∨ ∀ a, r.stride a = 1}
    {α : Type} {Q : α → sProp 𝕄} {k : PUnit → Prog (TpuEff nD τ sig (Elt F) Λ₀ .tc) α} :
    (some (F := F) c ((m.slice r hr).squeeze s' h) : sProp 𝕄)
      ⊢ iprop((owns (c : Thread nD τ) ((m.slice r hr).squeeze s' h) fullShare (shapeCast s' w h.numel_eq) -∗ WP c (k ⟨⟩) Q)
          -∗ WP c (.op (.load m r.toLoadRect hl) fun _ => .op (.store m r w Finset.univ hx hm) k) Q) := by
  rw [some_squeeze, owns_squeeze]
  exact store_slice c

/-! ## The kernel's own accesses -/

/-- A slot of the partial sums is read. -/
theorem load_c {j : Fin 4} {off : Fin 3 → Nat} {inb} {hl} {α : Type} {Q : α → sProp 𝕄} {k : (S1x512x2048.Idx → Elt F .f32) → Prog (TpuEff nD τ sig (Elt F) Λ₀ .tc) α}
    (hoff : off = ![j.val, 0, 0]) {q : PosShare TreeShare} {X : S512x2048.Idx → Elt F .f32} :
    (owns (c : Thread nD τ) (cS j) q X : sProp 𝕄)
      ⊢ iprop((owns (c : Thread nD τ) (cS j) q X -∗ WP c (k (up1 X)) Q)
          -∗ WP c (.op (.load (Memref.whole cc0_scratch0) (Rect.unit (s := S4x512x2048) off S1x512x2048.size inb).toLoadRect hl) k) Q) := by
  subst hoff; exact load_squeeze c q X

theorem store_c {j : Fin 4} {off : Fin 3 → Nat} {inb inb'} {hl} {w : S1x512x2048.Idx → Elt F .f32} {hx hm} {α : Type} {Q : α → sProp 𝕄} {k : PUnit → Prog (TpuEff nD τ sig (Elt F) Λ₀ .tc) α}
    (hoff : off = ![j.val, 0, 0]) {Y : S512x2048.Idx → Elt F .f32} (hw : shapeCast S512x2048 w shapeCasts_S1x512x2048_S512x2048 = Y) :
    (some (F := F) c (cS j) : sProp 𝕄)
      ⊢ iprop((owns (c : Thread nD τ) (cS j) fullShare Y -∗ WP c (k ⟨⟩) Q)
          -∗ WP c (.op (.load (Memref.whole cc0_scratch0) (Rect.unit (s := S4x512x2048) off S1x512x2048.size inb).toLoadRect hl)
              fun _ => .op (.store (Memref.whole cc0_scratch0) (Rect.unit (s := S4x512x2048) off S1x512x2048.size inb') w Finset.univ hx hm) k) Q) := by
  subst hoff hw; exact store_squeeze c

/-- A slot of the quantised chunks is read. -/
theorem load_q {j : Fin 4} {off : Fin 3 → Nat} {inb} {hl} {α : Type} {Q : α → sProp 𝕄} {k : (S1x512x2048.Idx → Elt F .fp8e4m3) → Prog (TpuEff nD τ sig (Elt F) Λ₀ .tc) α}
    (hoff : off = ![j.val, 0, 0]) {q : PosShare TreeShare} {X : S512x2048.Idx → Elt F .fp8e4m3} :
    (owns (c : Thread nD τ) (qS j) q X : sProp 𝕄)
      ⊢ iprop((owns (c : Thread nD τ) (qS j) q X -∗ WP c (k (up1 X)) Q)
          -∗ WP c (.op (.load (Memref.whole cc0_scratch1) (Rect.unit (s := S4x512x2048) off S1x512x2048.size inb).toLoadRect hl) k) Q) := by
  subst hoff; exact load_squeeze c q X

theorem store_q {j : Fin 4} {off : Fin 3 → Nat} {inb inb'} {hl} {w : S1x512x2048.Idx → Elt F .fp8e4m3} {hx hm} {α : Type} {Q : α → sProp 𝕄} {k : PUnit → Prog (TpuEff nD τ sig (Elt F) Λ₀ .tc) α}
    (hoff : off = ![j.val, 0, 0]) {Y : S512x2048.Idx → Elt F .fp8e4m3} (hw : shapeCast S512x2048 w shapeCasts_S1x512x2048_S512x2048 = Y) :
    (some (F := F) c (qS j) : sProp 𝕄)
      ⊢ iprop((owns (c : Thread nD τ) (qS j) fullShare Y -∗ WP c (k ⟨⟩) Q)
          -∗ WP c (.op (.load (Memref.whole cc0_scratch1) (Rect.unit (s := S4x512x2048) off S1x512x2048.size inb).toLoadRect hl)
              fun _ => .op (.store (Memref.whole cc0_scratch1) (Rect.unit (s := S4x512x2048) off S1x512x2048.size inb') w Finset.univ hx hm) k) Q) := by
  subst hoff hw; exact store_squeeze c

/-- A row of the table of maxima is read. -/
theorem load_a {j : Fin 8} {off : Fin 3 → Nat} {inb} {hl} {α : Type} {Q : α → sProp 𝕄} {k : (S1x8x128.Idx → Elt F .f32) → Prog (TpuEff nD τ sig (Elt F) Λ₀ .tc) α}
    (hoff : off = ![j.val, 0, 0]) {q : PosShare TreeShare} {X : S8x128.Idx → Elt F .f32} :
    (owns (c : Thread nD τ) (aS j) q X : sProp 𝕄)
      ⊢ iprop((owns (c : Thread nD τ) (aS j) q X -∗ WP c (k (upA X)) Q)
          -∗ WP c (.op (.load (Memref.whole cc0_scratch3) (Rect.unit (s := S8x8x128) off S1x8x128.size inb).toLoadRect hl) k) Q) := by
  subst hoff; exact load_squeeze c q X

theorem store_a {j : Fin 8} {off : Fin 3 → Nat} {inb inb'} {hl} {w : S1x8x128.Idx → Elt F .f32} {hx hm} {α : Type} {Q : α → sProp 𝕄} {k : PUnit → Prog (TpuEff nD τ sig (Elt F) Λ₀ .tc) α}
    (hoff : off = ![j.val, 0, 0]) {Y : S8x128.Idx → Elt F .f32} (hw : shapeCast S8x128 w shapeCasts_S1x8x128_S8x128 = Y) :
    (some (F := F) c (aS j) : sProp 𝕄)
      ⊢ iprop((owns (c : Thread nD τ) (aS j) fullShare Y -∗ WP c (k ⟨⟩) Q)
          -∗ WP c (.op (.load (Memref.whole cc0_scratch3) (Rect.unit (s := S8x8x128) off S1x8x128.size inb).toLoadRect hl)
              fun _ => .op (.store (Memref.whole cc0_scratch3) (Rect.unit (s := S8x8x128) off S1x8x128.size inb') w Finset.univ hx hm) k) Q) := by
  subst hoff hw; exact store_squeeze c

/-- A half of the working buffer is read. -/
theorem load_d {d : Fin 2} {off : Fin 2 → Nat} {inb} {hl} {α : Type} {Q : α → sProp 𝕄} {k : (S512x2048.Idx → Elt F .f32) → Prog (TpuEff nD τ sig (Elt F) Λ₀ .tc) α}
    (hoff : off = ![0, 2048 * d.val]) {q : PosShare TreeShare} {X : S512x2048.Idx → Elt F .f32} :
    (owns (c : Thread nD τ) (dH d) q X : sProp 𝕄)
      ⊢ iprop((owns (c : Thread nD τ) (dH d) q X -∗ WP c (k X) Q)
          -∗ WP c (.op (.load (Memref.whole cc0_scratch2) (Rect.unit (s := S512x4096) off S512x2048.size inb).toLoadRect hl) k) Q) := by
  subst hoff; exact load_slice (r := Rect.unit (s := S512x4096) ![0, 2048 * d.val] S512x2048.size (inbD d)) c q X

theorem store_d {d : Fin 2} {off : Fin 2 → Nat} {inb inb'} {hl} {w : S512x2048.Idx → Elt F .f32} {hx hm} {α : Type} {Q : α → sProp 𝕄} {k : PUnit → Prog (TpuEff nD τ sig (Elt F) Λ₀ .tc) α}
    (hoff : off = ![0, 2048 * d.val]) {Y : S512x2048.Idx → Elt F .f32} (hw : w = Y) :
    (some (F := F) c (dH d) : sProp 𝕄)
      ⊢ iprop((owns (c : Thread nD τ) (dH d) fullShare Y -∗ WP c (k ⟨⟩) Q)
          -∗ WP c (.op (.load (Memref.whole cc0_scratch2) (Rect.unit (s := S512x4096) off S512x2048.size inb).toLoadRect hl)
              fun _ => .op (.store (Memref.whole cc0_scratch2) (Rect.unit (s := S512x4096) off S512x2048.size inb') w Finset.univ hx hm) k) Q) := by
  subst hoff hw; exact store_slice c

/-- Rows of the device's part of `x` are read. -/
theorem load_x {i : Fin 8} {off : Fin 2 → Nat} {inb} {hl} {α : Type} {Q : α → sProp 𝕄} {k : (S512x512.Idx → Elt F .f32) → Prog (TpuEff nD τ sig (Elt F) Λ₀ .tc) α}
    (hoff : off = ![512 * i.val, 0]) {X : Vec F S4096x512 .f32} :
    (((c : Thread nD τ).loc cc0_stg0_0 ↦{fullShare} X : sProp 𝕄))
      ⊢ iprop((((c : Thread nD τ).loc cc0_stg0_0 ↦{fullShare} X) -∗ WP c (k (xk X i)) Q)
          -∗ WP c (.op (.load (Memref.whole cc0_stg0_0) (Rect.unit (s := S4096x512) off S512x512.size inb).toLoadRect hl) k) Q) := by
  subst hoff
  exact wp_load_rect (defs := defs₀ (F := F)) Variants.none (c : Thread nD τ) none Set.univ (m := Memref.whole cc0_stg0_0)
    (r := Rect.unit (s := S4096x512) ![512 * i.val, 0] S512x512.size (inbX i)) (S := Finset.univ) (f := X) (Finset.subset_univ _)

/-- Columns of the device's part of `w` are read. -/
theorem load_w {i : Fin 4} {off : Fin 2 → Nat} {inb} {hl} {α : Type} {Q : α → sProp 𝕄} {k : (S512x2048.Idx → Elt F .f32) → Prog (TpuEff nD τ sig (Elt F) Λ₀ .tc) α}
    (hoff : off = ![0, 2048 * i.val]) {X : Vec F S512x8192 .f32} :
    (((c : Thread nD τ).loc cc0_stg1_0 ↦{fullShare} X : sProp 𝕄))
      ⊢ iprop((((c : Thread nD τ).loc cc0_stg1_0 ↦{fullShare} X) -∗ WP c (k (wk X i)) Q)
          -∗ WP c (.op (.load (Memref.whole cc0_stg1_0) (Rect.unit (s := S512x8192) off S512x2048.size inb).toLoadRect hl) k) Q) := by
  subst hoff
  exact wp_load_rect (defs := defs₀ (F := F)) Variants.none (c : Thread nD τ) none Set.univ (m := Memref.whole cc0_stg1_0)
    (r := Rect.unit (s := S512x8192) ![0, 2048 * i.val] S512x2048.size (inbW i)) (S := Finset.univ) (f := X) (Finset.subset_univ _)

end Owned

end Cert.Proof.KI
-- ==== Proof.Proto.lean ====
/- The semaphores of the kernel as cells, the rounds each of them goes through and what each round hands over, and
   the order in which a device pays what it owes. -/
module

public import proofs.«01_k».proof.Proof.Own
public import Mathlib.Tactic.DeriveFintype
public import Mathlib.Algebra.BigOperators.Intervals

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Cells -/

/-- The semaphores of one device. -/
inductive CK
  /-- the barrier -/
  | bar
  /-- a transfer in direction `d` has left -/
  | snd (d : Fin 2)
  /-- a transfer in direction `d` has arrived -/
  | rcv (d : Fin 2)
  /-- the row of maxima has left for the `k+1`st device on -/
  | axs (k : Fin 7)
  /-- the row of maxima of device `j` has arrived -/
  | axr (j : Fin 8)
  /-- a copy to the result is done -/
  | sto (d : Fin 2)
  /-- a copy from the result is done -/
  | lod (d : Fin 2)
  /-- the next device can take a partial sum -/
  | rsc (d : Fin 2)
  /-- the next device can take a quantised chunk -/
  | agc (d : Fin 2)
  deriving DecidableEq, Fintype

/-- The semaphore of a cell. -/
def csem : CK → SemLoc sig
  | .bar => .reg ⟨4, by decide⟩
  | .snd d => .dma ⟨2 + d.val, by have := d.isLt; show _ < 25; omega⟩
  | .rcv d => .dma ⟨4 + d.val, by have := d.isLt; show _ < 25; omega⟩
  | .axs k => .dma ⟨6 + k.val, by have := k.isLt; show _ < 25; omega⟩
  | .axr j => .dma ⟨13 + j.val, by have := j.isLt; show _ < 25; omega⟩
  | .sto d => .dma ⟨21 + d.val, by have := d.isLt; show _ < 25; omega⟩
  | .lod d => .dma ⟨23 + d.val, by have := d.isLt; show _ < 25; omega⟩
  | .rsc d => .reg ⟨0 + d.val, by have := d.isLt; show _ < 5; omega⟩
  | .agc d => .reg ⟨2 + d.val, by have := d.isLt; show _ < 5; omega⟩

/-- All cells of a device. -/
def cks : List CK :=
  [.bar, .snd 0, .snd 1, .rcv 0, .rcv 1, .axs 0, .axs 1, .axs 2, .axs 3, .axs 4, .axs 5, .axs 6,
    .axr 0, .axr 1, .axr 2, .axr 3, .axr 4, .axr 5, .axr 6, .axr 7, .sto 0, .sto 1, .lod 0, .lod 1,
    .rsc 0, .rsc 1, .agc 0, .agc 1]

theorem mem_cks (ck : CK) : ck ∈ cks := by revert ck; decide

/-- Which cell a semaphore is. -/
def which : SemLoc sig → Option CK
  | .reg s => if s.val < 2 then .some (.rsc ⟨s.val % 2, Nat.mod_lt _ (by decide)⟩)
      else if s.val < 4 then .some (.agc ⟨s.val % 2, Nat.mod_lt _ (by decide)⟩) else .some .bar
  | .dma s => if s.val < 2 then .none
      else if s.val < 4 then .some (.snd ⟨s.val % 2, Nat.mod_lt _ (by decide)⟩)
      else if s.val < 6 then .some (.rcv ⟨s.val % 2, Nat.mod_lt _ (by decide)⟩)
      else if s.val < 13 then .some (.axs ⟨(s.val - 6) % 7, Nat.mod_lt _ (by decide)⟩)
      else if s.val < 21 then .some (.axr ⟨(s.val - 13) % 8, Nat.mod_lt _ (by decide)⟩)
      else if s.val < 23 then .some (.sto ⟨(s.val - 21) % 2, Nat.mod_lt _ (by decide)⟩)
      else .some (.lod ⟨(s.val - 23) % 2, Nat.mod_lt _ (by decide)⟩)

theorem which_csem (ck : CK) : which (csem ck) = .some ck := by
  revert ck; decide

theorem csem_inj : Function.Injective csem := fun a b h =>
  Option.some.inj ((which_csem a).symm.trans ((congrArg which h).trans (which_csem b)))

/-- The cell `ck` of device `c`. -/
abbrev cell (c : Dev nD) (ck : CK) : GSem nD τ sig := (tc c, csem ck)

theorem cell_inj {c c' : Dev nD} {ck ck' : CK} (h : cell c ck = cell c' ck') : c = c' ∧ ck = ck' :=
  ⟨congrArg (fun g => g.1.1) h, csem_inj (congrArg (fun g => g.2) h)⟩

/-! ## Rounds -/

/-- The `k`th device on in direction `0`. -/
def fwd (k : Nat) (c : Dev nD) : Dev nD := (nx 0)^[k] c

/-- The rounds a cell goes through. -/
def rounds (c : Dev nD) : CK → Nat
  | .bar => 1
  | .snd _ => 28
  | .rcv _ => 28
  | .axs _ => 1
  | .axr j => if j = c then 0 else 1
  | .sto _ => 18
  | .lod _ => 2
  | .rsc _ => 13
  | .agc _ => 14

/-- What a transfer of partial sums counts. -/
@[irreducible] def nC : Nat := (cS 0).view.dmaCredit
/-- What a transfer of quantised chunks counts. -/
@[irreducible] def nQ : Nat := (qS 0).view.dmaCredit
/-- What a transfer of a row of maxima counts. -/
@[irreducible] def nA : Nat := (aS 0).view.dmaCredit
/-- What a copy to the result counts. -/
@[irreducible] def nO : Nat := (oB 0 0).view.dmaCredit
/-- What a copy from the result counts. -/
@[irreducible] def nD' : Nat := (dH 0).view.dmaCredit

/-- What a round of a cell counts, from each of its payers. -/
def amt : CK → Nat → Nat
  | .bar, _ => 1
  | .snd _, r => if r < 14 then nC else nQ
  | .rcv _, r => if r < 14 then nC else nQ
  | .axs _, _ => nA
  | .axr _, _ => nA
  | .sto _, _ => nO
  | .lod _, _ => nD'
  | .rsc _, _ => 1
  | .agc _, _ => 1

theorem nC_pos : 0 < nC := by unfold nC; exact View.dmaCredit_pos _ (Shape.numel_pos (by decide))
theorem nQ_pos : 0 < nQ := by unfold nQ; exact View.dmaCredit_pos _ (Shape.numel_pos (by decide))
theorem nA_pos : 0 < nA := by unfold nA; exact View.dmaCredit_pos _ (Shape.numel_pos (by decide))
theorem nO_pos : 0 < nO := by unfold nO; exact View.dmaCredit_pos _ (Shape.numel_pos (by decide))
theorem nD_pos : 0 < nD' := by unfold nD'; exact View.dmaCredit_pos _ (Shape.numel_pos (by decide))

theorem amt_pos : ∀ (ck : CK) (r : Nat), 0 < amt ck r
  | .bar, _ => Nat.one_pos
  | .snd _, r => by show 0 < if r < 14 then nC else nQ; split; exacts [nC_pos, nQ_pos]
  | .rcv _, r => by show 0 < if r < 14 then nC else nQ; split; exacts [nC_pos, nQ_pos]
  | .axs _, _ => nA_pos
  | .axr _, _ => nA_pos
  | .sto _, _ => nO_pos
  | .lod _, _ => nD_pos
  | .rsc _, _ => Nat.one_pos
  | .agc _, _ => Nat.one_pos

/-- The payers of a round. -/
def duts (c : Dev nD) (ck : CK) (r : Nat) : Finset (Fin 2) :=
  if r < rounds c ck then (if ck = .bar then Finset.univ else {0}) else ∅

/-- The cell that the permission for transfer `k` of direction `d` is counted on, -/
def crC (d : Fin 2) (k : Nat) : CK := if k ≤ 13 then .rsc d else .agc d
/-- and the round. -/
def crR (k : Nat) : Nat := if k ≤ 13 then k - 1 else k - 14

section Payloads

variable (X : Dev nD → Vec F S4096x512 .f32) (W : Dev nD → Vec F S512x8192 .f32)

/-- The quantised chunk that device `c` has after `t` steps. -/
def qv (h d : Fin 2) (t : Nat) (c : Dev nD) : FVec F S512x2048 .fp8e4m3 := q0 X W h d (up d t c)

/-- The half of the columns that transfer `r` belongs to. -/
def hf (r : Nat) : Fin 2 := ⟨r / 7 % 2, Nat.mod_lt _ (by decide)⟩

/-- The rows of tables of maxima that travel on, at transfer `r` of device `c`. -/
def Bn (c : Dev nD) (d : Fin 2) (r : Nat) : sProp 𝕄 :=
  if d = 0 ∧ r < 7 then bigSep (Finset.Ico (r + 1) 8) fun k => some (F := F) (up 0 r c) (aS (fwd k (up 0 r c))) else iprop(emp)

instance Bn_storable (c : Dev nD) (d : Fin 2) (r : Nat) : BI.Storable (upEmb : UEmb _ 𝕄) (Bn (F := F) c d r) := by
  unfold Bn; split <;> infer_instance

/-- What device `c` sends at transfer `r`, in the slot it sends it from, at share `q`. -/
def Src (c : Dev nD) (d : Fin 2) (r : Nat) : sProp 𝕄 :=
  if r < 14 then owns (c : Thread nD τ) (cS (sl d (r % 7))) fullShare (acc X W (hf r) d (r % 7) c)
  else owns (c : Thread nD τ) (qS (sl d (r % 7))) (fullShare : PosShare TreeShare).left (qv X W (hf r) d (r % 7) c)

/-- What device `c` finds in its slot after transfer `r`. -/
def Got (c : Dev nD) (d : Fin 2) (r : Nat) : sProp 𝕄 :=
  if r < 14 then owns (c : Thread nD τ) (cS (sl d (r % 7 + 1))) fullShare (acc X W (hf r) d (r % 7) (pv d c))
  else owns (c : Thread nD τ) (qS (sl d (r % 7 + 1))) fullShare (qv X W (hf r) d (r % 7) (pv d c))

/-- The slot of device `c` that transfer `r` lands in. -/
def Land (c : Dev nD) (d : Fin 2) (r : Nat) : sProp 𝕄 :=
  if r < 14 then some (F := F) c (cS (sl d (r % 7 + 1))) else some (F := F) c (qS (sl d (r % 7 + 1)))

instance Src_storable (c : Dev nD) (d : Fin 2) (r : Nat) : BI.Storable (upEmb : UEmb _ 𝕄) (Src X W c d r) := by
  unfold Src; split <;> infer_instance
instance Got_storable (c : Dev nD) (d : Fin 2) (r : Nat) : BI.Storable (upEmb : UEmb _ 𝕄) (Got X W c d r) := by
  unfold Got; split <;> infer_instance
instance Land_storable (c : Dev nD) (d : Fin 2) (r : Nat) : BI.Storable (upEmb : UEmb _ 𝕄) (Land (F := F) c d r) := by
  unfold Land; split <;> infer_instance

/-- The chunk that device `c` has after `t` steps of direction `d`. -/
abbrev chunk (d : Fin 2) (t : Nat) (c : Dev nD) : Dev nD := nx d (up d t c)

/-- The share of its row that a device lends to its `k`th transfer of it. -/
def shr : Nat → PosShare TreeShare
  | 0 => (fullShare : PosShare TreeShare).left
  | 1 => (fullShare : PosShare TreeShare).right.left
  | 2 => (fullShare : PosShare TreeShare).right.right.left
  | 3 => (fullShare : PosShare TreeShare).right.right.right.left
  | 4 => (fullShare : PosShare TreeShare).right.right.right.right.left
  | 5 => (fullShare : PosShare TreeShare).right.right.right.right.right.left
  | _ => (fullShare : PosShare TreeShare).right.right.right.right.right.right

/-- What a copy to the result hands back. -/
def Sto (c : Dev nD) (d : Fin 2) (r : Nat) : sProp 𝕄 :=
  if r < 2 then
    iprop(owns (c : Thread nD τ) (oB (nx d c) (qd ⟨r % 2, Nat.mod_lt _ (by decide)⟩ d)) fullShare (acc X W ⟨r % 2, Nat.mod_lt _ (by decide)⟩ d 7 c)
      ∗ owns (c : Thread nD τ) (cS (sl d 1)) fullShare (acc X W ⟨r % 2, Nat.mod_lt _ (by decide)⟩ d 7 c))
  else
    iprop(owns (c : Thread nD τ) (oB (chunk d ((r - 2) % 8) c) (qd ⟨(r - 2) / 8 % 2, Nat.mod_lt _ (by decide)⟩ d)) fullShare
        (ob X W ⟨(r - 2) / 8 % 2, Nat.mod_lt _ (by decide)⟩ d (chunk d ((r - 2) % 8) c))
      ∗ owns (c : Thread nD τ) (dH d) fullShare (ob X W ⟨(r - 2) / 8 % 2, Nat.mod_lt _ (by decide)⟩ d (chunk d ((r - 2) % 8) c)))

instance Sto_storable (c : Dev nD) (d : Fin 2) (r : Nat) : BI.Storable (upEmb : UEmb _ 𝕄) (Sto X W c d r) := by
  unfold Sto; split <;> infer_instance

/-- What a copy from the result hands back. -/
def Lod (c : Dev nD) (d : Fin 2) (r : Nat) : sProp 𝕄 :=
  iprop(owns (c : Thread nD τ) (dH d) fullShare (acc X W ⟨r % 2, Nat.mod_lt _ (by decide)⟩ d 7 c)
      ∗ owns (c : Thread nD τ) (oB (nx d c) (qd ⟨r % 2, Nat.mod_lt _ (by decide)⟩ d)) fullShare (acc X W ⟨r % 2, Nat.mod_lt _ (by decide)⟩ d 7 c))

instance Lod_storable (c : Dev nD) (d : Fin 2) (r : Nat) : BI.Storable (upEmb : UEmb _ 𝕄) (Lod X W c d r) := by
  unfold Lod; infer_instance

/-- What round `r` of a cell hands to its device. -/
def pay (c : Dev nD) : CK → Nat → Fin 2 → sProp 𝕄
  | .bar, _, d => Land (F := F) (nx d c) d 0
  | .snd d, r, _ => Src X W c d r
  | .rcv d, r, _ => iprop(Got X W c d r ∗ reached ER (cell (pv d c) (crC d (r + 1))) (crR (r + 1)) ∗ Bn (F := F) (pv d c) d r)
  | .axs k, _, _ => owns (c : Thread nD τ) (aS c) (shr k.val) (amv X W c)
  | .axr j, _, _ => owns (c : Thread nD τ) (aS j) fullShare (amv X W j)
  | .sto d, r, _ => Sto X W c d r
  | .lod d, r, _ => Lod X W c d r
  | .rsc d, r, _ => iprop(Land (F := F) (nx d c) d (r + 1) ∗ reached ER (cell (nx d c) (.rcv d)) (r + 1))
  | .agc d, r, _ => iprop(Land (F := F) (nx d c) d (r + 14) ∗ reached ER (cell (nx d c) (.rcv d)) (r + 14))

instance pay_storable (c : Dev nD) (ck : CK) (r : Nat) (d : Fin 2) : BI.Storable (upEmb : UEmb _ 𝕄) (pay X W c ck r d) := by
  cases ck <;> simp only [pay] <;> infer_instance

/-- The schedule. -/
def ring : Rounds.Schedule (GSem nD τ sig) (Fin 2) 𝕄 where
  duties g r := match which g.2 with
    | .none => ∅
    | .some ck => duts g.1.1 ck r
  unitless _ := False
  amount g r _ := match which g.2 with
    | .none => 1
    | .some ck => amt ck r
  payload g r d := match which g.2 with
    | .none => iprop(emp)
    | .some ck => pay X W g.1.1 ck r d
  amount_pos g r _ _ := by
    cases which g.2 with
    | none => exact Nat.one_pos
    | some ck => exact amt_pos ck r

instance ring_storable (g : GSem nD τ sig) (r : ℕ) (d : Fin 2) : BI.Storable (upEmb : UEmb _ 𝕄) ((ring X W).payload g r d) := by
  simp only [ring]
  cases which g.2 <;> simp only <;> infer_instance

variable (c : Dev nD) (ck : CK) (r : Nat) (d : Fin 2)

theorem ring_duties : (ring X W).duties (cell c ck) r = duts c ck r := by
  simp only [ring, which_csem]
theorem ring_amount : (ring X W).amount (cell c ck) r d = amt ck r := by
  simp only [ring, which_csem]
theorem ring_payload : (ring X W).payload (cell c ck) r d = pay X W c ck r d := by
  simp only [ring, which_csem]

theorem ring_expect (hb : ck ≠ .bar) (hr : r < rounds c ck) : (ring X W).expect (cell c ck) r = amt ck r := by
  unfold Schedule.expect Schedule.amountOf
  rw [ring_duties, duts, if_pos hr, if_neg hb, Finset.sum_singleton, ring_amount]

theorem ring_expect_bar : (ring X W).expect (cell c .bar) 0 = 2 := by
  unfold Schedule.expect Schedule.amountOf
  rw [ring_duties, duts, if_pos (show 0 < rounds c .bar from Nat.one_pos), if_pos rfl]
  simp only [ring_amount, amt, Finset.sum_const, Finset.card_univ, Fintype.card_fin, smul_eq_mul, mul_one]

theorem mem_duties (hr : r < rounds c ck) : (0 : Fin 2) ∈ (ring X W).duties (cell c ck) r := by
  rw [ring_duties, duts, if_pos hr]; split
  · exact Finset.mem_univ _
  · exact Finset.mem_singleton_self _

theorem ring_rest (hb : ck ≠ .bar) (hr : r < rounds c ck) :
    bigSep ((ring X W).duties (cell c ck) r \ ∅) (fun d => (ring X W).payload (cell c ck) r d) = pay X W c ck r 0 := by
  rw [Finset.sdiff_empty, ring_duties, duts, if_pos hr, if_neg hb, bigSep_singleton, ring_payload]

theorem ring_later (hr : rounds c ck ≤ r) : (ring X W).duties (cell c ck) r = ∅ := by
  rw [ring_duties, duts, if_neg (by omega)]

end Payloads

/-! ## What a device owes, in the order in which it pays -/

/-- The place of transfer `r` of direction `d` among a device's payments. -/
def txI (r : Nat) (d : Fin 2) : Nat := if r < 14 then 2 + 4 * r + d.val else 9 + 4 * r + d.val
/-- The place of the permission for transfer `k`. -/
def crI (k : Nat) (d : Fin 2) : Nat := if k ≤ 14 then 4 * k + d.val else 7 + 4 * k + d.val

/-- The level of a round of a cell: the place of the payment, the barrier's being taken together. -/
def lvl : CK → Nat → Nat
  | .bar, _ => 1
  | .rcv d, r => txI r d
  | .axr _, _ => 64
  | .rsc d, r => crI (r + 1) d
  | .agc d, r => crI (r + 14) d
  | _, _ => 0

/-- A payment. -/
inductive Slot
  /-- a unit of a neighbour's barrier -/
  | bar (d : Fin 2)
  /-- transfer `r` -/
  | tx (d : Fin 2) (r : Nat)
  /-- the permission for transfer `k` -/
  | cr (d : Fin 2) (k : Nat)
  /-- the row of maxima, to the `k`th device on -/
  | ax (k : Nat)
  deriving DecidableEq

/-- The payment at place `i`. -/
def slot (i : Nat) : Slot :=
  if i < 2 then .bar ⟨i % 2, Nat.mod_lt _ (by decide)⟩
  else if i < 58 then
    (if (i - 2) % 4 < 2 then .tx ⟨i % 2, Nat.mod_lt _ (by decide)⟩ ((i - 2) / 4) else .cr ⟨i % 2, Nat.mod_lt _ (by decide)⟩ ((i - 2) / 4 + 1))
  else if i < 65 then .ax (i - 57)
  else
    (if (i - 9) % 4 < 2 then .tx ⟨(i + 1) % 2, Nat.mod_lt _ (by decide)⟩ ((i - 9) / 4) else .cr ⟨(i + 1) % 2, Nat.mod_lt _ (by decide)⟩ ((i - 9) / 4 + 1))

/-- Which device's which cell a payment goes to, and the round. -/
def due (c : Dev nD) : Slot → Dev nD × CK × Nat
  | .bar d => (pv d c, .bar, 0)
  | .tx d r => (nx d c, .rcv d, r)
  | .cr d k => (pv d c, crC d k, crR k)
  | .ax k => (fwd k c, .axr c, 0)

/-- The payment itself. -/
def dueAt (c : Dev nD) (i : Nat) : CellTallies nD τ sig ℕ :=
  tallyAt (cell (due c (slot i)).1 (due c (slot i)).2.1) (due c (slot i)).2.2 (amt (due c (slot i)).2.1 (due c (slot i)).2.2)

/-- What is still owed after `n` payments. -/
def owed (c : Dev nD) (n : Nat) : CellTallies nD τ sig ℕ := ∑ i ∈ Finset.Ico n 119, dueAt c i

theorem owed_step (c : Dev nD) (n : Nat) (h : n < 119) : owed c n = owed c (n + 1) + dueAt c n := by
  unfold owed; rw [Finset.sum_eq_sum_Ico_succ_bot h, add_comm]

theorem owed_end (c : Dev nD) : owed c 119 = 0 := by unfold owed; rw [Finset.Ico_self, Finset.sum_empty]

theorem slot_bar : ∀ d : Fin 2, slot d.val = .bar d := by decide
theorem slot_tx : ∀ (r : Fin 28) (d : Fin 2), slot (txI r.val d) = .tx d r.val := by decide
theorem slot_cr : ∀ (k : Fin 27) (d : Fin 2), slot (crI (k.val + 1) d) = .cr d (k.val + 1) := by decide
theorem slot_ax : ∀ k : Fin 7, slot (58 + k.val) = .ax (k.val + 1) := by decide

/-- The level of a payment, without the device. -/
def slvl : Slot → Nat
  | .bar _ => 1
  | .tx d r => txI r d
  | .cr d k => lvl (crC d k) (crR k)
  | .ax _ => 64

theorem slvl_eq (c : Dev nD) (s : Slot) : lvl (due c s).2.1 (due c s).2.2 = slvl s := by cases s <;> rfl

/-- The round of a payment. -/
def srnd : Slot → Nat
  | .bar _ => 0
  | .tx _ r => r
  | .cr _ k => crR k
  | .ax _ => 0

theorem srnd_eq (c : Dev nD) (s : Slot) : (due c s).2.2 = srnd s := by cases s <;> rfl

theorem slvl_slot : ∀ i : Fin 119, i.val ≤ slvl (slot i.val) ∧ 1 ≤ slvl (slot i.val) ∧ srnd (slot i.val) < 28 := by decide

/-- The indices at which a cell may be waited for. -/
def Lx (g : GSem nD τ sig) : Finset ℕ := if g.1.2 = .tc then Finset.range 28 else ∅
/-- The levels. -/
def lv (g : GSem nD τ sig) (r : ℕ) : ℕ := match which g.2 with
  | .none => 0
  | .some ck => lvl ck r

theorem Lx_cell (c : Dev nD) (sm : SemLoc sig) : Lx (tc c, sm) = Finset.range 28 := if_pos rfl
theorem lv_cell (c : Dev nD) (ck : CK) (r : ℕ) : lv (cell c ck) r = lvl ck r := by simp only [lv, which_csem]

theorem owed_pos {c : Dev nD} {n : Nat} {g : GSem nD τ sig} {r : ℕ} (h : 0 < owed c n g r) :
    r ∈ Lx g ∧ max n 1 ≤ lv g r := by
  unfold owed at h
  rw [Finset.sum_apply, Finsupp.finset_sum_apply] at h
  obtain ⟨i, hi, hp⟩ := Finset.exists_ne_zero_of_sum_ne_zero (Nat.pos_iff_ne_zero.mp h)
  obtain ⟨h1, h2⟩ := Finset.mem_Ico.mp hi
  unfold dueAt at hp
  rw [tallyAt_apply] at hp
  by_cases hg : g = cell (due c (slot i)).1 (due c (slot i)).2.1 ∧ r = (due c (slot i)).2.2
  · obtain ⟨rfl, rfl⟩ := hg
    obtain ⟨h3, h4, h5⟩ := slvl_slot ⟨i, h2⟩
    rw [Lx_cell, lv_cell, slvl_eq, srnd_eq]
    exact ⟨Finset.mem_range.mpr h5, max_le (h1.trans h3) h4⟩
  · rw [if_neg hg] at hp; exact absurd rfl hp

/-- A wait is allowed for what lies below all that is still owed. -/
theorem mayWait_at (c : Dev nD) (sm : SemLoc sig) (r n : Nat) (hr : r < 28) (h : lv (tc c, sm) r < max n 1) :
    (levAts Lx lv : sProp 𝕄) ⊢ MayWait (c : Thread nD τ) sm r (owed c n) :=
  MayOwe.of_cut (L := Lx) (lev := lv) (max n 1 - 1)
    (fun p hp => by rw [Finset.mem_singleton.mp hp]; exact (Lx_cell c sm).symm ▸ Finset.mem_range.mpr hr)
    (fun g u hg => (owed_pos hg).1)
    (fun p hp => by rw [Finset.mem_singleton.mp hp]; show lv (tc c, sm) r ≤ _; omega)
    (fun g u hg => by have := (owed_pos hg).2; omega)

end Cert.Proof.KI
-- ==== Proof.Steps.lean ====
/- One lemma for each kind of step of the kernel that involves a semaphore. -/
module

public import proofs.«01_k».proof.Proof.Proto

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Names of the parts -/

theorem cS_of {j : Fin 4} {off : Fin 3 → Nat} {inb} (h : off = ![j.val, 0, 0]) :
    ((Memref.whole cc0_scratch0).slice (Rect.unit (s := S4x512x2048) off S1x512x2048.size inb) (fun _ => rfl)).squeeze S512x2048 squeezes_S1x512x2048_S512x2048 = cS j := by
  subst h; rfl
theorem qS_of {j : Fin 4} {off : Fin 3 → Nat} {inb} (h : off = ![j.val, 0, 0]) :
    ((Memref.whole cc0_scratch1).slice (Rect.unit (s := S4x512x2048) off S1x512x2048.size inb) (fun _ => rfl)).squeeze S512x2048 squeezes_S1x512x2048_S512x2048 = qS j := by
  subst h; rfl
theorem dH_of {d : Fin 2} {off : Fin 2 → Nat} {inb} (h : off = ![0, 2048 * d.val]) :
    (Memref.whole cc0_scratch2).slice (Rect.unit (s := S512x4096) off S512x2048.size inb) (fun _ => rfl) = dH d := by
  subst h; rfl
theorem aS_of {j : Fin 8} {off : Fin 3 → Nat} {inb} (h : off = ![j.val, 0, 0]) :
    ((Memref.whole cc0_scratch3).slice (Rect.unit (s := S8x8x128) off S1x8x128.size inb) (fun _ => rfl)).squeeze S8x128 squeezes_S1x8x128_S8x128 = aS j := by
  subst h; rfl
theorem oB_of {k : Fin 8} {b : Fin 4} {off : Fin 2 → Nat} {inb} (h : off = ![512 * k.val, 2048 * b.val]) :
    (Memref.whole main_v1).slice (Rect.unit (s := S4096x8192) off S512x2048.size inb) (fun _ => rfl) = oB k b := by
  subst h; rfl

theorem cS_credit (j : Fin 4) : (cS j).view.dmaCredit = nC := by unfold nC; rfl
theorem qS_credit (j : Fin 4) : (qS j).view.dmaCredit = nQ := by unfold nQ; rfl
theorem dH_credit (d : Fin 2) : (dH d).view.dmaCredit = nD' := by unfold nD'; rfl
theorem aS_credit (j : Fin 8) : (aS j).view.dmaCredit = nA := by unfold nA; rfl
theorem oB_credit (k : Fin 8) (b : Fin 4) : (oB k b).view.dmaCredit = nO := by unfold nO; rfl

/-! ## What the devices share, and what one of them holds of a cell -/

section Records

variable (X : Dev nD → Vec F S4096x512 .f32) (W : Dev nD → Vec F S512x8192 .f32) (K : Dev nD × CK → ℕ)

/-- The cells' invariants, that they have begun, and the levels. -/
def recs : sProp 𝕄 :=
  iprop((bigSep Finset.univ fun p : Dev nD × CK => cellInv ER (ring X W) (K p) (cell p.1 p.2))
    ∗ (bigSep Finset.univ fun p : Dev nD × CK => reached ER (cell p.1 p.2) 0) ∗ levAts Lx lv)

instance recs_persistent : BI.Persistent (recs X W K) := by unfold recs; infer_instance

theorem recs_inv (c : Dev nD) (ck : CK) : recs X W K ⊢ cellInv ER (ring X W) (K (c, ck)) (cell c ck) := by
  have h : (bigSep Finset.univ fun p : Dev nD × CK => (cellInv ER (ring X W) (K p) (cell p.1 p.2) : sProp 𝕄)) ⊢ cellInv ER (ring X W) (K (c, ck)) (cell c ck) :=
    bigSep_elim (Finset.mem_univ (c, ck))
  unfold recs
  iintro ⟨H, -, -⟩
  iapply h
  iexact H

theorem recs_zero (c : Dev nD) (ck : CK) : recs X W K ⊢ (reached ER (cell c ck) 0 : sProp 𝕄) := by
  have h : (bigSep Finset.univ fun p : Dev nD × CK => (reached ER (cell p.1 p.2) 0 : sProp 𝕄)) ⊢ reached ER (cell c ck) 0 :=
    bigSep_elim (Finset.mem_univ (c, ck))
  unfold recs
  iintro ⟨-, H, -⟩
  iapply h
  iexact H

theorem recs_may (c : Dev nD) (sm : SemLoc sig) (r n : Nat) (hr : r < 28) (h : lv (tc c, sm) r < max n 1) :
    recs X W K ⊢ (MayWait (c : Thread nD τ) sm r (owed c n) : sProp 𝕄) := by
  unfold recs
  iintro ⟨-, -, H⟩
  iapply (mayWait_at c sm r n hr h)
  iexact H

variable (c : Dev nD)

/-- A device has made its first `n` payments. -/
def Own (n : Nat) : sProp 𝕄 := iprop(∃ Wt, owes (c : Thread nD τ) (owed c n) Wt)
/-- A device stands at round `r` of its own cell. -/
def At (ck : CK) (r : Nat) : sProp 𝕄 := iprop(atPos ER (cell c ck) r ∅ 0 ∗ reached ER (cell c ck) r)
/-- The right to pay for round `r` of a cell. -/
def Tok (ck : CK) (r : Nat) (d : Fin 2) : sProp 𝕄 := dutyTok ER (cell c ck) r d
/-- The certainty that round `r` of a cell is paid for. -/
def Crd (ck : CK) (r : Nat) : sProp 𝕄 := cred (tallyAt (cell c ck) r (amt ck r))

variable {α : Type} {Q : α → sProp (MT nD τ sig ℕ (Elt F) ℕ UU ℕ)}

/-- A wait, on a cell of one payer. -/
theorem wait_any {ck : CK} {r n : Nat} (hb : ck ≠ .bar) (hr : r < rounds c ck) (h28 : r < 28) (hl : lvl ck r < max n 1)
    {sm : SemLoc sig} (hs : csem ck = sm) {k' : Nat} {w : TpuEff nD τ sig (Elt F) Λ₀ .tc PUnit}
    (hw : ∀ K : PUnit → sProp 𝕄, wpE (defs₀ (F := F)) Variants.none (c : Thread nD τ) none Set.univ w K = waitSpec (c : Thread nD τ) Set.univ sm k' K)
    (hk : k' = amt ck r) {k : PUnit → Prog (TpuEff nD τ sig (Elt F) Λ₀ .tc) α} :
    iprop(recs X W K ∗ Own (F := F) c n ∗ Crd (F := F) c ck r ∗ At (F := F) c ck r)
      ⊢ iprop(((Own (F := F) c n ∗ At (F := F) c ck (r + 1) ∗ pay X W c ck r 0) -∗ WP c (k ⟨⟩) Q) -∗ WP c (.op w k) Q) := by
  subst hs hk
  unfold Own At Crd
  iintro ⟨#R, ⟨%Wt, HO⟩, HC, HA, -⟩ Hk
  iapply (Rounds.wp_wait_rest_token Variants.none ER (ring X W) (c : Thread nD τ) none (κ := K (c, ck)) hw (Set.mem_univ _) r
    (O := owed c n) (W := Wt) (R := r) (m := 0) (T := ∅) (by rw [Nat.zero_add]; exact (ring_expect X W c ck r hb hr).symm)) $$ [HC HO HA]
  · isplitr; · iapply (recs_inv X W K c ck); iexact R
    isplitl [HC]; · iexact HC
    isplitl [HO]; · iexact HO
    isplitr; · iapply (recs_may X W K c (csem ck) r n h28 (by rw [lv_cell]; exact hl)); iexact R
    iexact HA
  iintro ⟨HO, HA, HR, HP⟩
  ihave HP := (Entails.of_eq (ring_rest X W c ck r hb hr)) $$ HP
  iapply Hk
  isplitl [HO]; · iexists _; iexact HO
  isplitl [HA HR]
  · isplitl [HA]; · iexact HA
    iexact HR
  iexact HP

/-- The barrier's wait. -/
theorem wait_bar {n : Nat} (hl : 1 < n) {sm : Sem sig} (hs : csem .bar = .reg sm) {k' : Nat} (hk : k' = 2)
    {k : PUnit → Prog (TpuEff nD τ sig (Elt F) Λ₀ .tc) α} :
    iprop(recs X W K ∗ Own (F := F) c n ∗ cred (tallyAt (cell c .bar) 0 2) ∗ At (F := F) c .bar 0)
      ⊢ iprop(((Own (F := F) c n ∗ At (F := F) c .bar 1 ∗ Land (F := F) (nx 0 c) 0 0 ∗ Land (F := F) (nx 1 c) 1 0) -∗ WP c (k ⟨⟩) Q)
          -∗ WP c (.op (.semWait sm k') k) Q) := by
  subst hk
  have hcell : cell c .bar = (tc c, .reg sm) := by unfold cell; rw [hs]
  have he := ring_expect_bar X W c
  have hrest : bigSep ((ring X W).duties (cell c .bar) 0 \ ∅) (fun d => (ring X W).payload (cell c .bar) 0 d)
      = iprop(Land (F := F) (nx 0 c) 0 0 ∗ Land (F := F) (nx 1 c) 1 0) := by
    rw [Finset.sdiff_empty, ring_duties, duts, if_pos (show 0 < rounds c .bar from Nat.one_pos), if_pos rfl]
    simp only [ring_payload]
    exact bigSep_univ_eq_bigSepL [0, 1] (by decide) (by decide) _
  have hi := recs_inv X W K c .bar
  have hm := recs_may X W K c (.reg sm) 0 n (by decide) (by rw [← hs, lv_cell]; show 1 < _; omega)
  rw [hcell] at he hrest hi
  unfold Own At
  rw [hcell]
  iintro ⟨#R, ⟨%Wt, HO⟩, HC, HA, -⟩ Hk
  iapply (Rounds.wp_wait_rest_token Variants.none ER (ring X W) (c : Thread nD τ) none (κ := K (c, .bar))
    (wpE_semWait_eq Variants.none (c : Thread nD τ) none Set.univ) (Set.mem_univ _) 0
    (O := owed c n) (W := Wt) (R := 0) (m := 0) (T := ∅) (by rw [Nat.zero_add]; exact he.symm)) $$ [HC HO HA]
  · isplitr; · iapply hi; iexact R
    isplitl [HC]; · iexact HC
    isplitl [HO]; · iexact HO
    isplitr; · iapply hm; iexact R
    iexact HA
  iintro ⟨HO, HA, HR, HP⟩
  ihave HP := (Entails.of_eq hrest) $$ HP
  iapply Hk
  isplitl [HO]; · iexists _; iexact HO
  isplitl [HA HR]
  · isplitl [HA]; · iexact HA
    iexact HR
  iexact HP

/-- A wait for a transfer. -/
theorem wait_dma {ck : CK} {r n : Nat} (hb : ck ≠ .bar) (hr : r < rounds c ck) (h28 : r < 28) (hl : lvl ck r < max n 1)
    {sm : DmaSem sig} (hs : csem ck = .dma sm) {sp sp' : Space} {s s' : Shape} {e e' : EltTy} {src : Memref sig .tc sp' s' e'} {dst : Memref sig .tc sp s e}
    {hsrc : src.view.WordExact} {hdst : dst.view.WordExact} (hk : dst.view.dmaCredit = amt ck r) {k : PUnit → Prog (TpuEff nD τ sig (Elt F) Λ₀ .tc) α} :
    iprop(recs X W K ∗ Own (F := F) c n ∗ Crd (F := F) c ck r ∗ At (F := F) c ck r)
      ⊢ iprop(((Own (F := F) c n ∗ At (F := F) c ck (r + 1) ∗ pay X W c ck r 0) -∗ WP c (k ⟨⟩) Q)
          -∗ WP c (.op (.waitDma2 sm src dst hsrc hdst) k) Q) :=
  wait_any X W K c hb hr h28 hl hs (wpE_waitDma2_eq Variants.none (c : Thread nD τ) none Set.univ) hk

/-- A wait for a permission. -/
theorem wait_reg {ck : CK} {r n : Nat} (hb : ck ≠ .bar) (hr : r < rounds c ck) (h28 : r < 28) (hl : lvl ck r < max n 1)
    {sm : Sem sig} (hs : csem ck = .reg sm) {k' : Nat} (hk : k' = amt ck r) {k : PUnit → Prog (TpuEff nD τ sig (Elt F) Λ₀ .tc) α} :
    iprop(recs X W K ∗ Own (F := F) c n ∗ Crd (F := F) c ck r ∗ At (F := F) c ck r)
      ⊢ iprop(((Own (F := F) c n ∗ At (F := F) c ck (r + 1) ∗ pay X W c ck r 0) -∗ WP c (k ⟨⟩) Q)
          -∗ WP c (.op (.semWait sm k') k) Q) :=
  wait_any X W K c hb hr h28 hl hs (wpE_semWait_eq Variants.none (c : Thread nD τ) none Set.univ) hk

/-- A payment of one unit. -/
theorem signal_any {c' : Dev nD} {ck : CK} {r n : Nat} {d : Fin 2} (hn : n < 119) (hdue : due c (slot n) = (c', ck, r))
    (hd : d ∈ duts c' ck r) (ha : amt ck r = 1) {sm : Sem sig} (hs : csem ck = .reg sm) {k' : Nat} (hk : k' = 1) {c'' : Dev nD} (hc : c'' = c')
    {k : PUnit → Prog (TpuEff nD τ sig (Elt F) Λ₀ .tc) α} :
    iprop(recs X W K ∗ Own (F := F) c n ∗ Tok (F := F) c' ck r d ∗ pay X W c' ck r d ∗ reached ER (cell c' ck) r)
      ⊢ iprop((Own (F := F) c (n + 1) -∗ WP c (k ⟨⟩) Q) -∗ WP c (.op (.semSignal (c'' : Thread nD τ) sm k') k) Q) := by
  subst hk hc
  have hcell : cell c'' ck = (tc c'', .reg sm) := by unfold cell; rw [hs]
  have ho : owed c n = owed c (n + 1) + tallyAt (cell c'' ck) r 1 := by
    rw [owed_step c n hn]; unfold dueAt; rw [hdue]; simp only [ha]
  have h1 := ring_duties X W c'' ck r
  have h2 := ring_amount X W c'' ck r d
  have h3 := ring_payload X W c'' ck r d
  have hi := recs_inv X W K c'' ck
  rw [hcell] at ho h1 h2 h3 hi
  unfold Own Tok
  rw [hcell]
  iintro ⟨#R, ⟨%Wt, HO⟩, HT, HP, HR⟩ Hk
  iapply (Rounds.wp_signal Variants.none ER (ring X W) (c : Thread nD τ) none (dst := (c'' : Thread nD τ)) (κ := K (c'', ck)) (r := r)
      (d := d) (by rw [h1]; exact hd) (h2.trans ha) r (owed c (n + 1)) ho) $$ [HO HT HP HR]
  · isplitr; · iapply hi; iexact R
    isplitl [HO]; · iexact HO
    isplitl [HT]; · iexact HT
    isplitl [HP]; · rw [h3]; iexact HP
    iexact HR
  iintro HO
  iapply Hk
  iexists _; iexact HO

/-- A copy on the device itself. -/
theorem copy_any {ck : CK} {r : Nat} (hb : ck ≠ .bar) (hr : r < rounds c ck) {sp sp' : Space} {s : Shape} {e : EltTy} {src src' : Memref sig .tc sp s e}
    {dst dst' : Memref sig .tc sp' s e} (es : src' = src) (ed : dst' = dst) (Y : s.Idx → Elt F e) {q : PosShare TreeShare}
    (hp : iprop(owns (c : Thread nD τ) dst fullShare Y ∗ owns (c : Thread nD τ) src q Y) ⊢ pay X W c ck r 0)
    {sm : DmaSem sig} (hs : csem ck = .dma sm) (hN : dst.view.dmaCredit = amt ck r)
    {hsrc : src'.view.WordExact} {hdst : dst'.view.WordExact} {hsem : DmaTarget.Typed (nD := nD) (τ := τ) (p := (.tc : Proc τ)) sp (.dma sm) (.here dst')}
    {k : PUnit → Prog (TpuEff nD τ sig (Elt F) Λ₀ .tc) α} :
    iprop(recs X W K ∗ owns (c : Thread nD τ) src q Y ∗ some (F := F) c dst ∗ Tok (F := F) c ck r 0 ∗ At (F := F) c ck r)
      ⊢ iprop(((Crd (F := F) c ck r ∗ At (F := F) c ck r) -∗ WP c (k ⟨⟩) Q)
          -∗ WP c (.op (.enqueueDma src' (.here dst') (.dma sm) hsrc hdst hsem) k) Q) := by
  subst es ed
  have hcell : cell c ck = (tc c, .dma sm) := by unfold cell; rw [hs]
  have h1 := mem_duties X W c ck r hr
  have h2 := ring_amount X W c ck r 0
  have h3 := ring_payload X W c ck r 0
  have hi := recs_inv X W K c ck
  rw [hcell] at h1 h2 h3 hi
  unfold Tok At Crd some
  rw [hcell]
  iintro ⟨#R, HS, ⟨%Z, HD⟩, HT, HA, #HR⟩ Hk
  unfold owns at *
  icases HS with ⟨%fs, %hfs, HS⟩
  icases HD with ⟨%fd, -, HD⟩
  iapply (Rounds.wp_copy_pointsTo Variants.none ER (ring X W) (c : Thread nD τ) none (κ := K (c, ck)) (r := r) (d := 0)
    (src := src') (dst := dst') (sem := .dma sm) (q := q) (fs := fs) (fd := fd) h1 r (amt ck r) hN h2 (by
      rw [h3]
      refine BIBase.Entails.trans ?_ hp
      iintro ⟨HD, HS⟩
      isplitl [HD]
      · iexists _; iframe HD; ipureintro; rw [View.read_write_univ]; exact hfs
      · iexists _; iframe HS; ipureintro; exact hfs)) $$ [HS HD HT]
  · isplitr; · iapply hi; iexact R
    isplitl [HS]; · iexact HS
    isplitl [HD]; · iexact HD
    isplitl [HT]; · iexact HT
    iexact HR
  iintro HC
  iapply Hk
  isplitl [HC]; · iexact HC
  isplitl [HA]; · iexact HA
  iexact HR

/-- A transfer to another device. -/
theorem send_any {c' : Dev nD} {ckS ckR : CK} {r n : Nat} (hn : n < 119) (hdue : due c (slot n) = (c', ckR, r))
    (hS : r < rounds c ckS) (hR : r < rounds c' ckR) {sp sp' : Space} {s : Shape} {e : EltTy} {src src' : Memref sig .tc sp s e}
    {dst dst' : Memref sig .tc sp' s e} (es : src' = src) (ed : dst' = dst) (Y : s.Idx → Elt F e) {q : PosShare TreeShare} (Fr : sProp 𝕄)
    (hp1 : (owns (c : Thread nD τ) src q Y : sProp 𝕄) ⊢ pay X W c ckS r 0)
    (hp2 : iprop(owns (c' : Thread nD τ) dst fullShare Y ∗ Fr) ⊢ pay X W c' ckR r 0)
    {sS sR : DmaSem sig} (hsS : csem ckS = .dma sS) (hsR : csem ckR = .dma sR) (hN : dst.view.dmaCredit = amt ckR r) (hN' : amt ckS r = amt ckR r)
    {c'' : Dev nD} (hc : c'' = c') {hsc : dst'.view.ref.isScScratch = false}
    {hsrc : src'.view.WordExact} {hdst : dst'.view.WordExact}
    {hsem : DmaTarget.Typed (nD := nD) (τ := τ) (p := (.tc : Proc τ)) sp (.dma sR) (.remote (Dev.tc c'' : Thread nD τ) dst' (.dma sS) hsc)}
    {k : PUnit → Prog (TpuEff nD τ sig (Elt F) Λ₀ .tc) α} :
    iprop(recs X W K ∗ Own (F := F) c n ∗ owns (c : Thread nD τ) src q Y ∗ some (F := F) c' dst ∗ Fr
        ∗ Tok (F := F) c ckS r 0 ∗ At (F := F) c ckS r ∗ Tok (F := F) c' ckR r 0 ∗ reached ER (cell c' ckR) r)
      ⊢ iprop(((Own (F := F) c (n + 1) ∗ Crd (F := F) c ckS r ∗ At (F := F) c ckS r) -∗ WP c (k ⟨⟩) Q)
          -∗ WP c (.op (.enqueueDma src' (.remote (Dev.tc c'' : Thread nD τ) dst' (.dma sS) hsc) (.dma sR) hsrc hdst hsem) k) Q) := by
  subst es ed hc
  have hcS : cell c ckS = (tc c, .dma sS) := by unfold cell; rw [hsS]
  have hcR : cell c'' ckR = (tc c'', .dma sR) := by unfold cell; rw [hsR]
  have ho : owed c n = owed c (n + 1) + tallyAt (cell c'' ckR) r (amt ckR r) := by
    rw [owed_step c n hn]; unfold dueAt; rw [hdue]
  have h1 := mem_duties X W c ckS r hS
  have h2 := ring_amount X W c ckS r 0
  have h3 := ring_payload X W c ckS r 0
  have hi := recs_inv X W K c ckS
  have h1' := mem_duties X W c'' ckR r hR
  have h2' := ring_amount X W c'' ckR r 0
  have h3' := ring_payload X W c'' ckR r 0
  have hi' := recs_inv X W K c'' ckR
  rw [hcS] at h1 h2 h3 hi
  rw [hcR] at h1' h2' h3' hi' ho
  unfold Tok At Crd some Own
  rw [hcS, hcR]
  iintro ⟨#R, ⟨%Wt, HO⟩, HS, ⟨%Z, HD⟩, HF, HT, ⟨HA, #HRS⟩, HT', #HRR⟩ Hk
  unfold owns at *
  icases HS with ⟨%fs, %hfs, HS⟩
  icases HD with ⟨%fd, -, HD⟩
  iapply (Rounds.wp_send_pointsTo_with Variants.none ER (ring X W) (c : Thread nD τ) none (c' := (c'' : Thread nD τ)) (κ₁ := K (c, ckS)) (κ₂ := K (c'', ckR))
    (r₁ := r) (r₂ := r) (d₁ := 0) (d₂ := 0) (sS := .dma sS) (F := Fr)
    (src := src') (dst := dst') (sem := .dma sR) (q := q) (fs := fs) (fd := fd) h1 h1' r r (amt ckR r) hN (h2.trans hN') h2' (owed c (n + 1)) ho (by
      rw [h3]
      refine BIBase.Entails.trans ?_ hp1
      iintro HS
      iexists _; iframe HS; ipureintro; exact hfs) (by
      rw [h3']
      refine BIBase.Entails.trans ?_ hp2
      iintro ⟨HD, HF⟩
      isplitl [HD]
      · iexists _; iframe HD; ipureintro; rw [View.read_write_univ]; exact hfs
      · iexact HF)) $$ [HO HS HD HF HT HT']
  · isplitr; · iapply hi; iexact R
    isplitr; · iapply hi'; iexact R
    isplitl [HS]; · iexact HS
    isplitl [HD HF]
    · isplitl [HD]; · iexact HD
      iexact HF
    isplitl [HO]; · iexact HO
    isplitl [HT]; · iexact HT
    isplitr; · iexact HRS
    isplitl [HT']; · iexact HT'
    iexact HRR
  iintro ⟨HC, HO⟩
  iapply Hk
  isplitl [HO]; · iexists _; iexact HO
  isplitl [HC]; · rw [hN']; iexact HC
  isplitl [HA]; · iexact HA
  iexact HRS

end Records

end Cert.Proof.KI
-- ==== Proof.Ring.lean ====
/- The states a direction of the ring goes through, and the steps between them. -/
module

public import proofs.«01_k».proof.Proof.Steps

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Ranges -/

theorem ico_peel (n m : Nat) (h : n < m) (Φ : Nat → sProp 𝕄) :
    bigSep (Finset.Ico n m) Φ = iprop(Φ n ∗ bigSep (Finset.Ico (n + 1) m) Φ) := by
  have : Finset.Ico n m = insert n (Finset.Ico (n + 1) m) := by
    ext i; simp only [Finset.mem_Ico, Finset.mem_insert]; omega
  rw [this, bigSep_insert (by simp)]; rfl

theorem ico_snoc (n m : Nat) (h : n ≤ m) (Φ : Nat → sProp 𝕄) :
    bigSep (Finset.Ico n (m + 1)) Φ = iprop(Φ m ∗ bigSep (Finset.Ico n m) Φ) := by
  have : Finset.Ico n (m + 1) = insert m (Finset.Ico n m) := by
    ext i; simp only [Finset.mem_Ico, Finset.mem_insert]; omega
  rw [this, bigSep_insert (by simp)]; rfl

theorem ico_nil (n : Nat) (Φ : Nat → sProp 𝕄) : bigSep (Finset.Ico n n) Φ = iprop(emp) := by
  rw [Finset.Ico_self]; rfl

/-! ## A direction -/

section States

variable (c : Dev nD) (d : Fin 2)

/-- What transfer `r` still needs. -/
def Rnd (r : Nat) : sProp 𝕄 :=
  iprop(Tok c (.snd d) r 0 ∗ Tok (nx d c) (.rcv d) r 0 ∗ Crd c (.rcv d) r)
/-- What the transfers from `r` on still need. -/
def Rnds (r : Nat) : sProp 𝕄 := bigSep (Finset.Ico r 28) fun i => Rnd c d i
/-- The right to give the permissions from `k` on. -/
def CrS (k : Nat) : sProp 𝕄 := bigSep (Finset.Ico k 28) fun i => Tok (pv d c) (crC d i) (crR i) 0
/-- The certainty of being given the permissions from `k` on. -/
def CrW (k : Nat) : sProp 𝕄 := bigSep (Finset.Ico k 28) fun i => Crd c (crC d i) (crR i)
/-- The permissions up to `k` are taken. -/
def CPos (k : Nat) : sProp 𝕄 := iprop(At c (.rsc d) (min k 13) ∗ At c (.agc d) (k - 13))

/-- Before the permission for transfer `r`. -/
def Hd (r : Nat) : sProp 𝕄 :=
  iprop(Rnds c d r ∗ CrS c d (r + 1) ∗ CrW c d r ∗ CPos c d (r - 1) ∗ At c (.snd d) r ∗ At c (.rcv d) r)
/-- Before transfer `r`, permitted. -/
def Md (r : Nat) : sProp 𝕄 :=
  iprop(Rnds c d r ∗ CrS c d (r + 1) ∗ CrW c d (r + 1) ∗ CPos c d r ∗ At c (.snd d) r ∗ At c (.rcv d) r
    ∗ Land (nx d c) d r ∗ reached ER (cell (nx d c) (.rcv d)) r)
/-- Transfer `r` is on its way. -/
def Fl (r : Nat) : sProp 𝕄 :=
  iprop(Rnds c d (r + 1) ∗ CrS c d (r + 1) ∗ CrW c d (r + 1) ∗ CPos c d r ∗ At c (.snd d) r ∗ At c (.rcv d) r
    ∗ Crd c (.snd d) r ∗ Crd c (.rcv d) r)
/-- Transfer `r` has left. -/
def Fs (r : Nat) : sProp 𝕄 :=
  iprop(Rnds c d (r + 1) ∗ CrS c d (r + 1) ∗ CrW c d (r + 1) ∗ CPos c d r ∗ At c (.snd d) (r + 1) ∗ At c (.rcv d) r
    ∗ Crd c (.rcv d) r)
/-- Transfer `r` has arrived. -/
def Af (r : Nat) : sProp 𝕄 :=
  iprop(Rnds c d (r + 1) ∗ CrS c d (r + 1) ∗ CrW c d (r + 1) ∗ CPos c d r ∗ At c (.snd d) (r + 1) ∗ At c (.rcv d) (r + 1)
    ∗ reached ER (cell (pv d c) (crC d (r + 1))) (crR (r + 1)))

theorem CPos_reached (r : Nat) : (CPos c d r : sProp 𝕄) ⊢ reached ER (cell c (crC d (r + 1))) (crR (r + 1)) := by
  unfold CPos At crC crR
  iintro ⟨⟨-, #H1⟩, -, #H2⟩
  by_cases h : r + 1 ≤ 13
  · rw [if_pos h, if_pos h, show r + 1 - 1 = min r 13 by omega]; iexact H1
  · rw [if_neg h, if_neg h, show r + 1 - 14 = r - 13 by omega]; iexact H2

/-- Taking permission `k`. -/
theorem CPos_step (k : Nat) (h1 : 1 ≤ k) :
    (CPos c d (k - 1) : sProp 𝕄) ⊢ iprop(At c (crC d k) (crR k) ∗ (At c (crC d k) (crR k + 1) -∗ CPos c d k)) := by
  unfold CPos crC crR
  by_cases h : k ≤ 13
  · rw [if_pos h, if_pos h, show min (k - 1) 13 = k - 1 by omega, show k - 1 - 13 = k - 13 by omega]
    iintro ⟨H1, H2⟩
    iframe H1
    iintro H
    iframe H2
    rw [show min k 13 = k - 1 + 1 by omega]; iexact H
  · rw [if_neg h, if_neg h, show min (k - 1) 13 = min k 13 by omega, show k - 1 - 13 = k - 14 by omega]
    iintro ⟨H1, H2⟩
    iframe H2
    iintro H
    iframe H1
    rw [show k - 13 = k - 14 + 1 by omega]; iexact H

end States

theorem crC_ne (d : Fin 2) (k : Nat) : crC d k ≠ .bar := by unfold crC; split <;> exact CK.noConfusion
theorem crR_lt (c : Dev nD) (d : Fin 2) (k : Nat) (h1 : 1 ≤ k) (h : k < 28) : crR k < rounds c (crC d k) := by
  unfold crC crR; split
  · show k - 1 < 13; omega
  · show k - 14 < 14; omega
theorem crR_28 (k : Nat) (h : k < 28) : crR k < 28 := by unfold crR; split <;> omega
theorem crC_lvl (d : Fin 2) (k : Nat) (h1 : 1 ≤ k) : lvl (crC d k) (crR k) = crI k d := by
  unfold crC crR; split
  · show crI (k - 1 + 1) d = _; rw [Nat.sub_add_cancel h1]
  · show crI (k - 14 + 14) d = _; rw [Nat.sub_add_cancel (by omega)]
theorem amt_cr (d : Fin 2) (k : Nat) : amt (crC d k) (crR k) = 1 := by unfold crC; split <;> rfl

section Steps

variable (X : Dev nD → Vec F S4096x512 .f32) (W : Dev nD → Vec F S512x8192 .f32) (K : Dev nD × CK → ℕ) (c : Dev nD) (d : Fin 2)

theorem pay_cr (k : Nat) (h1 : 1 ≤ k) :
    pay X W c (crC d k) (crR k) 0 = iprop(Land (F := F) (nx d c) d k ∗ reached ER (cell (nx d c) (.rcv d)) k) := by
  unfold crC crR
  by_cases h : k ≤ 13
  · rw [if_pos h, if_pos h]; show iprop(Land _ d (k - 1 + 1) ∗ reached ER _ (k - 1 + 1)) = _; rw [Nat.sub_add_cancel h1]
  · rw [if_neg h, if_neg h]; show iprop(Land _ d (k - 14 + 14) ∗ reached ER _ (k - 14 + 14)) = _; rw [Nat.sub_add_cancel (by omega)]

variable {α : Type} {Q : α → sProp (MT nD τ sig ℕ (Elt F) ℕ UU ℕ)}

/-- Taking the permission for transfer `r`. -/
theorem st_credit {r n : Nat} (h1 : 1 ≤ r) (hr : r < 28) (hl : crI r d < max n 1) {sm : Sem sig} (hs : csem (crC d r) = .reg sm)
    {k' : Nat} (hk : k' = 1) {k : PUnit → Prog (TpuEff nD τ sig (Elt F) Λ₀ .tc) α} :
    iprop(recs X W K ∗ Own (F := F) c n ∗ Hd (F := F) c d r)
      ⊢ iprop(((Own (F := F) c n ∗ Md (F := F) c d r) -∗ WP c (k ⟨⟩) Q) -∗ WP c (.op (.semWait sm k') k) Q) := by
  unfold Hd Md CrW
  rw [ico_peel r 28 hr]
  iintro ⟨#R, HO, H1, H2, ⟨HC, H3⟩, H4, H5, H6⟩ Hk
  ihave H4 := (CPos_step (F := F) c d r h1) $$ H4
  icases H4 with ⟨HA, H4⟩
  iapply (wait_reg X W K c (crC_ne d r) (crR_lt c d r h1 hr) (crR_28 r hr) (by rw [crC_lvl d r h1]; exact hl) hs (hk.trans (amt_cr d r).symm)) $$ [HO HC HA]
  · iframe R HO HC HA
  rw [pay_cr X W c d r h1]
  iintro ⟨HO, HA, HL, HR⟩
  ihave H4 := H4 $$ HA
  iapply Hk
  iframe

/-- Transfer `r`. -/
theorem st_send {r n : Nat} (hr : r < 28) (hi : n = txI r d) {s : Shape} {e : EltTy} {src src' dst dst' : Memref sig .tc .vmem s e}
    (es : src' = src) (ed : dst' = dst) (Y : s.Idx → Elt F e) {q : PosShare TreeShare}
    (hp1 : (owns (c : Thread nD τ) src q Y : sProp 𝕄) ⊢ Src X W c d r)
    (hp2 : (owns ((nx d c : Dev nD) : Thread nD τ) dst fullShare Y : sProp 𝕄) ⊢ Got X W (nx d c) d r)
    (hp3 : Land (F := F) (nx d c) d r ⊢ some (F := F) (nx d c) dst)
    {sS sR : DmaSem sig} (hsS : csem (.snd d) = .dma sS) (hsR : csem (.rcv d) = .dma sR) (hN : dst.view.dmaCredit = amt (.rcv d) r)
    {c'' : Dev nD} (hc : c'' = nx d c) {hsc : dst'.view.ref.isScScratch = false}
    {hsrc : src'.view.WordExact} {hdst : dst'.view.WordExact}
    {hsem : DmaTarget.Typed (nD := nD) (τ := τ) (p := (.tc : Proc τ)) .vmem (.dma sR) (.remote (Dev.tc c'' : Thread nD τ) dst' (.dma sS) hsc)}
    {k : PUnit → Prog (TpuEff nD τ sig (Elt F) Λ₀ .tc) α} :
    iprop(recs X W K ∗ Own (F := F) c n ∗ Md (F := F) c d r ∗ owns (c : Thread nD τ) src q Y ∗ Bn (F := F) c d r)
      ⊢ iprop(((Own (F := F) c (n + 1) ∗ Fl (F := F) c d r) -∗ WP c (k ⟨⟩) Q)
          -∗ WP c (.op (.enqueueDma src' (.remote (Dev.tc c'' : Thread nD τ) dst' (.dma sS) hsc) (.dma sR) hsrc hdst hsem) k) Q) := by
  subst hi
  have hs : slot (txI r d) = .tx d r := slot_tx ⟨r, hr⟩ d
  have hn : txI r d < 119 := by unfold txI; have := d.isLt; split <;> omega
  unfold Md Fl Rnds
  rw [ico_peel r 28 hr]
  unfold Rnd
  iintro ⟨#R, HO, ⟨⟨⟨HT, HT', HC⟩, H1⟩, H2, H3, H4, H5, H6, HL, #HR⟩, HS, HB⟩ Hk
  ihave #HR' := (CPos_reached (F := F) c d r) $$ H4
  iapply (send_any X W K c (c' := nx d c) (ckS := .snd d) (ckR := .rcv d) (r := r) hn (by rw [hs]; rfl) hr hr es ed Y
    iprop(reached ER (cell c (crC d (r + 1))) (crR (r + 1)) ∗ Bn (F := F) c d r) hp1 (by
      show _ ⊢ iprop(Got X W (nx d c) d r ∗ reached ER (cell (pv d (nx d c)) (crC d (r + 1))) (crR (r + 1)) ∗ Bn (F := F) (pv d (nx d c)) d r)
      rw [pv_nx]
      iintro ⟨H, HF⟩
      iframe HF
      iapply hp2; iexact H) hsS hsR hN rfl hc) $$ [HO HS HL HT HT' H5 HB]
  · iframe R HO HS HT H5 HT' HR HB HR'
    iapply hp3; iexact HL
  iintro ⟨HO, HC', H5⟩
  iapply Hk
  iframe

/-- Transfer `r` has left. -/
theorem st_left {r n : Nat} (hr : r < 28) {sm : DmaSem sig} (hs : csem (.snd d) = .dma sm) {sp sp' : Space} {s s' : Shape} {e e' : EltTy}
    {src : Memref sig .tc sp' s' e'} {dst : Memref sig .tc sp s e} {hsrc : src.view.WordExact} {hdst : dst.view.WordExact}
    (hk : dst.view.dmaCredit = amt (.snd d) r) {k : PUnit → Prog (TpuEff nD τ sig (Elt F) Λ₀ .tc) α} :
    iprop(recs X W K ∗ Own (F := F) c n ∗ Fl (F := F) c d r)
      ⊢ iprop(((Own (F := F) c n ∗ Fs (F := F) c d r ∗ Src X W c d r) -∗ WP c (k ⟨⟩) Q)
          -∗ WP c (.op (.waitDma2 sm src dst hsrc hdst) k) Q) := by
  unfold Fl Fs
  iintro ⟨#R, HO, H1, H2, H3, H4, H5, H6, HC, H7⟩ Hk
  iapply (wait_dma X W K c (ck := .snd d) (r := r) CK.noConfusion hr hr (by show 0 < _; omega) hs hk) $$ [HO HC H5]
  · iframe R HO HC H5
  simp only [pay]
  iintro ⟨HO, H5, HS⟩
  iapply Hk
  iframe HO
  isplitr [HS]
  · iframe
  iexact HS

/-- Transfer `r` has arrived. -/
theorem st_arr {r n : Nat} (hr : r < 28) (hl : txI r d < max n 1) {sm : DmaSem sig} (hs : csem (.rcv d) = .dma sm) {sp sp' : Space} {s s' : Shape} {e e' : EltTy}
    {src : Memref sig .tc sp' s' e'} {dst : Memref sig .tc sp s e} {hsrc : src.view.WordExact} {hdst : dst.view.WordExact}
    (hk : dst.view.dmaCredit = amt (.rcv d) r) {k : PUnit → Prog (TpuEff nD τ sig (Elt F) Λ₀ .tc) α} :
    iprop(recs X W K ∗ Own (F := F) c n ∗ Fs (F := F) c d r)
      ⊢ iprop(((Own (F := F) c n ∗ Af (F := F) c d r ∗ Got X W c d r ∗ Bn (F := F) (pv d c) d r) -∗ WP c (k ⟨⟩) Q)
          -∗ WP c (.op (.waitDma2 sm src dst hsrc hdst) k) Q) := by
  unfold Fs Af
  iintro ⟨#R, HO, H1, H2, H3, H4, H5, H6, HC⟩ Hk
  iapply (wait_dma X W K c (ck := .rcv d) (r := r) CK.noConfusion hr hr hl hs hk) $$ [HO HC H6]
  · iframe R HO HC H6
  simp only [pay]
  iintro ⟨HO, H6, HG, HR, HB⟩
  iapply Hk
  iframe HO HG HB
  iframe

/-- Giving the permission for transfer `r + 1`. -/
theorem st_grant {r n : Nat} (hr : r + 1 < 28) (hi : n = crI (r + 1) d) {sm : Sem sig} (hs : csem (crC d (r + 1)) = .reg sm)
    {k' : Nat} (hk : k' = 1) {c'' : Dev nD} (hc : c'' = pv d c) {k : PUnit → Prog (TpuEff nD τ sig (Elt F) Λ₀ .tc) α} :
    iprop(recs X W K ∗ Own (F := F) c n ∗ Af (F := F) c d r ∗ Land (F := F) c d (r + 1))
      ⊢ iprop(((Own (F := F) c (n + 1) ∗ Hd (F := F) c d (r + 1)) -∗ WP c (k ⟨⟩) Q) -∗ WP c (.op (.semSignal (c'' : Thread nD τ) sm k') k) Q) := by
  subst hi
  have hsl : slot (crI (r + 1) d) = .cr d (r + 1) := slot_cr ⟨r, by omega⟩ d
  have hn : crI (r + 1) d < 119 := by unfold crI; have := d.isLt; split <;> omega
  unfold Af Hd CrS
  rw [ico_peel (r + 1) 28 hr]
  iintro ⟨#R, HO, ⟨H1, ⟨HT, H2⟩, H3, H4, H5, H6, #HR⟩, HL⟩ Hk
  unfold At
  icases H6 with ⟨H6, #HR6⟩
  iapply (signal_any X W K c (c' := pv d c) (ck := crC d (r + 1)) (r := crR (r + 1)) (d := 0) hn (by rw [hsl]; rfl) (by
      rw [duts, if_pos (crR_lt _ d _ (by omega) hr), if_neg (crC_ne d _)]; exact Finset.mem_singleton_self _) (amt_cr d _) hs hk hc) $$ [HO HT HL]
  · rw [pay_cr X W (pv d c) d (r + 1) (by omega), nx_pv]
    iframe R HO HT HR HL HR6
  iintro HO
  iapply Hk
  iframe HO
  rw [Nat.add_sub_cancel]
  iframe H1 H2 H3 H4 H5 H6 HR6

end Steps

/-! ## The rows of maxima that travel -/

/-- Row `c` of the tables of the devices met so far. -/
def Col (c : Dev nD) (n : Nat) : sProp 𝕄 := bigSep (Finset.Ico 1 (min n 7 + 1)) fun k => some (F := F) (up 0 k c) (aS c)

theorem Bn_one (c : Dev nD) (r : Nat) : (Bn c 1 r : sProp 𝕄) = iprop(emp) := by unfold Bn; rw [if_neg (by simp)]

theorem fwd_up (c : Dev nD) : ∀ k, fwd k (up 0 k c) = c
  | 0 => rfl
  | k + 1 => by
    rw [up_succ']
    show (nx 0)^[k + 1] _ = _
    rw [Function.iterate_succ_apply, nx_pv]; exact fwd_up c k

theorem bn_step (c : Dev nD) (r : Nat) :
    iprop(Bn (F := F) (pv 0 c) 0 r ∗ Col (F := F) c r) ⊢ (iprop(Bn c 0 (r + 1) ∗ Col c (r + 1)) : sProp 𝕄) := by
  unfold Bn Col
  by_cases h : r < 7
  · rw [if_pos ⟨rfl, h⟩, ico_peel _ _ (by omega), show min (r + 1) 7 = r + 1 by omega, show min r 7 = r by omega, ico_snoc 1 (r + 1) (by omega),
      ← up_succ, fwd_up]
    iintro ⟨⟨H1, H2⟩, H3⟩
    iframe H1 H3
    by_cases h' : r + 1 < 7
    · rw [if_pos ⟨rfl, h'⟩]; iexact H2
    · rw [if_neg (fun x => h' x.2)]; iempintro
  · rw [if_neg (fun x => h x.2), if_neg (fun x => h (by omega)), show min (r + 1) 7 = min r 7 by omega]

/-! ## The copies to the result and back -/

section Copies

/-- The first `n` copies to the result are done. -/
def Idle (c : Dev nD) (d : Fin 2) (n : Nat) : sProp 𝕄 :=
  iprop(At c (.sto d) n ∗ bigSep (Finset.Ico n 18) fun i => Tok c (.sto d) i 0)
/-- Copy `n` to the result is on its way. -/
def Fly (c : Dev nD) (d : Fin 2) (n : Nat) : sProp 𝕄 :=
  iprop(At c (.sto d) n ∗ Crd c (.sto d) n ∗ bigSep (Finset.Ico (n + 1) 18) fun i => Tok c (.sto d) i 0)
/-- The first `n` copies from the result are done. -/
def LIdle (c : Dev nD) (d : Fin 2) (n : Nat) : sProp 𝕄 :=
  iprop(At c (.lod d) n ∗ bigSep (Finset.Ico n 2) fun i => Tok c (.lod d) i 0)
/-- Copy `n` from the result is on its way. -/
def LFly (c : Dev nD) (d : Fin 2) (n : Nat) : sProp 𝕄 :=
  iprop(At c (.lod d) n ∗ Crd c (.lod d) n ∗ bigSep (Finset.Ico (n + 1) 2) fun i => Tok c (.lod d) i 0)

variable (X : Dev nD → Vec F S4096x512 .f32) (W : Dev nD → Vec F S512x8192 .f32) (K : Dev nD × CK → ℕ) (c : Dev nD) (d : Fin 2)
variable {α : Type} {Q : α → sProp (MT nD τ sig ℕ (Elt F) ℕ UU ℕ)}

theorem Sto_park (h : Fin 2) : Sto X W c d h.val = iprop(owns (c : Thread nD τ) (oB (nx d c) (qd h d)) fullShare (acc X W h d 7 c)
      ∗ owns (c : Thread nD τ) (cS (sl d 1)) fullShare (acc X W h d 7 c)) := by
  unfold Sto; rw [if_pos h.isLt]
  have : (⟨h.val % 2, Nat.mod_lt _ (by decide)⟩ : Fin 2) = h := Fin.ext (Nat.mod_eq_of_lt h.isLt)
  rw [this]

theorem Sto_out (h : Fin 2) (t : Nat) (ht : t < 8) : Sto X W c d (2 + 8 * h.val + t) =
    iprop(owns (c : Thread nD τ) (oB (chunk d t c) (qd h d)) fullShare (ob X W h d (chunk d t c))
      ∗ owns (c : Thread nD τ) (dH d) fullShare (ob X W h d (chunk d t c))) := by
  have hh := h.isLt
  unfold Sto; rw [if_neg (by omega)]
  have e : (⟨(2 + 8 * h.val + t - 2) / 8 % 2, Nat.mod_lt _ (by decide)⟩ : Fin 2) = h := Fin.ext (by show _ / 8 % 2 = _; omega)
  have e' : (2 + 8 * h.val + t - 2) % 8 = t := by omega
  rw [e, e']

theorem Lod_eq (h : Fin 2) : Lod X W c d h.val = iprop(owns (c : Thread nD τ) (dH d) fullShare (acc X W h d 7 c)
      ∗ owns (c : Thread nD τ) (oB (nx d c) (qd h d)) fullShare (acc X W h d 7 c)) := by
  unfold Lod
  have : (⟨h.val % 2, Nat.mod_lt _ (by decide)⟩ : Fin 2) = h := Fin.ext (Nat.mod_eq_of_lt h.isLt)
  rw [this]

/-- Copying a running sum to the result. -/
theorem st_park (h : Fin 2) {src dst} (es : src = cS (sl d 1)) (ed : dst = oB (nx d c) (qd h d))
    {sm : DmaSem sig} (hs : csem (.sto d) = .dma sm)
    {hsrc : src.view.WordExact} {hdst : dst.view.WordExact} {hsem : DmaTarget.Typed (nD := nD) (τ := τ) (p := (.tc : Proc τ)) .vmem (.dma sm) (.here dst)}
    {k : PUnit → Prog (TpuEff nD τ sig (Elt F) Λ₀ .tc) α} :
    iprop(recs X W K ∗ owns (c : Thread nD τ) (cS (sl d 1)) fullShare (acc X W h d 7 c) ∗ some (F := F) c (oB (nx d c) (qd h d)) ∗ Idle (F := F) c d h.val)
      ⊢ iprop((Fly (F := F) c d h.val -∗ WP c (k ⟨⟩) Q) -∗ WP c (.op (.enqueueDma src (.here dst) (.dma sm) hsrc hdst hsem) k) Q) := by
  have hh := h.isLt
  unfold Idle Fly
  rw [ico_peel h.val 18 (by omega)]
  iintro ⟨#R, HS, HD, HA, HT, H⟩ Hk
  iapply (copy_any X W K c (ck := .sto d) (r := h.val) CK.noConfusion (by show h.val < 18; omega) es ed _ (Entails.of_eq (Sto_park X W c d h).symm) hs (oB_credit _ _)) $$ [HS HD HA HT]
  · iframe R HS HD HT HA
  iintro ⟨HC, HA⟩
  iapply Hk
  iframe

/-- Copying a chunk of the result. -/
theorem st_out (h : Fin 2) (t : Nat) (ht : t < 8) {src dst} (es : src = dH d) (ed : dst = oB (chunk d t c) (qd h d))
    {sm : DmaSem sig} (hs : csem (.sto d) = .dma sm)
    {hsrc : src.view.WordExact} {hdst : dst.view.WordExact} {hsem : DmaTarget.Typed (nD := nD) (τ := τ) (p := (.tc : Proc τ)) .vmem (.dma sm) (.here dst)}
    {k : PUnit → Prog (TpuEff nD τ sig (Elt F) Λ₀ .tc) α} :
    iprop(recs X W K ∗ owns (c : Thread nD τ) (dH d) fullShare (ob X W h d (chunk d t c)) ∗ some (F := F) c (oB (chunk d t c) (qd h d)) ∗ Idle (F := F) c d (2 + 8 * h.val + t))
      ⊢ iprop((Fly (F := F) c d (2 + 8 * h.val + t) -∗ WP c (k ⟨⟩) Q) -∗ WP c (.op (.enqueueDma src (.here dst) (.dma sm) hsrc hdst hsem) k) Q) := by
  have hh := h.isLt
  unfold Idle Fly
  rw [ico_peel (2 + 8 * h.val + t) 18 (by omega)]
  iintro ⟨#R, HS, HD, HA, HT, H⟩ Hk
  iapply (copy_any X W K c (ck := .sto d) (r := 2 + 8 * h.val + t) CK.noConfusion (by show _ < 18; omega) es ed _ (Entails.of_eq (Sto_out X W c d h t ht).symm) hs (oB_credit _ _)) $$ [HS HD HA HT]
  · iframe R HS HD HT HA
  iintro ⟨HC, HA⟩
  iapply Hk
  iframe

/-- A copy to the result is done. -/
theorem st_stored {n r : Nat} (hr : r < 18) {sm : DmaSem sig} (hs : csem (.sto d) = .dma sm) {sp sp' : Space} {s s' : Shape} {e e' : EltTy}
    {src : Memref sig .tc sp' s' e'} {dst : Memref sig .tc sp s e} {hsrc : src.view.WordExact} {hdst : dst.view.WordExact}
    (hk : dst.view.dmaCredit = nO) {k : PUnit → Prog (TpuEff nD τ sig (Elt F) Λ₀ .tc) α} :
    iprop(recs X W K ∗ Own (F := F) c n ∗ Fly (F := F) c d r)
      ⊢ iprop(((Own (F := F) c n ∗ Idle (F := F) c d (r + 1) ∗ Sto X W c d r) -∗ WP c (k ⟨⟩) Q)
          -∗ WP c (.op (.waitDma2 sm src dst hsrc hdst) k) Q) := by
  unfold Fly Idle
  iintro ⟨#R, HO, HA, HC, H⟩ Hk
  iapply (wait_dma X W K c (ck := .sto d) (r := r) CK.noConfusion hr (by omega) (by show 0 < _; omega) hs hk) $$ [HO HC HA]
  · iframe R HO HC HA
  simp only [pay]
  iintro ⟨HO, HA, HS⟩
  iapply Hk
  iframe HO HA H
  iexact HS

/-- Copying a running sum back. -/
theorem st_load (h : Fin 2) {src dst} (es : src = oB (nx d c) (qd h d)) (ed : dst = dH d)
    {sm : DmaSem sig} (hs : csem (.lod d) = .dma sm)
    {hsrc : src.view.WordExact} {hdst : dst.view.WordExact} {hsem : DmaTarget.Typed (nD := nD) (τ := τ) (p := (.tc : Proc τ)) .hbm (.dma sm) (.here dst)}
    {k : PUnit → Prog (TpuEff nD τ sig (Elt F) Λ₀ .tc) α} :
    iprop(recs X W K ∗ owns (c : Thread nD τ) (oB (nx d c) (qd h d)) fullShare (acc X W h d 7 c) ∗ some (F := F) c (dH d) ∗ LIdle (F := F) c d h.val)
      ⊢ iprop((LFly (F := F) c d h.val -∗ WP c (k ⟨⟩) Q) -∗ WP c (.op (.enqueueDma src (.here dst) (.dma sm) hsrc hdst hsem) k) Q) := by
  have hh := h.isLt
  unfold LIdle LFly
  rw [ico_peel h.val 2 (by omega)]
  iintro ⟨#R, HS, HD, HA, HT, H⟩ Hk
  iapply (copy_any X W K c (ck := .lod d) (r := h.val) CK.noConfusion (by show h.val < 2; omega) es ed _ (Entails.of_eq (Lod_eq X W c d h).symm) hs (dH_credit _)) $$ [HS HD HA HT]
  · iframe R HS HD HT HA
  iintro ⟨HC, HA⟩
  iapply Hk
  iframe

/-- A running sum is back. -/
theorem st_loaded {n : Nat} (h : Fin 2) {sm : DmaSem sig} (hs : csem (.lod d) = .dma sm) {sp sp' : Space} {s s' : Shape} {e e' : EltTy}
    {src : Memref sig .tc sp' s' e'} {dst : Memref sig .tc sp s e} {hsrc : src.view.WordExact} {hdst : dst.view.WordExact}
    (hk : dst.view.dmaCredit = nD') {k : PUnit → Prog (TpuEff nD τ sig (Elt F) Λ₀ .tc) α} :
    iprop(recs X W K ∗ Own (F := F) c n ∗ LFly (F := F) c d h.val)
      ⊢ iprop(((Own (F := F) c n ∗ LIdle (F := F) c d (h.val + 1) ∗ owns (c : Thread nD τ) (dH d) fullShare (acc X W h d 7 c)
            ∗ owns (c : Thread nD τ) (oB (nx d c) (qd h d)) fullShare (acc X W h d 7 c)) -∗ WP c (k ⟨⟩) Q)
          -∗ WP c (.op (.waitDma2 sm src dst hsrc hdst) k) Q) := by
  have hh := h.isLt
  rw [← Lod_eq]
  unfold LFly LIdle
  iintro ⟨#R, HO, HA, HC, H⟩ Hk
  iapply (wait_dma X W K c (ck := .lod d) (r := h.val) CK.noConfusion (by show h.val < 2; omega) (by omega) (by show 0 < _; omega) hs hk) $$ [HO HC HA]
  · iframe R HO HC HA
  simp only [pay]
  iintro ⟨HO, HA, HS⟩
  iapply Hk
  iframe HO HA H
  iexact HS

end Copies

end Cert.Proof.KI
-- ==== Proof.Rs.lean ====
/- The two rounds of the reduction. -/
module

public import proofs.«01_k».proof.Proof.Ring
public import proofs.«01_k».proof.Proof.Gen.KernelIdeal.Skeleton

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Generic

variable (c : Dev nD) {α : Type} {Q : α → sProp (MT nD τ sig ℕ (Elt F) ℕ UU ℕ)}

/-- The end of a program. -/
theorem wp_end {a : α} : Q a ⊢ WP c (Prog.ret a) Q := by
  unfold WP; rw [wp_ret]
  iintro H
  imodintro; iexact H

/-- A part of the program that runs only under a condition. -/
theorem wp_dite {β : Type} (v : β) {P R : sProp (MT nD τ sig ℕ (Elt F) ℕ UU ℕ)} {p : Prop} [Decidable p] {A : p → Prog (TpuEff nD τ sig (Elt F) Λ₀ .tc) β}
    {k : β → Prog (TpuEff nD τ sig (Elt F) Λ₀ .tc) α} (hA : ∀ h : p, P ⊢ WP c (A h) (fun b => iprop(⌜b = v⌝ ∗ R))) (hB : ¬p → P ⊢ R) :
    P ⊢ iprop((R -∗ WP c (k v) Q) -∗ WP c (dite p A (fun _ => Prog.ret v) >>= k) Q) := by
  unfold WP
  rw [wp_bind]
  iintro HP Hk
  iapply (wp_wand_r frame (wpE (defs₀ (F := F)) Variants.none (c : Thread nD τ) none) Set.univ)
  isplitl [HP]
  · show P ⊢ WP c (dite p A (fun _ => Prog.ret v)) (fun b => iprop(⌜b = v⌝ ∗ R))
    by_cases h : p
    · rw [dif_pos h]; exact hA h
    · rw [dif_neg h]; iintro HP
      iapply (wp_end c)
      isplitr
      · ipureintro; rfl
      · iapply (hB h); iexact HP
  · iintro %b ⟨%hb, HR⟩
    subst hb
    iapply Hk; iexact HR

end Generic

section States

variable (X : Dev nD → Vec F S4096x512 .f32) (W : Dev nD → Vec F S512x8192 .f32) (K : Dev nD × CK → ℕ) (c : Dev nD)

/-- The arguments and the working buffer. -/
def Data : sProp 𝕄 :=
  iprop(((c : Thread nD τ).loc cc0_stg0_0 ↦{fullShare} (X c)) ∗ ((c : Thread nD τ).loc cc0_stg1_0 ↦{fullShare} (W c)))

/-- A direction at the head of step `t`. -/
def DS (d h : Fin 2) (t : Nat) : sProp 𝕄 :=
  if t = 7 then Af c d (7 * h.val + 6) else if 7 * h.val + t = 0 then Md c d 0 else Hd c d (7 * h.val + t)
/-- Its slots. -/
def RSl (d h : Fin 2) (t : Nat) : sProp 𝕄 :=
  iprop(owns (c : Thread nD τ) (cS (sl d t)) fullShare (acc X W h d t c) ∗ if t = 7 then some c (cS (sl d (t + 1))) else iprop(emp))
/-- The reduction at the head of step `t`. -/
def RSI (h : Fin 2) (t : Nat) : sProp 𝕄 :=
  iprop(recs X W K ∗ Own c (2 + 4 * (7 * h.val + t) - if t = 7 then 2 else 0) ∗ DS c 0 h t ∗ DS c 1 h t ∗ RSl X W c 0 h t ∗ RSl X W c 1 h t
    ∗ Bn c 0 (7 * h.val + t) ∗ Col c (7 * h.val + t) ∗ Data X W c ∗ some c (dH 0) ∗ some c (dH 1))

theorem head1 (t : Fin k0_t1_loop.trips) :
    Iff (Scalar.cmpi .ne (Scalar.extui (Scalar.cmpi .sgt (Scf.iv 0#32 1#32 t) 0#32) : BitVec 32) 0#32 = 1#1) (0 < t.val) := by
  revert t; decide +kernel

theorem hf_eq (h : Fin 2) (t : Nat) (ht : t < 7) : hf (7 * h.val + t) = h := Fin.ext (by have := h.isLt; show _ / 7 % 2 = _; omega)

theorem Src_c (d h : Fin 2) (t : Nat) (ht : t < 7) :
    Src X W c d (7 * h.val + t) = owns (c : Thread nD τ) (cS (sl d t)) fullShare (acc X W h d t c) := by
  have := h.isLt
  unfold Src; rw [if_pos (by omega), hf_eq h t ht, show (7 * h.val + t) % 7 = t by omega]
theorem Got_c (d h : Fin 2) (t : Nat) (ht : t < 7) :
    Got X W c d (7 * h.val + t) = owns (c : Thread nD τ) (cS (sl d (t + 1))) fullShare (acc X W h d t (pv d c)) := by
  have := h.isLt
  unfold Got; rw [if_pos (by omega), hf_eq h t ht, show (7 * h.val + t) % 7 = t by omega]
theorem Land_c (d h : Fin 2) (t : Nat) (ht : t < 7) :
    Land (F := F) c d (7 * h.val + t) = some (F := F) c (cS (sl d (t + 1))) := by
  have := h.isLt
  unfold Land; rw [if_pos (by omega), show (7 * h.val + t) % 7 = t by omega]

variable {α : Type} {Q : α → sProp (MT nD τ sig ℕ (Elt F) ℕ UU ℕ)}

/-- A partial sum is sent. -/
theorem rs_send (d h : Fin 2) {t n : Nat} (ht : t < 7) (hi : n = 2 + 4 * (7 * h.val + t) + d.val) {off off' : Fin 3 → Nat} {inb inb'} (ho : off = ![(sl d t).val, 0, 0])
    (ho' : off' = ![(sl d (t + 1)).val, 0, 0])
    {sS sR : DmaSem sig} (hsS : csem (.snd d) = .dma sS) (hsR : csem (.rcv d) = .dma sR)
    {c'' : Dev nD} (hc : c'' = nx d c) {hsc hsrc hdst hsem}
    {k : PUnit → Prog (TpuEff nD τ sig (Elt F) Λ₀ .tc) α} :
    iprop(recs X W K ∗ Own (F := F) c n ∗ Md (F := F) c d (7 * h.val + t) ∗ owns (c : Thread nD τ) (cS (sl d t)) fullShare (acc X W h d t c) ∗ Bn (F := F) c d (7 * h.val + t))
      ⊢ iprop(((Own (F := F) c (n + 1) ∗ Fl (F := F) c d (7 * h.val + t)) -∗ WP c (k ⟨⟩) Q)
          -∗ WP c (.op (.enqueueDma
            (((Memref.whole cc0_scratch0).slice (Rect.unit (s := S4x512x2048) off S1x512x2048.size inb) (fun _ => rfl)).squeeze S512x2048 squeezes_S1x512x2048_S512x2048)
            (.remote (Dev.tc c'' : Thread nD τ)
              (((Memref.whole cc0_scratch0).slice (Rect.unit (s := S4x512x2048) off' S1x512x2048.size inb') (fun _ => rfl)).squeeze S512x2048 squeezes_S1x512x2048_S512x2048)
              (.dma sS) hsc) (.dma sR) hsrc hdst hsem) k) Q) :=
  st_send X W K c d (r := 7 * h.val + t) (by have := h.isLt; omega) (hi.trans (if_pos (by have := h.isLt; omega)).symm) (cS_of ho) (cS_of ho') (acc X W h d t c) (Entails.of_eq (Src_c X W c d h t ht).symm)
    (Entails.of_eq (by rw [Got_c X W (nx d c) d h t ht, pv_nx])) (Entails.of_eq (Land_c (nx d c) d h t ht)) hsS hsR
    (by rw [cS_credit]; exact (if_pos (by have := h.isLt; omega)).symm) hc

/-- A permission is taken. -/
theorem rs_credit (d h : Fin 2) {t n : Nat} (ht : t < 7) (h1 : 1 ≤ 7 * h.val + t) (hl : 4 * (7 * h.val + t) + d.val < n) {sm : Sem sig} (hs : csem (.rsc d) = .reg sm)
    {k' : Nat} (hk : k' = 1) {k : PUnit → Prog (TpuEff nD τ sig (Elt F) Λ₀ .tc) α} :
    iprop(recs X W K ∗ Own (F := F) c n ∗ Hd (F := F) c d (7 * h.val + t))
      ⊢ iprop(((Own (F := F) c n ∗ Md (F := F) c d (7 * h.val + t)) -∗ WP c (k ⟨⟩) Q) -∗ WP c (.op (.semWait sm k') k) Q) := by
  have hh := h.isLt
  exact st_credit X W K c d h1 (by omega) (by rw [show crI (7 * h.val + t) d = 4 * (7 * h.val + t) + d.val from if_pos (by omega)]; omega)
    (by rw [show crC d (7 * h.val + t) = .rsc d from if_pos (by omega)]; exact hs) hk

/-- A partial sum has left. -/
theorem rs_left (d h : Fin 2) {t n : Nat} (ht : t < 7) {sm : DmaSem sig} (hs : csem (.snd d) = .dma sm) {sp' : Space} {s' : Shape} {e' : EltTy}
    {src : Memref sig .tc sp' s' e'} {off : Fin 3 → Nat} {inb} (ho : off = ![(sl d t).val, 0, 0]) {hsrc hdst}
    {k : PUnit → Prog (TpuEff nD τ sig (Elt F) Λ₀ .tc) α} :
    iprop(recs X W K ∗ Own (F := F) c n ∗ Fl (F := F) c d (7 * h.val + t))
      ⊢ iprop(((Own (F := F) c n ∗ Fs (F := F) c d (7 * h.val + t) ∗ owns (c : Thread nD τ) (cS (sl d t)) fullShare (acc X W h d t c)) -∗ WP c (k ⟨⟩) Q)
          -∗ WP c (.op (.waitDma2 sm src
            (((Memref.whole cc0_scratch0).slice (Rect.unit (s := S4x512x2048) off S1x512x2048.size inb) (fun _ => rfl)).squeeze S512x2048 squeezes_S1x512x2048_S512x2048)
            hsrc hdst) k) Q) := by
  have hh := h.isLt
  rw [← Src_c X W c d h t ht]
  exact st_left X W K c d (by omega) hs (by rw [cS_of ho, cS_credit]; exact (if_pos (by omega)).symm)

/-- A partial sum has arrived. -/
theorem rs_arr (d h : Fin 2) {t n : Nat} (ht : t < 7) (hl : 2 + 4 * (7 * h.val + t) + d.val < n) {sm : DmaSem sig} (hs : csem (.rcv d) = .dma sm)
    {sp' : Space} {s' : Shape} {e' : EltTy}
    {src : Memref sig .tc sp' s' e'} {off : Fin 3 → Nat} {inb} (ho : off = ![(sl d (t + 1)).val, 0, 0]) {hsrc hdst}
    {k : PUnit → Prog (TpuEff nD τ sig (Elt F) Λ₀ .tc) α} :
    iprop(recs X W K ∗ Own (F := F) c n ∗ Fs (F := F) c d (7 * h.val + t))
      ⊢ iprop(((Own (F := F) c n ∗ Af (F := F) c d (7 * h.val + t) ∗ owns (c : Thread nD τ) (cS (sl d (t + 1))) fullShare (acc X W h d t (pv d c))
            ∗ Bn (F := F) (pv d c) d (7 * h.val + t)) -∗ WP c (k ⟨⟩) Q)
          -∗ WP c (.op (.waitDma2 sm src
            (((Memref.whole cc0_scratch0).slice (Rect.unit (s := S4x512x2048) off S1x512x2048.size inb) (fun _ => rfl)).squeeze S512x2048 squeezes_S1x512x2048_S512x2048)
            hsrc hdst) k) Q) := by
  have hh := h.isLt
  rw [← Got_c X W c d h t ht]
  exact st_arr X W K c d (by omega) (by rw [show txI (7 * h.val + t) d = 2 + 4 * (7 * h.val + t) + d.val from if_pos (by omega)]; omega) hs
    (by rw [cS_of ho, cS_credit]; exact (if_pos (by omega)).symm)

/-- The permission for the next step of the reduction. -/
theorem rs_grant (d h : Fin 2) {t n : Nat} (ht : t < 6) (hi : n = 4 * (7 * h.val + t + 1) + d.val) {sm : Sem sig} (hs : csem (.rsc d) = .reg sm)
    {k' : Nat} (hk : k' = 1) {c'' : Dev nD} (hc : c'' = pv d c) {k : PUnit → Prog (TpuEff nD τ sig (Elt F) Λ₀ .tc) α} :
    iprop(recs X W K ∗ Own (F := F) c n ∗ Af (F := F) c d (7 * h.val + t) ∗ some (F := F) c (cS (sl d t)))
      ⊢ iprop(((Own (F := F) c (n + 1) ∗ Hd (F := F) c d (7 * h.val + (t + 1))) -∗ WP c (k ⟨⟩) Q) -∗ WP c (.op (.semSignal (c'' : Thread nD τ) sm k') k) Q) := by
  have hh := h.isLt
  have e := Land_c (F := F) c d h (t + 1) (by omega)
  rw [show t + 1 + 1 = t + 2 from rfl, sl_add_two] at e
  rw [← e]
  exact st_grant X W K c d (r := 7 * h.val + t) (by omega) (hi.trans (if_pos (by omega)).symm) (by rw [show crC d (7 * h.val + t + 1) = .rsc d from if_pos (by omega)]; exact hs) hk hc

theorem rs_out (h : Fin 2) {t n : Nat} (ht : t = 6) (hn : n = 2 + 4 * (7 * h.val + t) + 2) :
    iprop(recs X W K ∗ Own (F := F) c n ∗ Af (F := F) c 0 (7 * h.val + t) ∗ Af (F := F) c 1 (7 * h.val + t)
      ∗ owns (c : Thread nD τ) (cS (sl 0 (t + 1))) fullShare (acc X W h 0 (t + 1) c) ∗ some (F := F) c (cS (sl 0 t))
      ∗ owns (c : Thread nD τ) (cS (sl 1 (t + 1))) fullShare (acc X W h 1 (t + 1) c) ∗ some (F := F) c (cS (sl 1 t))
      ∗ Bn (F := F) c 0 (7 * h.val + (t + 1)) ∗ Col (F := F) c (7 * h.val + (t + 1)) ∗ Data X W c ∗ some (F := F) c (dH 0) ∗ some (F := F) c (dH 1))
    ⊢ RSI X W K c h (t + 1) := by
  subst ht hn
  unfold RSI DS RSl
  simp only [if_true, show (6 + 1 = 7) = True from eq_true rfl, sl_add_two]
  iintro ⟨#R, HO, H1, H2, H3, H4, H5, H6, H7, H8, H9, H10, H11⟩
  iframe R H1 H2 H3 H4 H5 H6 H7 H8 H9 H10 H11
  rw [show 2 + 4 * (7 * h.val + (6 + 1)) - 2 = 2 + 4 * (7 * h.val + 6) + 2 by omega]
  iexact HO

theorem rs_next (h : Fin 2) {t n : Nat} (ht : t < 6) (hn : n = 2 + 4 * (7 * h.val + t) + 4) :
    iprop(recs X W K ∗ Own (F := F) c n ∗ Hd (F := F) c 0 (7 * h.val + (t + 1)) ∗ Hd (F := F) c 1 (7 * h.val + (t + 1))
      ∗ owns (c : Thread nD τ) (cS (sl 0 (t + 1))) fullShare (acc X W h 0 (t + 1) c)
      ∗ owns (c : Thread nD τ) (cS (sl 1 (t + 1))) fullShare (acc X W h 1 (t + 1) c)
      ∗ Bn (F := F) c 0 (7 * h.val + (t + 1)) ∗ Col (F := F) c (7 * h.val + (t + 1)) ∗ Data X W c ∗ some (F := F) c (dH 0) ∗ some (F := F) c (dH 1))
    ⊢ RSI X W K c h (t + 1) := by
  subst hn
  unfold RSI DS RSl
  rw [if_neg (show ¬t + 1 = 7 by omega), if_neg (show ¬t + 1 = 7 by omega), if_neg (show ¬t + 1 = 7 by omega), if_neg (show ¬t + 1 = 7 by omega), if_neg (show ¬t + 1 = 7 by omega),
    if_neg (show ¬7 * h.val + (t + 1) = 0 by omega), if_neg (show ¬7 * h.val + (t + 1) = 0 by omega)]
  iintro ⟨#R, HO, H1, H2, H3, H4, H5, H6, H7, H8, H9⟩
  iframe R H1 H2 H3 H4 H5 H6 H7 H8 H9
  rw [show 2 + 4 * (7 * h.val + (t + 1)) - 0 = 2 + 4 * (7 * h.val + t) + 4 by omega]
  iexact HO

end States

section Body

variable (X : Dev nD → Vec F S4096x512 .f32) (W : Dev nD → Vec F S512x8192 .f32) (K : Dev nD × CK → ℕ) (c : Dev nD)

/-- The permissions at the head of a step. -/
def Perm (h : Fin 2) (t n : Nat) : sProp 𝕄 :=
  iprop(recs X W K ∗ Own c n ∗ Md c 0 (7 * h.val + t) ∗ Md c 1 (7 * h.val + t))

set_option maxRecDepth 65536 in
theorem t1_step (t : Fin k0_t1_loop.trips) (a : Unit) (v2 v14 v25 v36 v48 : BitVec 32) :
    RSI X W K c 0 t.val ⊢ WP c (k0_t1_body (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v14 v25 v36 v48 t a) (fun _ => RSI X W K c 0 (t.val + 1)) := by
  have ht : t.val < 7 := trips1 ▸ t.isLt
  have h0 : 7 * ((0 : Fin 2) : Nat) + t.val = t.val := Nat.zero_add _
  unfold k0_t1_body
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret]
  conv_lhs => unfold RSI RSl
  rw [if_neg (show ¬t.val = 7 by omega), if_neg (show ¬t.val = 7 by omega), if_neg (show ¬t.val = 7 by omega)]
  rw [Nat.sub_zero]
  unfold Data
  iintro ⟨#R, HO, HD0, HD1, ⟨HS0, -⟩, ⟨HS1, -⟩, HB, HCol, ⟨Hx, Hw⟩, Hd0, Hd1⟩
  iapply (wp_dite c _ (P := iprop(recs X W K ∗ Own c (2 + 4 * (7 * (0 : Fin 2).val + t.val)) ∗ DS c 0 0 t.val ∗ DS c 1 0 t.val))
    (R := Perm X W K c 0 t.val (2 + 4 * (7 * (0 : Fin 2).val + t.val))) ?hA ?hB) $$ [HO HD0 HD1]
  case hA =>
    intro hh
    rw [head1] at hh
    unfold DS Perm
    rw [if_neg (show ¬t.val = 7 by omega), if_neg (show ¬t.val = 7 by omega), if_neg (by omega), if_neg (by omega)]
    iintro ⟨#R, HO, H1, H2⟩
    iapply (rs_credit X W K c 0 0 (t := t.val) (n := 2 + 4 * (7 * (0 : Fin 2).val + t.val)) ht (by omega) (by simp <;> omega) rfl rfl) $$ [HO H1]
    · iframe R HO H1
    iintro ⟨HO, H1⟩
    iapply (rs_credit X W K c 1 0 (t := t.val) (n := 2 + 4 * (7 * (0 : Fin 2).val + t.val)) ht (by omega) (by simp <;> omega) rfl rfl) $$ [HO H2]
    · iframe R HO H2
    iintro ⟨HO, H2⟩
    iapply (wp_end c)
    isplitr
    · ipureintro; rfl
    iframe R HO H1 H2
  case hB =>
    intro hh
    rw [head1] at hh
    unfold DS Perm
    rw [if_neg (show ¬t.val = 7 by omega), if_neg (show ¬t.val = 7 by omega), if_pos (by omega), if_pos (by omega), show 7 * (0 : Fin 2).val + t.val = 0 by omega]
  · iframe R HO HD0 HD1
  unfold Perm
  iintro ⟨-, HO, H1, H2⟩
  iapply (rs_send X W K c 0 0 (t := t.val) (n := 2 + 4 * (7 * (0 : Fin 2).val + t.val)) ht rfl (off3a t) (off2a t) rfl rfl (Fin.ext (dev3 c))) $$ [HO H1 HS0 HB]
  · iframe R HO H1 HS0 HB
  iintro ⟨HO, H1⟩
  iapply (rs_send X W K c 1 0 (t := t.val) (n := 2 + 4 * (7 * (0 : Fin 2).val + t.val) + 1) ht rfl (off3b t) (off2b t) rfl rfl (Fin.ext (dev4 c))) $$ [HO H2 HS1]
  · rw [Bn_one]; iframe R HO H2 HS1
  iintro ⟨HO, H2⟩
  iapply (load_x c (i := up 0 (t.val + 1) c) (off4 c t)) $$ [Hx]
  · iexact Hx
  iintro Hx
  iapply (load_w c (i := qd 0 0) rfl) $$ [Hw]
  · iexact Hw
  iintro Hw
  iapply (store_d c (d := 0) (Y := prod X W c (up 0 (t.val + 1) c) 0 0) rfl (pay2_eq _ _)) $$ [Hd0]
  · iexact Hd0
  iintro Hd0
  iapply (load_x c (i := up 1 (t.val + 1) c) (off5 c t)) $$ [Hx]
  · iexact Hx
  iintro Hx
  iapply (load_w c (i := qd 0 1) rfl) $$ [Hw]
  · iexact Hw
  iintro Hw
  iapply (store_d c (d := 1) (Y := prod X W c (up 1 (t.val + 1) c) 0 1) rfl (pay3_eq _ _)) $$ [Hd1]
  · iexact Hd1
  iintro Hd1
  iapply (rs_left X W K c 0 0 ht rfl (off3a t)) $$ [HO H1]
  · iframe R HO H1
  iintro ⟨HO, H1, HS0⟩
  iapply (rs_arr X W K c 0 0 (t := t.val) (n := 2 + 4 * (7 * (0 : Fin 2).val + t.val) + 1 + 1) ht (by simp <;> omega) rfl (off2a t)) $$ [HO H1]
  · iframe R HO H1
  iintro ⟨HO, H1, HG0, HB⟩
  iapply (rs_left X W K c 1 0 ht rfl (off3b t)) $$ [HO H2]
  · iframe R HO H2
  iintro ⟨HO, H2, HS1⟩
  iapply (rs_arr X W K c 1 0 (t := t.val) (n := 2 + 4 * (7 * (0 : Fin 2).val + t.val) + 1 + 1) ht (by simp <;> omega) rfl (off2b t)) $$ [HO H2]
  · iframe R HO H2
  iintro ⟨HO, H2, HG1, -⟩
  ihave HBC := (bn_step (F := F) c (7 * (0 : Fin 2).val + t.val)) $$ [HB HCol]
  · iframe HB HCol
  icases HBC with ⟨HB, HCol⟩
  iapply (load_c c (j := sl 0 (t.val + 1)) (off6a t)) $$ [HG0]
  · iexact HG0
  iintro HG0
  iapply (load_d c (d := 0) rfl) $$ [Hd0]
  · iexact Hd0
  iintro Hd0
  ihave HG0 := (owns_some c _ _) $$ HG0
  iapply (store_c c (j := sl 0 (t.val + 1)) (Y := acc X W 0 0 (t.val + 1) c) (off6a t) (pay15_eq _ _)) $$ [HG0]
  · iexact HG0
  iintro HG0
  iapply (load_c c (j := sl 1 (t.val + 1)) (off6b t)) $$ [HG1]
  · iexact HG1
  iintro HG1
  iapply (load_d c (d := 1) rfl) $$ [Hd1]
  · iexact Hd1
  iintro Hd1
  ihave HG1 := (owns_some c _ _) $$ HG1
  iapply (store_c c (j := sl 1 (t.val + 1)) (Y := acc X W 0 1 (t.val + 1) c) (off6b t) (pay16_eq _ _)) $$ [HG1]
  · iexact HG1
  iintro HG1
  ihave HS0 := (owns_some c _ _) $$ HS0
  ihave HS1 := (owns_some c _ _) $$ HS1
  ihave Hd0 := (owns_some c _ _) $$ Hd0
  ihave Hd1 := (owns_some c _ _) $$ Hd1
  ihave HData : Data X W c $$ [Hx Hw]
  · unfold Data; iframe Hx Hw
  by_cases hc : t.val < 6
  · rw [dif_pos ((cond2 t).mpr hc)]
    iapply (rs_grant X W K c 0 0 (t := t.val) (n := 2 + 4 * (7 * (0 : Fin 2).val + t.val) + 1 + 1) hc (by simp <;> omega) rfl rfl (Fin.ext (dev5 c))) $$ [HO H1 HS0]
    · iframe R HO H1 HS0
    iintro ⟨HO, H1⟩
    iapply (rs_grant X W K c 1 0 (t := t.val) (n := 2 + 4 * (7 * (0 : Fin 2).val + t.val) + 1 + 1 + 1) hc (by simp <;> omega) rfl rfl (Fin.ext (dev6 c))) $$ [HO H2 HS1]
    · iframe R HO H2 HS1
    iintro ⟨HO, H2⟩
    iapply (wp_end c)
    iapply (rs_next X W K c 0 (t := t.val) (n := 2 + 4 * (7 * (0 : Fin 2).val + t.val) + 1 + 1 + 1 + 1) hc rfl)
    iframe R HO H1 H2 HG0 HG1 HB HCol HData Hd0 Hd1
  · rw [dif_neg (fun x => hc ((cond2 t).mp x))]
    iapply (wp_end c)
    iapply (rs_out X W K c 0 (t := t.val) (n := 2 + 4 * (7 * (0 : Fin 2).val + t.val) + 1 + 1) (by omega) rfl)
    iframe R HO H1 H2 HG0 HS0 HG1 HS1 HB HCol HData Hd0 Hd1

set_option maxRecDepth 65536 in
theorem t2_step (t : Fin k0_t2_loop.trips) (a : Unit) (v2 v14 v25 : BitVec 32) (v89 : F .f32) (v123 : FVec F S512x512 .f32) (v124 : Vec F S512x2048 .f32) :
    RSI X W K c 1 t.val ⊢ WP c (k0_t2_body (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v14 v25 v89 v123 v124 t a) (fun _ => RSI X W K c 1 (t.val + 1)) := by
  have ht : t.val < 7 := trips2 ▸ t.isLt
  unfold k0_t2_body
  simp only [k0_part5_eq_skeleton, k0_part6_eq_skeleton, k0_part7_eq_skeleton, k0_part8_eq_skeleton]
  unfold k0_part5_skel k0_part6_skel k0_part7_skel k0_part8_skel
  simp only [semSignalWord, semWaitWord, Prog.lift, Prog.bind_op, Prog.bind_ret, Prog.pure_eq_ret]
  have h7 : ¬t.val = 7 := by omega
  have h0 : ¬7 * (1 : Fin 2).val + t.val = 0 := by simp
  conv_lhs => unfold RSI RSl DS
  rw [if_neg h7, if_neg h7, if_neg h7, if_neg h7, if_neg h7, if_neg h0, if_neg h0]
  rw [Nat.sub_zero]
  unfold Data
  iintro ⟨#R, HO, HD0, HD1, ⟨HS0, -⟩, ⟨HS1, -⟩, HB, HCol, ⟨Hx, Hw⟩, Hd0, Hd1⟩
  iapply (rs_credit X W K c 0 1 (t := t.val) (n := 2 + 4 * (7 * (1 : Fin 2).val + t.val)) ht (by simp <;> omega) (by simp <;> omega) rfl rfl) $$ [HO HD0]
  · iframe R HO HD0
  iintro ⟨HO, H1⟩
  iapply (rs_credit X W K c 1 1 (t := t.val) (n := 2 + 4 * (7 * (1 : Fin 2).val + t.val)) ht (by simp <;> omega) (by simp <;> omega) rfl rfl) $$ [HO HD1]
  · iframe R HO HD1
  iintro ⟨HO, H2⟩
  iapply (rs_send X W K c 0 1 (t := t.val) (n := 2 + 4 * (7 * (1 : Fin 2).val + t.val)) ht rfl (off10a t) (off9a t) rfl rfl (Fin.ext (dev9 c))) $$ [HO H1 HS0 HB]
  · iframe R HO H1 HS0 HB
  iintro ⟨HO, H1⟩
  iapply (rs_send X W K c 1 1 (t := t.val) (n := 2 + 4 * (7 * (1 : Fin 2).val + t.val) + 1) ht rfl (off10b t) (off9b t) rfl rfl (Fin.ext (dev10 c))) $$ [HO H2 HS1]
  · rw [Bn_one]; iframe R HO H2 HS1
  iintro ⟨HO, H2⟩
  iapply (load_x c (i := up 0 (t.val + 1) c) (off11 c t)) $$ [Hx]
  · iexact Hx
  iintro Hx
  iapply (load_w c (i := qd 1 0) rfl) $$ [Hw]
  · iexact Hw
  iintro Hw
  iapply (store_d c (d := 0) (Y := prod X W c (up 0 (t.val + 1) c) 1 0) rfl (pay6_eq _ _)) $$ [Hd0]
  · iexact Hd0
  iintro Hd0
  iapply (load_x c (i := up 1 (t.val + 1) c) (off12 c t)) $$ [Hx]
  · iexact Hx
  iintro Hx
  iapply (load_w c (i := qd 1 1) rfl) $$ [Hw]
  · iexact Hw
  iintro Hw
  iapply (store_d c (d := 1) (Y := prod X W c (up 1 (t.val + 1) c) 1 1) rfl (pay7_eq _ _)) $$ [Hd1]
  · iexact Hd1
  iintro Hd1
  iapply (rs_left X W K c 0 1 ht rfl (off10a t)) $$ [HO H1]
  · iframe R HO H1
  iintro ⟨HO, H1, HS0⟩
  iapply (rs_arr X W K c 0 1 (t := t.val) (n := 2 + 4 * (7 * (1 : Fin 2).val + t.val) + 1 + 1) ht (by simp <;> omega) rfl (off9a t)) $$ [HO H1]
  · iframe R HO H1
  iintro ⟨HO, H1, HG0, HB⟩
  iapply (rs_left X W K c 1 1 ht rfl (off10b t)) $$ [HO H2]
  · iframe R HO H2
  iintro ⟨HO, H2, HS1⟩
  iapply (rs_arr X W K c 1 1 (t := t.val) (n := 2 + 4 * (7 * (1 : Fin 2).val + t.val) + 1 + 1) ht (by simp <;> omega) rfl (off9b t)) $$ [HO H2]
  · iframe R HO H2
  iintro ⟨HO, H2, HG1, -⟩
  ihave HBC := (bn_step (F := F) c (7 * (1 : Fin 2).val + t.val)) $$ [HB HCol]
  · iframe HB HCol
  icases HBC with ⟨HB, HCol⟩
  iapply (load_c c (j := sl 0 (t.val + 1)) (off13a t)) $$ [HG0]
  · iexact HG0
  iintro HG0
  iapply (load_d c (d := 0) rfl) $$ [Hd0]
  · iexact Hd0
  iintro Hd0
  ihave HG0 := (owns_some c _ _) $$ HG0
  iapply (store_c c (j := sl 0 (t.val + 1)) (Y := acc X W 1 0 (t.val + 1) c) (off13a t) (pay21_eq _ _)) $$ [HG0]
  · iexact HG0
  iintro HG0
  iapply (load_c c (j := sl 1 (t.val + 1)) (off13b t)) $$ [HG1]
  · iexact HG1
  iintro HG1
  iapply (load_d c (d := 1) rfl) $$ [Hd1]
  · iexact Hd1
  iintro Hd1
  ihave HG1 := (owns_some c _ _) $$ HG1
  iapply (store_c c (j := sl 1 (t.val + 1)) (Y := acc X W 1 1 (t.val + 1) c) (off13b t) (pay22_eq _ _)) $$ [HG1]
  · iexact HG1
  iintro HG1
  ihave HS0 := (owns_some c _ _) $$ HS0
  ihave HS1 := (owns_some c _ _) $$ HS1
  ihave Hd0 := (owns_some c _ _) $$ Hd0
  ihave Hd1 := (owns_some c _ _) $$ Hd1
  ihave HData : Data X W c $$ [Hx Hw]
  · unfold Data; iframe Hx Hw
  by_cases hc : t.val < 6
  · rw [dif_pos ((cond3 t).mpr hc)]
    iapply (rs_grant X W K c 0 1 (t := t.val) (n := 2 + 4 * (7 * (1 : Fin 2).val + t.val) + 1 + 1) hc (by simp <;> omega) rfl rfl (Fin.ext (dev11 c))) $$ [HO H1 HS0]
    · iframe R HO H1 HS0
    iintro ⟨HO, H1⟩
    iapply (rs_grant X W K c 1 1 (t := t.val) (n := 2 + 4 * (7 * (1 : Fin 2).val + t.val) + 1 + 1 + 1) hc (by simp <;> omega) rfl rfl (Fin.ext (dev12 c))) $$ [HO H2 HS1]
    · iframe R HO H2 HS1
    iintro ⟨HO, H2⟩
    iapply (wp_end c)
    iapply (rs_next X W K c 1 (t := t.val) (n := 2 + 4 * (7 * (1 : Fin 2).val + t.val) + 1 + 1 + 1 + 1) hc rfl)
    iframe R HO H1 H2 HG0 HG1 HB HCol HData Hd0 Hd1
  · rw [dif_neg (fun x => hc ((cond3 t).mp x))]
    iapply (wp_end c)
    iapply (rs_out X W K c 1 (t := t.val) (n := 2 + 4 * (7 * (1 : Fin 2).val + t.val) + 1 + 1) (by omega) rfl)
    iframe R HO H1 H2 HG0 HS0 HG1 HS1 HB HCol HData Hd0 Hd1

end Body

end Cert.Proof.KI
-- ==== Proof.Ag.lean ====
/- The two rounds of the broadcast. -/
module

public import proofs.«01_k».proof.Proof.Rs
public import proofs.«01_k».proof.Proof.Gen.KernelIdeal.Skeleton

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- Either way of a choice ends in the same state. -/
theorem wp_dite_else {β : Type} (c : Dev nD) (v : β) {P R : sProp (MT nD τ sig ℕ (Elt F) ℕ UU ℕ)} {p : Prop} [Decidable p] {A : p → Prog (TpuEff nD τ sig (Elt F) Λ₀ .tc) β}
    {B : ¬p → Prog (TpuEff nD τ sig (Elt F) Λ₀ .tc) β} {α : Type} {Q : α → sProp (MT nD τ sig ℕ (Elt F) ℕ UU ℕ)}
    {k : β → Prog (TpuEff nD τ sig (Elt F) Λ₀ .tc) α} (hA : ∀ h : p, P ⊢ WP c (A h) (fun b => iprop(⌜b = v⌝ ∗ R))) (hB : ∀ h : ¬p, P ⊢ WP c (B h) (fun b => iprop(⌜b = v⌝ ∗ R))) :
    P ⊢ iprop((R -∗ WP c (k v) Q) -∗ WP c (dite p A B >>= k) Q) := by
  unfold WP
  rw [wp_bind]
  iintro HP Hk
  iapply (wp_wand_r frame (wpE (defs₀ (F := F)) Variants.none (c : Thread nD τ) none) Set.univ)
  isplitl [HP]
  · show P ⊢ WP c (dite p A B) (fun b => iprop(⌜b = v⌝ ∗ R))
    by_cases h : p
    · rw [dif_pos h]; exact hA h
    · rw [dif_neg h]; exact hB h
  · iintro %b ⟨%hb, HR⟩
    subst hb
    iapply Hk; iexact HR

section States

variable (X : Dev nD → Vec F S4096x512 .f32) (W : Dev nD → Vec F S512x8192 .f32) (K : Dev nD × CK → ℕ) (c : Dev nD)

/-- The chunks of the result that are written. -/
def DN (d h : Fin 2) (t : Nat) : sProp 𝕄 := bigSep (Finset.Ico 0 t) fun u =>
  owns (c : Thread nD τ) (oB (chunk d u c) (qd h d)) fullShare (ob X W h d (chunk d u c))
/-- The chunks of the result that are not. -/
def TD (d h : Fin 2) (t : Nat) : sProp 𝕄 := bigSep (Finset.Ico t 8) fun u => some (F := F) c (oB (chunk d u c) (qd h d))
/-- `t` chunks are written. -/
def SI (d h : Fin 2) (t : Nat) : sProp 𝕄 := iprop(Idle c d (2 + 8 * h.val + t) ∗ some (F := F) c (dH d) ∗ DN X W c d h t ∗ TD c d h t)
/-- Chunk `t` is being written. -/
def SF (d h : Fin 2) (t : Nat) : sProp 𝕄 := iprop(Fly c d (2 + 8 * h.val + t) ∗ DN X W c d h t ∗ TD c d h (t + 1))
/-- The copies at the head of step `t`. -/
def SH (d h : Fin 2) (t : Nat) : sProp 𝕄 := if t ≤ 1 then SI X W c d h 1 else SF X W c d h (t - 1)
/-- A direction at the head of step `t`. -/
def DA (d h : Fin 2) (t : Nat) : sProp 𝕄 := if t = 7 then Af c d (14 + 7 * h.val + 6) else Hd c d (14 + 7 * h.val + t)
/-- Its slots. -/
def QSl (d h : Fin 2) (t : Nat) : sProp 𝕄 :=
  iprop(owns (c : Thread nD τ) (qS (sl d t)) fullShare (qv X W h d t c) ∗ if t = 7 then some c (qS (sl d (t + 1))) else iprop(emp))
/-- The broadcast at the head of step `t`. -/
def AGI (h : Fin 2) (t : Nat) : sProp 𝕄 :=
  iprop(recs X W K ∗ Own c (9 + 4 * (14 + 7 * h.val + t) - if t = 7 then 2 else 0) ∗ DA c 0 h t ∗ DA c 1 h t ∗ QSl X W c 0 h t ∗ QSl X W c 1 h t
    ∗ SH X W c 0 h t ∗ SH X W c 1 h t)

theorem ob_eq (d h : Fin 2) (t : Nat) : ob X W h d (chunk d t c) = dq (scl X W) (qv X W h d t c) := by
  unfold ob qv chunk; rw [pv_nx]

theorem Bn_hi (d : Fin 2) (r : Nat) (hr : 7 ≤ r) : (Bn c d r : sProp 𝕄) = iprop(emp) := by unfold Bn; rw [if_neg (by omega)]

theorem hf_eq' (h : Fin 2) (t : Nat) (ht : t < 7) : hf (14 + 7 * h.val + t) = h := Fin.ext (by have := h.isLt; show _ / 7 % 2 = _; omega)

theorem Src_q (d h : Fin 2) (t : Nat) (ht : t < 7) :
    Src X W c d (14 + 7 * h.val + t) = owns (c : Thread nD τ) (qS (sl d t)) (fullShare : PosShare TreeShare).left (qv X W h d t c) := by
  have := h.isLt
  unfold Src; rw [if_neg (by omega), hf_eq' h t ht, show (14 + 7 * h.val + t) % 7 = t by omega]
theorem Got_q (d h : Fin 2) (t : Nat) (ht : t < 7) :
    Got X W c d (14 + 7 * h.val + t) = owns (c : Thread nD τ) (qS (sl d (t + 1))) fullShare (qv X W h d t (pv d c)) := by
  have := h.isLt
  unfold Got; rw [if_neg (by omega), hf_eq' h t ht, show (14 + 7 * h.val + t) % 7 = t by omega]
theorem Land_q (d h : Fin 2) (t : Nat) (ht : t < 7) :
    Land (F := F) c d (14 + 7 * h.val + t) = some (F := F) c (qS (sl d (t + 1))) := by
  have := h.isLt
  unfold Land; rw [if_neg (by omega), show (14 + 7 * h.val + t) % 7 = t by omega]

variable {α : Type} {Q : α → sProp (MT nD τ sig ℕ (Elt F) ℕ UU ℕ)}

/-- A quantised chunk is sent. -/
theorem ag_send (d h : Fin 2) {t n : Nat} (ht : t < 7) (hi : n = 9 + 4 * (14 + 7 * h.val + t) + d.val) {off off' : Fin 3 → Nat} {inb inb'} (ho : off = ![(sl d t).val, 0, 0])
    (ho' : off' = ![(sl d (t + 1)).val, 0, 0])
    {sS sR : DmaSem sig} (hsS : csem (.snd d) = .dma sS) (hsR : csem (.rcv d) = .dma sR)
    {c'' : Dev nD} (hc : c'' = nx d c) {hsc hsrc hdst hsem}
    {k : PUnit → Prog (TpuEff nD τ sig (Elt F) Λ₀ .tc) α} :
    iprop(recs X W K ∗ Own (F := F) c n ∗ Md (F := F) c d (14 + 7 * h.val + t)
        ∗ owns (c : Thread nD τ) (qS (sl d t)) (fullShare : PosShare TreeShare).left (qv X W h d t c))
      ⊢ iprop(((Own (F := F) c (n + 1) ∗ Fl (F := F) c d (14 + 7 * h.val + t)) -∗ WP c (k ⟨⟩) Q)
          -∗ WP c (.op (.enqueueDma
            (((Memref.whole cc0_scratch1).slice (Rect.unit (s := S4x512x2048) off S1x512x2048.size inb) (fun _ => rfl)).squeeze S512x2048 squeezes_S1x512x2048_S512x2048)
            (.remote (Dev.tc c'' : Thread nD τ)
              (((Memref.whole cc0_scratch1).slice (Rect.unit (s := S4x512x2048) off' S1x512x2048.size inb') (fun _ => rfl)).squeeze S512x2048 squeezes_S1x512x2048_S512x2048)
              (.dma sS) hsc) (.dma sR) hsrc hdst hsem) k) Q) := by
  have hh := h.isLt
  have key := st_send X W K c d (Q := Q) (k := k) (hsc := hsc) (hsrc := hsrc) (hdst := hdst) (hsem := hsem) (r := 14 + 7 * h.val + t) (by omega) (hi.trans (if_neg (by omega)).symm) (qS_of ho) (qS_of ho') (qv X W h d t c)
    (Entails.of_eq (Src_q X W c d h t ht).symm)
    (Entails.of_eq (by rw [Got_q X W (nx d c) d h t ht, pv_nx])) (Entails.of_eq (Land_q (nx d c) d h t ht)) hsS hsR
    (by rw [qS_credit]; exact (if_neg (by omega)).symm) hc
  rw [Bn_hi c d _ (by omega)] at key
  refine BIBase.Entails.trans ?_ key
  iintro ⟨#R, HO, H, HS⟩
  iframe R HO H HS

/-- A permission is taken. -/
theorem ag_credit (d h : Fin 2) {t n : Nat} (ht : t < 7) (hl : 7 + 4 * (14 + 7 * h.val + t) + d.val < n) {sm : Sem sig} (hs : csem (.agc d) = .reg sm)
    {k' : Nat} (hk : k' = 1) {k : PUnit → Prog (TpuEff nD τ sig (Elt F) Λ₀ .tc) α} :
    iprop(recs X W K ∗ Own (F := F) c n ∗ Hd (F := F) c d (14 + 7 * h.val + t))
      ⊢ iprop(((Own (F := F) c n ∗ Md (F := F) c d (14 + 7 * h.val + t)) -∗ WP c (k ⟨⟩) Q) -∗ WP c (.op (.semWait sm k') k) Q) := by
  have hh := h.isLt
  exact st_credit X W K c d (by omega) (by omega) (by unfold crI; split <;> omega)
    (by rw [show crC d (14 + 7 * h.val + t) = .agc d from if_neg (by omega)]; exact hs) hk

/-- A quantised chunk has left. -/
theorem ag_left (d h : Fin 2) {t n : Nat} (ht : t < 7) {sm : DmaSem sig} (hs : csem (.snd d) = .dma sm) {sp' : Space} {s' : Shape} {e' : EltTy}
    {src : Memref sig .tc sp' s' e'} {off : Fin 3 → Nat} {inb} (ho : off = ![(sl d t).val, 0, 0]) {hsrc hdst}
    {k : PUnit → Prog (TpuEff nD τ sig (Elt F) Λ₀ .tc) α} :
    iprop(recs X W K ∗ Own (F := F) c n ∗ Fl (F := F) c d (14 + 7 * h.val + t))
      ⊢ iprop(((Own (F := F) c n ∗ Fs (F := F) c d (14 + 7 * h.val + t)
            ∗ owns (c : Thread nD τ) (qS (sl d t)) (fullShare : PosShare TreeShare).left (qv X W h d t c)) -∗ WP c (k ⟨⟩) Q)
          -∗ WP c (.op (.waitDma2 sm src
            (((Memref.whole cc0_scratch1).slice (Rect.unit (s := S4x512x2048) off S1x512x2048.size inb) (fun _ => rfl)).squeeze S512x2048 squeezes_S1x512x2048_S512x2048)
            hsrc hdst) k) Q) := by
  have hh := h.isLt
  rw [← Src_q X W c d h t ht]
  exact st_left X W K c d (by omega) hs (by rw [qS_of ho, qS_credit]; exact (if_neg (by omega)).symm)

/-- A quantised chunk has arrived. -/
theorem ag_arr (d h : Fin 2) {t n : Nat} (ht : t < 7) (hl : 9 + 4 * (14 + 7 * h.val + t) + d.val < n) {sm : DmaSem sig} (hs : csem (.rcv d) = .dma sm)
    {sp' : Space} {s' : Shape} {e' : EltTy}
    {src : Memref sig .tc sp' s' e'} {off : Fin 3 → Nat} {inb} (ho : off = ![(sl d (t + 1)).val, 0, 0]) {hsrc hdst}
    {k : PUnit → Prog (TpuEff nD τ sig (Elt F) Λ₀ .tc) α} :
    iprop(recs X W K ∗ Own (F := F) c n ∗ Fs (F := F) c d (14 + 7 * h.val + t))
      ⊢ iprop(((Own (F := F) c n ∗ Af (F := F) c d (14 + 7 * h.val + t) ∗ owns (c : Thread nD τ) (qS (sl d (t + 1))) fullShare (qv X W h d (t + 1) c)) -∗ WP c (k ⟨⟩) Q)
          -∗ WP c (.op (.waitDma2 sm src
            (((Memref.whole cc0_scratch1).slice (Rect.unit (s := S4x512x2048) off S1x512x2048.size inb) (fun _ => rfl)).squeeze S512x2048 squeezes_S1x512x2048_S512x2048)
            hsrc hdst) k) Q) := by
  have hh := h.isLt
  have key := st_arr X W K c d (Q := Q) (k := k) (n := n) (src := src) (hsrc := hsrc) (hdst := hdst) (r := 14 + 7 * h.val + t) (by omega)
    (by rw [show txI (14 + 7 * h.val + t) d = 9 + 4 * (14 + 7 * h.val + t) + d.val from if_neg (by omega)]; omega) hs
    (by rw [qS_of ho, qS_credit]; exact (if_neg (by omega)).symm)
  rw [Bn_hi _ d _ (by omega), Got_q X W c d h t ht] at key
  refine key.trans ?_
  iintro Hk H
  iapply Hk
  iintro ⟨HO, H1, H2, -⟩
  iapply H
  iframe HO H1
  iexact H2

/-- The permission for the next step of the broadcast. -/
theorem ag_grant (d h : Fin 2) {t n : Nat} (ht : t < 6) (hi : n = 7 + 4 * (14 + 7 * h.val + t + 1) + d.val) {sm : Sem sig} (hs : csem (.agc d) = .reg sm)
    {k' : Nat} (hk : k' = 1) {c'' : Dev nD} (hc : c'' = pv d c) {k : PUnit → Prog (TpuEff nD τ sig (Elt F) Λ₀ .tc) α} :
    iprop(recs X W K ∗ Own (F := F) c n ∗ Af (F := F) c d (14 + 7 * h.val + t) ∗ some (F := F) c (qS (sl d t)))
      ⊢ iprop(((Own (F := F) c (n + 1) ∗ Hd (F := F) c d (14 + 7 * h.val + (t + 1))) -∗ WP c (k ⟨⟩) Q) -∗ WP c (.op (.semSignal (c'' : Thread nD τ) sm k') k) Q) := by
  have hh := h.isLt
  have e := Land_q (F := F) c d h (t + 1) (by omega)
  rw [show t + 1 + 1 = t + 2 from rfl, sl_add_two] at e
  rw [← e]
  exact st_grant X W K c d (r := 14 + 7 * h.val + t) (by omega) (hi.trans (if_neg (by omega)).symm)
    (by rw [show crC d (14 + 7 * h.val + t + 1) = .agc d from if_neg (by omega)]; exact hs) hk hc

theorem out_credit {off : Fin 2 → Nat} {inb} :
    ((Memref.whole main_v1).slice (Rect.unit (s := S4096x8192) off S512x2048.size inb) (fun _ => rfl) : Memref sig .tc .hbm S512x2048 .f32).view.dmaCredit = nO := by
  unfold nO; rfl

/-- A chunk of the result is written. -/
theorem ag_stored (d h : Fin 2) {t n : Nat} (ht : t < 8) {sm : DmaSem sig} (hs : csem (.sto d) = .dma sm) {sp' : Space} {s' : Shape} {e' : EltTy}
    {src : Memref sig .tc sp' s' e'} {off : Fin 2 → Nat} {inb} {hsrc hdst} {k : PUnit → Prog (TpuEff nD τ sig (Elt F) Λ₀ .tc) α} :
    iprop(recs X W K ∗ Own (F := F) c n ∗ SF X W c d h t)
      ⊢ iprop(((Own (F := F) c n ∗ SI X W c d h (t + 1)) -∗ WP c (k ⟨⟩) Q)
          -∗ WP c (.op (.waitDma2 sm src ((Memref.whole main_v1).slice (Rect.unit (s := S4096x8192) off S512x2048.size inb) (fun _ => rfl)) hsrc hdst) k) Q) := by
  have hh := h.isLt
  unfold SF SI DN
  rw [ico_snoc 0 t (Nat.zero_le _)]
  iintro ⟨#R, HO, HF, H1, H2⟩ Hk
  iapply (st_stored X W K c d (r := 2 + 8 * h.val + t) (by omega) hs out_credit) $$ [HO HF]
  · iframe R HO HF
  rw [Sto_out X W c d h t ht]
  iintro ⟨HO, HI, H3, H4⟩
  ihave H4 := (owns_some c _ _) $$ H4
  iapply Hk
  iframe HO H4 H3 H1 H2
  iexact HI

/-- A chunk of the result is sent to where it belongs. -/
theorem ag_copy (d h : Fin 2) {t : Nat} (ht : t < 8) {off : Fin 2 → Nat} {inb} {src} (es : src = dH d) (ho : off = ![512 * (nx d (up d t c)).val, 2048 * (qd h d).val])
    {sm : DmaSem sig} (hs : csem (.sto d) = .dma sm) {hsrc hdst hsem}
    {k : PUnit → Prog (TpuEff nD τ sig (Elt F) Λ₀ .tc) α} :
    iprop(recs X W K ∗ Idle (F := F) c d (2 + 8 * h.val + t) ∗ owns (c : Thread nD τ) (dH d) fullShare (dq (scl X W) (qv X W h d t c)) ∗ DN X W c d h t ∗ TD (F := F) c d h t)
      ⊢ iprop((SF X W c d h t -∗ WP c (k ⟨⟩) Q)
          -∗ WP c (.op (.enqueueDma src (.here ((Memref.whole main_v1).slice (Rect.unit (s := S4096x8192) off S512x2048.size inb) (fun _ => rfl))) (.dma sm) hsrc hdst hsem) k) Q) := by
  have hh := h.isLt
  rw [← ob_eq]
  unfold SF TD
  rw [ico_peel t 8 ht]
  iintro ⟨#R, HI, HS, H1, HD, H2⟩ Hk
  iapply (st_out X W K c d h t ht es (oB_of ho) hs) $$ [HI HS HD]
  · iframe R HI HS HD
  iintro HF
  iapply Hk
  iframe HF H1 H2

theorem ag_out (h : Fin 2) {t n : Nat} (ht : t = 6) (hn : n = 9 + 4 * (14 + 7 * h.val + t) + 2) :
    iprop(recs X W K ∗ Own (F := F) c n ∗ Af (F := F) c 0 (14 + 7 * h.val + t) ∗ Af (F := F) c 1 (14 + 7 * h.val + t)
      ∗ owns (c : Thread nD τ) (qS (sl 0 (t + 1))) fullShare (qv X W h 0 (t + 1) c) ∗ some (F := F) c (qS (sl 0 t))
      ∗ owns (c : Thread nD τ) (qS (sl 1 (t + 1))) fullShare (qv X W h 1 (t + 1) c) ∗ some (F := F) c (qS (sl 1 t))
      ∗ SH X W c 0 h (t + 1) ∗ SH X W c 1 h (t + 1))
    ⊢ AGI X W K c h (t + 1) := by
  subst ht hn
  unfold AGI DA QSl
  simp only [if_true, show (6 + 1 = 7) = True from eq_true rfl, sl_add_two]
  iintro ⟨#R, HO, H1, H2, H3, H4, H5, H6, H7, H8⟩
  iframe R H1 H2 H3 H4 H5 H6 H7 H8
  rw [show 9 + 4 * (14 + 7 * h.val + (6 + 1)) - 2 = 9 + 4 * (14 + 7 * h.val + 6) + 2 by omega]
  iexact HO

theorem ag_next (h : Fin 2) {t n : Nat} (ht : t < 6) (hn : n = 9 + 4 * (14 + 7 * h.val + t) + 4) :
    iprop(recs X W K ∗ Own (F := F) c n ∗ Hd (F := F) c 0 (14 + 7 * h.val + (t + 1)) ∗ Hd (F := F) c 1 (14 + 7 * h.val + (t + 1))
      ∗ owns (c : Thread nD τ) (qS (sl 0 (t + 1))) fullShare (qv X W h 0 (t + 1) c)
      ∗ owns (c : Thread nD τ) (qS (sl 1 (t + 1))) fullShare (qv X W h 1 (t + 1) c)
      ∗ SH X W c 0 h (t + 1) ∗ SH X W c 1 h (t + 1))
    ⊢ AGI X W K c h (t + 1) := by
  subst hn
  have h7 : ¬t + 1 = 7 := by omega
  unfold AGI DA QSl
  rw [if_neg h7, if_neg h7, if_neg h7, if_neg h7, if_neg h7]
  iintro ⟨#R, HO, H1, H2, H3, H4, H5, H6⟩
  iframe R H1 H2 H3 H4 H5 H6
  rw [show 9 + 4 * (14 + 7 * h.val + (t + 1)) - 0 = 9 + 4 * (14 + 7 * h.val + t) + 4 by omega]
  iexact HO

end States

section Body

variable (X : Dev nD → Vec F S4096x512 .f32) (W : Dev nD → Vec F S512x8192 .f32) (K : Dev nD × CK → ℕ) (c : Dev nD)

set_option maxHeartbeats 1000000 in
set_option maxRecDepth 65536 in
theorem t3_step (t : Fin k0_t3_loop.trips) (a : Unit) (v2 v14 v25 v36 v48 : BitVec 32) :
    AGI X W K c 0 t.val ⊢ WP c (k0_t3_body (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v14 v25 v36 v48 (scl X W) t a) (fun _ => AGI X W K c 0 (t.val + 1)) := by
  have ht : t.val < 7 := trips3 ▸ t.isLt
  have h7 : ¬t.val = 7 := by omega
  unfold k0_t3_body
  simp only [k0_part10_eq_skeleton, k0_part11_eq_skeleton]
  unfold k0_part10_skel k0_part11_skel
  simp only [k0_part9_eq_skeleton]
  unfold k0_part9_skel
  simp only [semSignalWord, semWaitWord, Prog.lift, Prog.bind_op, Prog.bind_ret, Prog.pure_eq_ret]
  conv_lhs => unfold AGI DA QSl
  rw [if_neg h7, if_neg h7, if_neg h7, if_neg h7, if_neg h7]
  rw [Nat.sub_zero]
  iintro ⟨#R, HO, H1, H2, ⟨HQ0, -⟩, ⟨HQ1, -⟩, HS0, HS1⟩
  iapply (ag_credit X W K c 0 0 (t := t.val) (n := 9 + 4 * (14 + 7 * (0 : Fin 2).val + t.val)) ht (by simp <;> omega) rfl rfl) $$ [HO H1]
  · iframe R HO H1
  iintro ⟨HO, H1⟩
  iapply (ag_credit X W K c 1 0 (t := t.val) (n := 9 + 4 * (14 + 7 * (0 : Fin 2).val + t.val)) ht (by simp <;> omega) rfl rfl) $$ [HO H2]
  · iframe R HO H2
  iintro ⟨HO, H2⟩
  ihave HQ0 := (owns_split c _ _ _) $$ HQ0
  icases HQ0 with ⟨HQ0, HR0⟩
  ihave HQ1 := (owns_split c _ _ _) $$ HQ1
  icases HQ1 with ⟨HQ1, HR1⟩
  iapply (ag_send X W K c 0 0 (t := t.val) (n := 9 + 4 * (14 + 7 * (0 : Fin 2).val + t.val)) ht rfl (off22a t) (off21a t) rfl rfl (Fin.ext (dev22 c))) $$ [HO H1 HQ0]
  · iframe R HO H1 HQ0
  iintro ⟨HO, H1⟩
  iapply (ag_send X W K c 1 0 (t := t.val) (n := 9 + 4 * (14 + 7 * (0 : Fin 2).val + t.val) + 1) ht rfl (off22b t) (off21b t) rfl rfl (Fin.ext (dev23 c))) $$ [HO H2 HQ1]
  · iframe R HO H2 HQ1
  iintro ⟨HO, H2⟩
  iapply (wp_dite_else c PUnit.unit (P := iprop(recs X W K ∗ Own c (9 + 4 * (14 + 7 * (0 : Fin 2).val + t.val) + 1 + 1) ∗ SH X W c 0 0 t.val ∗ SH X W c 1 0 t.val ∗ Fl c 0 (14 + 7 * (0 : Fin 2).val + t.val)
      ∗ owns (c : Thread nD τ) (qS (sl 0 t.val)) (fullShare : PosShare TreeShare).right (qv X W 0 0 t.val c)
      ∗ owns (c : Thread nD τ) (qS (sl 1 t.val)) (fullShare : PosShare TreeShare).right (qv X W 0 1 t.val c)))
    (R := iprop(Own c (9 + 4 * (14 + 7 * (0 : Fin 2).val + t.val) + 1 + 1) ∗ SH X W c 0 0 (t.val + 1) ∗ SH X W c 1 0 (t.val + 1) ∗ Fs c 0 (14 + 7 * (0 : Fin 2).val + t.val)
      ∗ owns (c : Thread nD τ) (qS (sl 0 t.val)) (fullShare : PosShare TreeShare).left (qv X W 0 0 t.val c)
      ∗ owns (c : Thread nD τ) (qS (sl 0 t.val)) (fullShare : PosShare TreeShare).right (qv X W 0 0 t.val c)
      ∗ owns (c : Thread nD τ) (qS (sl 1 t.val)) (fullShare : PosShare TreeShare).right (qv X W 0 1 t.val c))) ?hA ?hB) $$ [HO HS0 HS1 H1 HR0 HR1]
  case' hA =>
    intro hh
    rw [cond4] at hh
    conv_lhs => unfold SH
    rw [if_neg (show ¬t.val ≤ 1 by omega), if_neg (show ¬t.val ≤ 1 by omega)]
    iintro ⟨#R, HO, HS0, HS1, H1, HR0, HR1⟩
    iapply (ag_stored X W K c 0 0 (t := t.val - 1) (by omega) rfl) $$ [HO HS0]
    · iframe R HO HS0
    iintro ⟨HO, HS0⟩
    iapply (ag_stored X W K c 1 0 (t := t.val - 1) (by omega) rfl) $$ [HO HS1]
    · iframe R HO HS1
    iintro ⟨HO, HS1⟩
    have e : t.val - 1 + 1 = max t.val 1 := by omega
    rw [e]
  case' hB =>
    intro hh
    rw [cond4] at hh
    have e : 1 = max t.val 1 := by omega
    conv_lhs => unfold SH
    rw [if_pos (show t.val ≤ 1 by omega), if_pos (show t.val ≤ 1 by omega), show SI X W c 0 0 1 = SI X W c 0 0 (max t.val 1) by rw [← e], show SI X W c 1 0 1 = SI X W c 1 0 (max t.val 1) by rw [← e]]
    iintro ⟨#R, HO, HS0, HS1, H1, HR0, HR1⟩
  case' hA | hB =>
    clear e hh
    by_cases hh : k0_cond5 t = 1#1
    case' pos =>
      rw [dif_pos hh]
      rw [cond5] at hh
      unfold SH
      rw [if_neg (show ¬t.val + 1 ≤ 1 by omega), if_neg (show ¬t.val + 1 ≤ 1 by omega), show max t.val 1 = t.val by omega, Nat.add_sub_cancel]
      unfold SI
      icases HS0 with ⟨HI0, Hd0, H10, H20⟩
      icases HS1 with ⟨HI1, Hd1, H11, H21⟩
      iapply (load_q c (j := sl 0 t.val) (off25a t)) $$ [HR0]
      · iexact HR0
      iintro HR0
      iapply (store_d c (d := 0) (Y := dq (scl X W) (qv X W 0 0 t.val c)) rfl (pay9_eq _ _)) $$ [Hd0]
      · iexact Hd0
      iintro Hd0
      iapply (load_q c (j := sl 1 t.val) (off25b t)) $$ [HR1]
      · iexact HR1
      iintro HR1
      iapply (store_d c (d := 1) (Y := dq (scl X W) (qv X W 0 1 t.val c)) rfl (pay10_eq _ _)) $$ [Hd1]
      · iexact Hd1
      iintro Hd1
      iapply (ag_copy X W K c 0 0 (t := t.val) (by omega) (dH_of rfl) (off26 c t) rfl) $$ [HI0 Hd0 H10 H20]
      · iframe R HI0 Hd0 H10 H20
      iintro HS0
      iapply (ag_copy X W K c 1 0 (t := t.val) (by omega) (dH_of rfl) (off27 c t) rfl) $$ [HI1 Hd1 H11 H21]
      · iframe R HI1 Hd1 H11 H21
      iintro HS1
    case' neg =>
      rw [dif_neg hh]
      rw [cond5] at hh
      unfold SH
      rw [if_pos (show t.val + 1 ≤ 1 by omega), if_pos (show t.val + 1 ≤ 1 by omega), show max t.val 1 = 1 by omega]
    case pos | neg =>
      iapply (ag_left X W K c 0 0 (t := t.val) ht rfl (off22a t)) $$ [HO H1]
      · iframe R HO H1
      iintro ⟨HO, H1, HQ0⟩
      iapply (wp_end c)
      isplitr
      · ipureintro; rfl
      iframe HO HS0 HS1 H1 HQ0 HR0 HR1
  · iframe R HO HS0 HS1 H1 HR0 HR1
  iintro ⟨HO, HS0, HS1, H1, HQ0, HR0, HR1⟩
  iapply (ag_arr X W K c 0 0 (t := t.val) (n := 9 + 4 * (14 + 7 * (0 : Fin 2).val + t.val) + 1 + 1) ht (by simp <;> omega) rfl (off21a t)) $$ [HO H1]
  · iframe R HO H1
  iintro ⟨HO, H1, HG0⟩
  iapply (ag_left X W K c 1 0 (t := t.val) ht rfl (off22b t)) $$ [HO H2]
  · iframe R HO H2
  iintro ⟨HO, H2, HQ1⟩
  iapply (ag_arr X W K c 1 0 (t := t.val) (n := 9 + 4 * (14 + 7 * (0 : Fin 2).val + t.val) + 1 + 1) ht (by simp <;> omega) rfl (off21b t)) $$ [HO H2]
  · iframe R HO H2
  iintro ⟨HO, H2, HG1⟩
  ihave HQ0 := (owns_unsplit c _ _ _) $$ [HQ0 HR0]
  · iframe HQ0 HR0
  ihave HQ0 := (owns_some c _ _) $$ HQ0
  ihave HQ1 := (owns_unsplit c _ _ _) $$ [HQ1 HR1]
  · iframe HQ1 HR1
  ihave HQ1 := (owns_some c _ _) $$ HQ1
  by_cases hc : t.val < 6
  · rw [dif_pos ((cond6 t).mpr hc)]
    iapply (ag_grant X W K c 0 0 (t := t.val) (n := 9 + 4 * (14 + 7 * (0 : Fin 2).val + t.val) + 1 + 1) hc (by simp <;> omega) rfl rfl (Fin.ext (dev24 c))) $$ [HO H1 HQ0]
    · iframe R HO H1 HQ0
    iintro ⟨HO, H1⟩
    iapply (ag_grant X W K c 1 0 (t := t.val) (n := 9 + 4 * (14 + 7 * (0 : Fin 2).val + t.val) + 1 + 1 + 1) hc (by simp <;> omega) rfl rfl (Fin.ext (dev25 c))) $$ [HO H2 HQ1]
    · iframe R HO H2 HQ1
    iintro ⟨HO, H2⟩
    iapply (wp_end c)
    iapply (ag_next X W K c 0 (t := t.val) (n := 9 + 4 * (14 + 7 * (0 : Fin 2).val + t.val) + 1 + 1 + 1 + 1) hc rfl)
    iframe R HO H1 H2 HG0 HG1 HS0 HS1
  · rw [dif_neg (fun x => hc ((cond6 t).mp x))]
    iapply (wp_end c)
    iapply (ag_out X W K c 0 (t := t.val) (n := 9 + 4 * (14 + 7 * (0 : Fin 2).val + t.val) + 1 + 1) (by omega) rfl)
    iframe R HO H1 H2 HG0 HQ0 HG1 HQ1 HS0 HS1

set_option maxHeartbeats 1000000 in
set_option maxRecDepth 65536 in
theorem t4_step (t : Fin k0_t4_loop.trips) (a : Unit) (v2 v14 v25 v36 v48 : BitVec 32) :
    AGI X W K c 1 t.val ⊢ WP c (k0_t4_body (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v14 v25 v36 v48 (scl X W) t a) (fun _ => AGI X W K c 1 (t.val + 1)) := by
  have ht : t.val < 7 := trips4 ▸ t.isLt
  have h7 : ¬t.val = 7 := by omega
  unfold k0_t4_body
  simp only [k0_part13_eq_skeleton, k0_part14_eq_skeleton]
  unfold k0_part13_skel k0_part14_skel
  simp only [k0_part12_eq_skeleton]
  unfold k0_part12_skel
  simp only [semSignalWord, semWaitWord, Prog.lift, Prog.bind_op, Prog.bind_ret, Prog.pure_eq_ret]
  conv_lhs => unfold AGI DA QSl
  rw [if_neg h7, if_neg h7, if_neg h7, if_neg h7, if_neg h7]
  rw [Nat.sub_zero]
  iintro ⟨#R, HO, H1, H2, ⟨HQ0, -⟩, ⟨HQ1, -⟩, HS0, HS1⟩
  iapply (ag_credit X W K c 0 1 (t := t.val) (n := 9 + 4 * (14 + 7 * (1 : Fin 2).val + t.val)) ht (by simp <;> omega) rfl rfl) $$ [HO H1]
  · iframe R HO H1
  iintro ⟨HO, H1⟩
  iapply (ag_credit X W K c 1 1 (t := t.val) (n := 9 + 4 * (14 + 7 * (1 : Fin 2).val + t.val)) ht (by simp <;> omega) rfl rfl) $$ [HO H2]
  · iframe R HO H2
  iintro ⟨HO, H2⟩
  ihave HQ0 := (owns_split c _ _ _) $$ HQ0
  icases HQ0 with ⟨HQ0, HR0⟩
  ihave HQ1 := (owns_split c _ _ _) $$ HQ1
  icases HQ1 with ⟨HQ1, HR1⟩
  iapply (ag_send X W K c 0 1 (t := t.val) (n := 9 + 4 * (14 + 7 * (1 : Fin 2).val + t.val)) ht rfl (off31a t) (off30a t) rfl rfl (Fin.ext (dev28 c))) $$ [HO H1 HQ0]
  · iframe R HO H1 HQ0
  iintro ⟨HO, H1⟩
  iapply (ag_send X W K c 1 1 (t := t.val) (n := 9 + 4 * (14 + 7 * (1 : Fin 2).val + t.val) + 1) ht rfl (off31b t) (off30b t) rfl rfl (Fin.ext (dev29 c))) $$ [HO H2 HQ1]
  · iframe R HO H2 HQ1
  iintro ⟨HO, H2⟩
  iapply (wp_dite_else c PUnit.unit (P := iprop(recs X W K ∗ Own c (9 + 4 * (14 + 7 * (1 : Fin 2).val + t.val) + 1 + 1) ∗ SH X W c 0 1 t.val ∗ SH X W c 1 1 t.val ∗ Fl c 0 (14 + 7 * (1 : Fin 2).val + t.val)
      ∗ owns (c : Thread nD τ) (qS (sl 0 t.val)) (fullShare : PosShare TreeShare).right (qv X W 1 0 t.val c)
      ∗ owns (c : Thread nD τ) (qS (sl 1 t.val)) (fullShare : PosShare TreeShare).right (qv X W 1 1 t.val c)))
    (R := iprop(Own c (9 + 4 * (14 + 7 * (1 : Fin 2).val + t.val) + 1 + 1) ∗ SH X W c 0 1 (t.val + 1) ∗ SH X W c 1 1 (t.val + 1) ∗ Fs c 0 (14 + 7 * (1 : Fin 2).val + t.val)
      ∗ owns (c : Thread nD τ) (qS (sl 0 t.val)) (fullShare : PosShare TreeShare).left (qv X W 1 0 t.val c)
      ∗ owns (c : Thread nD τ) (qS (sl 0 t.val)) (fullShare : PosShare TreeShare).right (qv X W 1 0 t.val c)
      ∗ owns (c : Thread nD τ) (qS (sl 1 t.val)) (fullShare : PosShare TreeShare).right (qv X W 1 1 t.val c))) ?hA ?hB) $$ [HO HS0 HS1 H1 HR0 HR1]
  case' hA =>
    intro hh
    rw [cond7] at hh
    conv_lhs => unfold SH
    rw [if_neg (show ¬t.val ≤ 1 by omega), if_neg (show ¬t.val ≤ 1 by omega)]
    iintro ⟨#R, HO, HS0, HS1, H1, HR0, HR1⟩
    iapply (ag_stored X W K c 0 1 (t := t.val - 1) (by omega) rfl) $$ [HO HS0]
    · iframe R HO HS0
    iintro ⟨HO, HS0⟩
    iapply (ag_stored X W K c 1 1 (t := t.val - 1) (by omega) rfl) $$ [HO HS1]
    · iframe R HO HS1
    iintro ⟨HO, HS1⟩
    have e : t.val - 1 + 1 = max t.val 1 := by omega
    rw [e]
  case' hB =>
    intro hh
    rw [cond7] at hh
    have e : 1 = max t.val 1 := by omega
    conv_lhs => unfold SH
    rw [if_pos (show t.val ≤ 1 by omega), if_pos (show t.val ≤ 1 by omega), show SI X W c 0 1 1 = SI X W c 0 1 (max t.val 1) by rw [← e], show SI X W c 1 1 1 = SI X W c 1 1 (max t.val 1) by rw [← e]]
    iintro ⟨#R, HO, HS0, HS1, H1, HR0, HR1⟩
  case' hA | hB =>
    clear e hh
    by_cases hh : k0_cond8 t = 1#1
    case' pos =>
      rw [dif_pos hh]
      rw [cond8] at hh
      unfold SH
      rw [if_neg (show ¬t.val + 1 ≤ 1 by omega), if_neg (show ¬t.val + 1 ≤ 1 by omega), show max t.val 1 = t.val by omega, Nat.add_sub_cancel]
      unfold SI
      icases HS0 with ⟨HI0, Hd0, H10, H20⟩
      icases HS1 with ⟨HI1, Hd1, H11, H21⟩
      iapply (load_q c (j := sl 0 t.val) (off34a t)) $$ [HR0]
      · iexact HR0
      iintro HR0
      iapply (store_d c (d := 0) (Y := dq (scl X W) (qv X W 1 0 t.val c)) rfl (pay11_eq _ _)) $$ [Hd0]
      · iexact Hd0
      iintro Hd0
      iapply (load_q c (j := sl 1 t.val) (off34b t)) $$ [HR1]
      · iexact HR1
      iintro HR1
      iapply (store_d c (d := 1) (Y := dq (scl X W) (qv X W 1 1 t.val c)) rfl (pay12_eq _ _)) $$ [Hd1]
      · iexact Hd1
      iintro Hd1
      iapply (ag_copy X W K c 0 1 (t := t.val) (by omega) (dH_of rfl) (off35 c t) rfl) $$ [HI0 Hd0 H10 H20]
      · iframe R HI0 Hd0 H10 H20
      iintro HS0
      iapply (ag_copy X W K c 1 1 (t := t.val) (by omega) (dH_of rfl) (off36 c t) rfl) $$ [HI1 Hd1 H11 H21]
      · iframe R HI1 Hd1 H11 H21
      iintro HS1
    case' neg =>
      rw [dif_neg hh]
      rw [cond8] at hh
      unfold SH
      rw [if_pos (show t.val + 1 ≤ 1 by omega), if_pos (show t.val + 1 ≤ 1 by omega), show max t.val 1 = 1 by omega]
    case pos | neg =>
      iapply (ag_left X W K c 0 1 (t := t.val) ht rfl (off31a t)) $$ [HO H1]
      · iframe R HO H1
      iintro ⟨HO, H1, HQ0⟩
      iapply (wp_end c)
      isplitr
      · ipureintro; rfl
      iframe HO HS0 HS1 H1 HQ0 HR0 HR1
  · iframe R HO HS0 HS1 H1 HR0 HR1
  iintro ⟨HO, HS0, HS1, H1, HQ0, HR0, HR1⟩
  iapply (ag_arr X W K c 0 1 (t := t.val) (n := 9 + 4 * (14 + 7 * (1 : Fin 2).val + t.val) + 1 + 1) ht (by simp <;> omega) rfl (off30a t)) $$ [HO H1]
  · iframe R HO H1
  iintro ⟨HO, H1, HG0⟩
  iapply (ag_left X W K c 1 1 (t := t.val) ht rfl (off31b t)) $$ [HO H2]
  · iframe R HO H2
  iintro ⟨HO, H2, HQ1⟩
  iapply (ag_arr X W K c 1 1 (t := t.val) (n := 9 + 4 * (14 + 7 * (1 : Fin 2).val + t.val) + 1 + 1) ht (by simp <;> omega) rfl (off30b t)) $$ [HO H2]
  · iframe R HO H2
  iintro ⟨HO, H2, HG1⟩
  ihave HQ0 := (owns_unsplit c _ _ _) $$ [HQ0 HR0]
  · iframe HQ0 HR0
  ihave HQ0 := (owns_some c _ _) $$ HQ0
  ihave HQ1 := (owns_unsplit c _ _ _) $$ [HQ1 HR1]
  · iframe HQ1 HR1
  ihave HQ1 := (owns_some c _ _) $$ HQ1
  by_cases hc : t.val < 6
  · rw [dif_pos ((cond9 t).mpr hc)]
    iapply (ag_grant X W K c 0 1 (t := t.val) (n := 9 + 4 * (14 + 7 * (1 : Fin 2).val + t.val) + 1 + 1) hc (by simp <;> omega) rfl rfl (Fin.ext (dev30 c))) $$ [HO H1 HQ0]
    · iframe R HO H1 HQ0
    iintro ⟨HO, H1⟩
    iapply (ag_grant X W K c 1 1 (t := t.val) (n := 9 + 4 * (14 + 7 * (1 : Fin 2).val + t.val) + 1 + 1 + 1) hc (by simp <;> omega) rfl rfl (Fin.ext (dev31 c))) $$ [HO H2 HQ1]
    · iframe R HO H2 HQ1
    iintro ⟨HO, H2⟩
    iapply (wp_end c)
    iapply (ag_next X W K c 1 (t := t.val) (n := 9 + 4 * (14 + 7 * (1 : Fin 2).val + t.val) + 1 + 1 + 1 + 1) hc rfl)
    iframe R HO H1 H2 HG0 HG1 HS0 HS1
  · rw [dif_neg (fun x => hc ((cond9 t).mp x))]
    iapply (wp_end c)
    iapply (ag_out X W K c 1 (t := t.val) (n := 9 + 4 * (14 + 7 * (1 : Fin 2).val + t.val) + 1 + 1) (by omega) rfl)
    iframe R HO H1 H2 HG0 HQ0 HG1 HQ1 HS0 HS1

end Body

end Cert.Proof.KI
-- ==== Proof.Ax.lean ====
/- The maxima: every device sends its own to all the others. -/
module

public import proofs.«01_k».proof.Proof.Ring
public import proofs.«01_k».proof.Proof.Gen.KernelIdeal.Skeleton

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Rows

variable (X : Dev nD → Vec F S4096x512 .f32) (W : Dev nD → Vec F S512x8192 .f32) (K : Dev nD × CK → ℕ) (c : Dev nD)

/-- The place of the `k`th transfer of a row among the semaphores. -/
def ak (k : Nat) : Fin 7 := ⟨(k - 1) % 7, Nat.mod_lt _ (by decide)⟩

/-- What the `k`th transfer of a row needs. -/
def RowS (k : Nat) : sProp 𝕄 :=
  iprop(owns (c : Thread nD τ) (aS c) (shr (ak k).val) (amv X W c) ∗ some (F := F) (fwd k c) (aS c) ∗ Tok c (.axs (ak k)) 0 0 ∗ At c (.axs (ak k)) 0 ∗ Tok (fwd k c) (.axr c) 0 0)
/-- It is on its way. -/
def RowF (k : Nat) : sProp 𝕄 := iprop(Crd (F := F) c (.axs (ak k)) 0 ∗ At c (.axs (ak k)) 0)
/-- It has left. -/
def RowL (k : Nat) : sProp 𝕄 := iprop(At c (.axs (ak k)) 1 ∗ owns (c : Thread nD τ) (aS c) (shr (ak k).val) (amv X W c))
/-- What the wait for the row of the `k`th device on needs. -/
def RowW (k : Nat) : sProp 𝕄 := iprop(Crd (F := F) c (.axr (fwd k c)) 0 ∗ At c (.axr (fwd k c)) 0)
/-- It is there. -/
def RowG (k : Nat) : sProp 𝕄 := iprop(At c (.axr (fwd k c)) 1 ∗ owns (c : Thread nD τ) (aS (fwd k c)) fullShare (amv X W (fwd k c)))

/-- The transfers before the `k`th are on their way. -/
def RS' (k : Nat) : sProp 𝕄 := iprop(bigSep (Finset.Ico k 8) (RowS X W c) ∗ bigSep (Finset.Ico 1 k) (RowF (F := F) c))
/-- The rows before the `k`th are there. -/
def RW' (k : Nat) : sProp 𝕄 := iprop(bigSep (Finset.Ico k 8) (RowW (F := F) c) ∗ bigSep (Finset.Ico 1 k) (RowG X W c))
/-- The transfers before the `k`th have left. -/
def RL' (k : Nat) : sProp 𝕄 := iprop(bigSep (Finset.Ico k 8) (RowF (F := F) c) ∗ bigSep (Finset.Ico 1 k) (RowL X W c))

theorem fwd_add : ∀ (k : Fin 8) (c : Dev nD), fwd k.val c = c + k := by decide
theorem fwd_ne (k : Nat) (h1 : 1 ≤ k) (h8 : k < 8) (c : Dev nD) : fwd k c ≠ c := by
  have : ∀ (k : Fin 8) (c : Dev nD), 1 ≤ k.val → fwd k.val c ≠ c := by decide
  exact this ⟨k, h8⟩ c h1
theorem fwd_eq (k : Nat) (h8 : k < 8) (c : Dev nD) : fwd k c = c + (⟨k, h8⟩ : Fin 8) := fwd_add ⟨k, h8⟩ c

theorem at_one (y : S1.Idx) : (y 0).val = 0 := Nat.lt_one_iff.mp (y 0).isLt

theorem axr_sem {j : Fin 8} {off : Fin 1 → Nat} {inb} (h : off = ![j.val]) :
    csem (.axr j) = .dma ((cc0_scratch7.slice (Rect.unit (s := S8) off S1.size inb)).squeeze S_ squeezes_S1_S_).sem := by
  subst h
  refine congrArg SemLoc.dma (Fin.ext ?_)
  show 13 + j.val = 13 + (S8.rowMajor ((Rect.unit (s := S8) ![j.val] S1.size inb).emb _)).val
  rw [Shape.rowMajor_val_one, Rect.emb_apply]
  exact congrArg (13 + ·) (show j.val = j.val + 1 * _ from by rw [at_one]; rfl)

theorem axs_sem {j : Fin 7} {off : Fin 1 → Nat} {inb} (h : off = ![j.val]) :
    csem (.axs j) = .dma ((cc0_scratch6.slice (Rect.unit (s := S7) off S1.size inb)).squeeze S_ squeezes_S1_S_).sem := by
  subst h
  refine congrArg SemLoc.dma (Fin.ext ?_)
  show 6 + j.val = 6 + (S7.rowMajor ((Rect.unit (s := S7) ![j.val] S1.size inb).emb _)).val
  rw [Shape.rowMajor_val_one, Rect.emb_apply]
  exact congrArg (6 + ·) (show j.val = j.val + 1 * _ from by rw [at_one]; rfl)

theorem slot_row (k : Nat) (h1 : 1 ≤ k) (h8 : k < 8) : slot (57 + k) = .ax k := by
  have := slot_ax ⟨k - 1, by omega⟩
  rw [show k - 1 + 1 = k by omega, show 58 + (k - 1) = 57 + k by omega] at this
  exact this

variable {α : Type} {Q : α → sProp (MT nD τ sig ℕ (Elt F) ℕ UU ℕ)}

/-- The `k`th transfer of a row. -/
theorem ax_send (k : Fin 8) (h1 : 1 ≤ k.val) {n : Nat} (hn : n = 57 + k.val) {off off' : Fin 3 → Nat} {inb inb'} (ho : off = ![c.val, 0, 0]) (ho' : off' = ![c.val, 0, 0])
    {sS : DmaSem sig} (hsS : csem (.axs (ak k.val)) = .dma sS) {so : Fin 1 → Nat} {sinb} (hso : so = ![c.val])
    {c'' : Dev nD} (hc : c'' = c + k) {hsc hsrc hdst hsem}
    {kk : PUnit → Prog (TpuEff nD τ sig (Elt F) Λ₀ .tc) α} :
    iprop(recs X W K ∗ Own (F := F) c n ∗ RS' X W c k.val)
      ⊢ iprop(((Own (F := F) c (n + 1) ∗ RS' X W c (k.val + 1)) -∗ WP c (kk ⟨⟩) Q)
          -∗ WP c (.op (.enqueueDma
            (((Memref.whole cc0_scratch3).slice (Rect.unit (s := S8x8x128) off S1x8x128.size inb) (fun _ => rfl)).squeeze S8x128 squeezes_S1x8x128_S8x128)
            (.remote (Dev.tc c'' : Thread nD τ)
              (((Memref.whole cc0_scratch3).slice (Rect.unit (s := S8x8x128) off' S1x8x128.size inb') (fun _ => rfl)).squeeze S8x128 squeezes_S1x8x128_S8x128)
              (.dma sS) hsc) (.dma ((cc0_scratch7.slice (Rect.unit (s := S8) so S1.size sinb)).squeeze S_ squeezes_S1_S_).sem) hsrc hdst hsem) kk) Q) := by
  subst hn
  have hlt := k.isLt
  have hcf : c'' = fwd k.val c := hc.trans (fwd_add k c).symm
  have key := send_any X W K c (Q := Q) (k := kk) (hsc := hsc) (hsrc := hsrc) (hdst := hdst) (hsem := hsem) (c' := fwd k.val c) (ckS := .axs (ak k.val)) (ckR := .axr c) (r := 0)
    (n := 57 + k.val) (by omega) (by rw [slot_row k.val h1 hlt]; rfl) Nat.one_pos
    (show 0 < rounds (fwd k.val c) (.axr c) from by show 0 < if c = fwd k.val c then 0 else 1; rw [if_neg (fun e => fwd_ne k.val h1 hlt c e.symm)]; exact Nat.one_pos)
    (aS_of ho) (aS_of ho') (amv X W c) (q := shr (ak k.val).val) iprop(emp)
    (by simp only [pay]; exact .rfl) (by simp only [pay]; iintro ⟨H, -⟩; iexact H) hsS (axr_sem hso) (aS_credit c) rfl hcf
  unfold RS'
  rw [ico_peel k.val 8 hlt, ico_snoc 1 k.val h1]
  unfold RowS
  have hz := recs_zero X W K (fwd k.val c) (.axr c)
  iintro ⟨#R, HO, ⟨⟨H1, H2, H3, H4, H5⟩, HA⟩, HB⟩ Hk
  ihave #HZ := hz $$ R
  iapply key $$ [HO H1 H2 H3 H4 H5]
  · iframe R HO H1 H2 H3 H4 H5 HZ
  unfold RowF
  iintro ⟨HO, H1, H2⟩
  iapply Hk
  iframe HO HA HB H1 H2

/-- The `k`th transfer of a row has left. -/
theorem ax_left (k : Fin 8) (h1 : 1 ≤ k.val) {n : Nat} (hn : 0 < n) {off : Fin 3 → Nat} {inb} (ho : off = ![c.val, 0, 0])
    {sS : DmaSem sig} (hsS : csem (.axs (ak k.val)) = .dma sS) {sp' : Space} {s' : Shape} {e' : EltTy} {src : Memref sig .tc sp' s' e'} {hsrc hdst}
    {kk : PUnit → Prog (TpuEff nD τ sig (Elt F) Λ₀ .tc) α} :
    iprop(recs X W K ∗ Own (F := F) c n ∗ RL' X W c k.val)
      ⊢ iprop(((Own (F := F) c n ∗ RL' X W c (k.val + 1)) -∗ WP c (kk ⟨⟩) Q)
          -∗ WP c (.op (.waitDma2 sS src
            (((Memref.whole cc0_scratch3).slice (Rect.unit (s := S8x8x128) off S1x8x128.size inb) (fun _ => rfl)).squeeze S8x128 squeezes_S1x8x128_S8x128)
            hsrc hdst) kk) Q) := by
  have hlt := k.isLt
  have key := wait_dma X W K c (Q := Q) (k := kk) (n := n) (src := src) (hsrc := hsrc) (hdst := hdst) (ck := .axs (ak k.val)) (r := 0) (by simp) Nat.one_pos (by omega) (by show 0 < _; omega) hsS
    (show View.dmaCredit _ = nA from by rw [aS_of ho]; exact aS_credit c)
  unfold RL'
  rw [ico_peel k.val 8 hlt, ico_snoc 1 k.val h1]
  unfold RowF
  iintro ⟨#R, HO, ⟨⟨H1, H2⟩, HA⟩, HB⟩ Hk
  iapply key $$ [HO H1 H2]
  · iframe R HO H1 H2
  unfold RowL
  simp only [pay]
  iintro ⟨HO, H1, H2⟩
  iapply Hk
  iframe HO HA HB H1 H2

/-- The row of the `k`th device on has arrived. -/
theorem ax_arr (k : Fin 8) (h1 : 1 ≤ k.val) {n : Nat} (hn : 64 < n) {off : Fin 3 → Nat} {inb} (ho : off = ![(c + k).val, 0, 0])
    {so : Fin 1 → Nat} {sinb} (hso : so = ![(c + k).val])
    {sp' : Space} {s' : Shape} {e' : EltTy} {src : Memref sig .tc sp' s' e'} {hsrc hdst}
    {kk : PUnit → Prog (TpuEff nD τ sig (Elt F) Λ₀ .tc) α} :
    iprop(recs X W K ∗ Own (F := F) c n ∗ RW' X W c k.val)
      ⊢ iprop(((Own (F := F) c n ∗ RW' X W c (k.val + 1)) -∗ WP c (kk ⟨⟩) Q)
          -∗ WP c (.op (.waitDma2 ((cc0_scratch7.slice (Rect.unit (s := S8) so S1.size sinb)).squeeze S_ squeezes_S1_S_).sem src
            (((Memref.whole cc0_scratch3).slice (Rect.unit (s := S8x8x128) off S1x8x128.size inb) (fun _ => rfl)).squeeze S8x128 squeezes_S1x8x128_S8x128)
            hsrc hdst) kk) Q) := by
  have hlt := k.isLt
  have key := wait_dma X W K c (Q := Q) (k := kk) (n := n) (src := src) (hsrc := hsrc) (hdst := hdst) (ck := .axr (fwd k.val c)) (r := 0) (by simp)
    (show 0 < if fwd k.val c = c then 0 else 1 by rw [if_neg (fwd_ne k.val h1 hlt c)]; exact Nat.one_pos) (by omega) (by show 64 < _; omega)
    (axr_sem (inb := sinb) (hso.trans (by rw [fwd_add])))
    (show View.dmaCredit _ = nA from by rw [aS_of ho]; exact aS_credit _)
  unfold RW'
  rw [ico_peel k.val 8 hlt, ico_snoc 1 k.val h1]
  unfold RowW
  iintro ⟨#R, HO, ⟨⟨H1, H2⟩, HA⟩, HB⟩ Hk
  iapply key $$ [HO H1 H2]
  · iframe R HO H1 H2
  unfold RowG
  simp only [pay]
  iintro ⟨HO, H1, H2⟩
  iapply Hk
  iframe HO HA HB H1 H2

theorem ico7 (Φ : Nat → sProp 𝕄) : bigSep (Finset.Ico 1 8) Φ = iprop(Φ 1 ∗ Φ 2 ∗ Φ 3 ∗ Φ 4 ∗ Φ 5 ∗ Φ 6 ∗ Φ 7 ∗ emp) := by
  rw [ico_peel 1 8 (by decide), ico_peel 2 8 (by decide), ico_peel 3 8 (by decide), ico_peel 4 8 (by decide), ico_peel 5 8 (by decide), ico_peel 6 8 (by decide),
    ico_peel 7 8 (by decide), ico_nil]

/-- A row is lent out in seven parts, -/
theorem row_split (Y : S8x128.Idx → Elt F .f32) :
    (owns (c : Thread nD τ) (aS c) fullShare Y : sProp 𝕄) ⊢ bigSep (Finset.Ico 1 8) fun k => owns (c : Thread nD τ) (aS c) (shr (ak k).val) Y := by
  rw [ico7]
  iintro H
  ihave H := (owns_split c _ _ _) $$ H
  icases H with ⟨H1, H⟩
  ihave H := (owns_split c _ _ _) $$ H
  icases H with ⟨H2, H⟩
  ihave H := (owns_split c _ _ _) $$ H
  icases H with ⟨H3, H⟩
  ihave H := (owns_split c _ _ _) $$ H
  icases H with ⟨H4, H⟩
  ihave H := (owns_split c _ _ _) $$ H
  icases H with ⟨H5, H⟩
  ihave H := (owns_split c _ _ _) $$ H
  icases H with ⟨H6, H⟩
  isplitl [H1]; · iexact H1
  isplitl [H2]; · iexact H2
  isplitl [H3]; · iexact H3
  isplitl [H4]; · iexact H4
  isplitl [H5]; · iexact H5
  isplitl [H6]; · iexact H6
  isplitl [H]; · iexact H
  iempintro

/-- and made whole. -/
theorem row_join (Y : S8x128.Idx → Elt F .f32) :
    (bigSep (Finset.Ico 1 8) fun k => owns (c : Thread nD τ) (aS c) (shr (ak k).val) Y : sProp 𝕄) ⊢ owns (c : Thread nD τ) (aS c) fullShare Y := by
  rw [ico7]
  iintro ⟨H1, H2, H3, H4, H5, H6, H7, -⟩
  ihave H := (owns_unsplit c _ ((fullShare : PosShare TreeShare).right.right.right.right.right) _) $$ [H6 H7]
  · isplitl [H6]; · iexact H6
    iexact H7
  ihave H := (owns_unsplit c _ ((fullShare : PosShare TreeShare).right.right.right.right) _) $$ [H5 H]
  · isplitl [H5]; · iexact H5
    iexact H
  ihave H := (owns_unsplit c _ ((fullShare : PosShare TreeShare).right.right.right) _) $$ [H4 H]
  · isplitl [H4]; · iexact H4
    iexact H
  ihave H := (owns_unsplit c _ ((fullShare : PosShare TreeShare).right.right) _) $$ [H3 H]
  · isplitl [H3]; · iexact H3
    iexact H
  ihave H := (owns_unsplit c _ ((fullShare : PosShare TreeShare).right) _) $$ [H2 H]
  · isplitl [H2]; · iexact H2
    iexact H
  ihave H := (owns_unsplit c _ ((fullShare : PosShare TreeShare)) _) $$ [H1 H]
  · isplitl [H1]; · iexact H1
    iexact H
  iexact H

end Rows

end Cert.Proof.KI
-- ==== Proof.Parts.lean ====
/- The stretches of the body, one after the other. -/
module

public import proofs.«01_k».proof.Proof.Ag
public import proofs.«01_k».proof.Proof.Ax
public import proofs.«01_k».proof.Proof.Gen.KernelIdeal.Skeleton

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Between

variable (X : Dev nD → Vec F S4096x512 .f32) (W : Dev nD → Vec F S512x8192 .f32) (K : Dev nD × CK → ℕ) (c : Dev nD)

/-- A direction before the barrier. -/
def Dir0 (d : Fin 2) : sProp 𝕄 := iprop(Rnds (F := F) c d 0 ∗ CrS (F := F) c d 1 ∗ CrW (F := F) c d 1 ∗ CPos (F := F) c d 0 ∗ At c (.snd d) 0 ∗ At c (.rcv d) 0)
/-- What the transfers of the row need. -/
def AxT : sProp 𝕄 := bigSep (Finset.Ico 1 8) fun k => iprop(Tok (F := F) c (.axs (ak k)) 0 0 ∗ At c (.axs (ak k)) 0 ∗ Tok (fwd k c) (.axr c) 0 0)
/-- All rows have been exchanged. -/
def AxD : sProp 𝕄 := iprop((bigSep (Finset.Ico 1 8) fun k => At (F := F) c (.axr (fwd k c)) 1) ∗ bigSep (Finset.Ico 1 8) fun k => At (F := F) c (.axs (ak k)) 1)
/-- The table of maxima. -/
def Rows : sProp 𝕄 := bigSep (Finset.univ : Finset (Fin 8)) fun j => owns (c : Thread nD τ) (aS j) fullShare (amv X W j)

theorem univ8 (Φ : Fin 8 → sProp 𝕄) : bigSep Finset.univ Φ = iprop(Φ 0 ∗ Φ 1 ∗ Φ 2 ∗ Φ 3 ∗ Φ 4 ∗ Φ 5 ∗ Φ 6 ∗ Φ 7 ∗ emp) := by
  rw [show (Finset.univ : Finset (Fin 8)) = insert 0 (insert 1 (insert 2 (insert 3 (insert 4 (insert 5 (insert 6 (insert 7 ∅))))))) by decide,
    bigSep_insert (by decide), bigSep_insert (by decide), bigSep_insert (by decide), bigSep_insert (by decide), bigSep_insert (by decide), bigSep_insert (by decide),
    bigSep_insert (by decide), bigSep_insert (by decide)]
  rfl

theorem Rows_eq : Rows X W c = iprop(owns (c : Thread nD τ) (aS 0) fullShare (amv X W 0) ∗ owns (c : Thread nD τ) (aS 1) fullShare (amv X W 1)
    ∗ owns (c : Thread nD τ) (aS 2) fullShare (amv X W 2) ∗ owns (c : Thread nD τ) (aS 3) fullShare (amv X W 3) ∗ owns (c : Thread nD τ) (aS 4) fullShare (amv X W 4)
    ∗ owns (c : Thread nD τ) (aS 5) fullShare (amv X W 5) ∗ owns (c : Thread nD τ) (aS 6) fullShare (amv X W 6) ∗ owns (c : Thread nD τ) (aS 7) fullShare (amv X W 7) ∗ emp) := by
  unfold Rows; exact univ8 _

/-- The devices counted from `c`. -/
def turn : Fin 8 ≃ Fin 8 := ⟨fun k => (c : Fin 8) + k, fun k => k - (c : Fin 8), by revert c; decide, by revert c; decide⟩

/-- All devices, from `c` on. -/
theorem univ_fwd (Φ : Dev nD → sProp 𝕄) : bigSep Finset.univ Φ = iprop(Φ c ∗ bigSep (Finset.Ico 1 8) fun k => Φ (fwd k c)) := by
  rw [bigSep_univ_equiv (turn c) Φ, univ8, ico7]
  simp only [turn, Equiv.coe_fn_mk]
  have e0 : c + (0 : Fin 8) = c := by revert c; decide
  have e1 := fwd_add 1 c
  have e2 := fwd_add 2 c
  have e3 := fwd_add 3 c
  have e4 := fwd_add 4 c
  have e5 := fwd_add 5 c
  have e6 := fwd_add 6 c
  have e7 := fwd_add 7 c
  rw [e0, ← e1, ← e2, ← e3, ← e4, ← e5, ← e6, ← e7]
  rfl

theorem give_bar (d : Fin 2) : Land (F := F) c d 0 ⊢ pay X W (pv d c) .bar 0 d := by
  simp only [pay, nx_pv]; exact .rfl

variable {α : Type} {Q : α → sProp (MT nD τ sig ℕ (Elt F) ℕ UU ℕ)}

/-- A loop. -/
theorem wp_loop {w : Nat} (L : Scf.Loop w) {ok} {body : Fin L.trips → Unit → Prog (TpuEff nD τ sig (Elt F) Λ₀ .tc) Unit} (I : Nat → sProp (MT nD τ sig ℕ (Elt F) ℕ UU ℕ))
    (hb : ∀ t a, I t.val ⊢ WP c (body t a) (fun _ => I (t.val + 1))) {k : Unit → Prog (TpuEff nD τ sig (Elt F) Λ₀ .tc) α} :
    I 0 ⊢ iprop((I L.trips -∗ WP c (k ⟨⟩) Q) -∗ WP c (Scf.Loop.for L ok ⟨⟩ body >>= k) Q) := by
  refine (Scf.wp_for_bind _ _ _ L.lb L.ub L.st ok () body (fun n _ => I n) hb (kk := k) (Q := Q)).trans ?_
  iintro H Hk
  iapply H
  iintro %a H
  iapply Hk
  iexact H

theorem sl7 (d : Fin 2) : sl d 7 = sl d 1 := rfl
theorem sl8 (d : Fin 2) : sl d (7 + 1) = sl d 0 := rfl

theorem rsi_in0 : iprop(recs X W K ∗ Own (F := F) c 2 ∗ Md (F := F) c 0 0 ∗ Md (F := F) c 1 0 ∗ Data X W c ∗ owns (c : Thread nD τ) (cS (sl 0 0)) fullShare (acc X W 0 0 0 c)
      ∗ owns (c : Thread nD τ) (cS (sl 1 0)) fullShare (acc X W 0 1 0 c) ∗ Bn (F := F) c 0 0 ∗ some (F := F) c (dH 0) ∗ some (F := F) c (dH 1))
    ⊢ RSI X W K c 0 0 := by
  unfold RSI DS RSl
  simp only [show ¬ ((0 : Nat) = 7) by decide, show 7 * (0 : Fin 2).val + 0 = 0 from rfl, if_false, if_true]
  unfold Col
  rw [show min 0 7 + 1 = 1 from rfl, ico_nil, show 2 + 4 * 0 - 0 = 2 from rfl]
  iintro ⟨#R, HO, H1, H2, HD, HS0, HS1, HB, Hd0, Hd1⟩
  iframe R HO H1 H2 HD HS0 HS1 HB Hd0 Hd1

theorem rsi_in1 : iprop(recs X W K ∗ Own (F := F) c 30 ∗ Hd (F := F) c 0 7 ∗ Hd (F := F) c 1 7 ∗ Data X W c ∗ owns (c : Thread nD τ) (cS (sl 0 0)) fullShare (acc X W 1 0 0 c)
      ∗ owns (c : Thread nD τ) (cS (sl 1 0)) fullShare (acc X W 1 1 0 c) ∗ Col (F := F) c 7 ∗ some (F := F) c (dH 0) ∗ some (F := F) c (dH 1))
    ⊢ RSI X W K c 1 0 := by
  unfold RSI DS RSl
  simp only [show ¬ ((0 : Nat) = 7) by decide, show 7 * (1 : Fin 2).val + 0 = 7 from rfl, show ¬ ((7 : Nat) = 0) by decide, if_false]
  rw [Bn_hi c 0 _ (by decide), show 2 + 4 * 7 - 0 = 30 from rfl]
  iintro ⟨#R, HO, H1, H2, HD, HS0, HS1, HC, Hd0, Hd1⟩
  iframe R HO H1 H2 HD HS0 HS1 HC Hd0 Hd1

theorem rsi_out (h : Fin 2) : RSI X W K c h 7 ⊢ iprop(Own (F := F) c (28 + 28 * h.val) ∗ Af (F := F) c 0 (7 * h.val + 6) ∗ Af (F := F) c 1 (7 * h.val + 6) ∗ Col (F := F) c (7 * h.val + 7) ∗ Data X W c
      ∗ some (F := F) c (dH 0) ∗ some (F := F) c (dH 1) ∗ owns (c : Thread nD τ) (cS (sl 0 1)) fullShare (acc X W h 0 7 c)
      ∗ owns (c : Thread nD τ) (cS (sl 1 1)) fullShare (acc X W h 1 7 c) ∗ some (F := F) c (cS (sl 0 0)) ∗ some (F := F) c (cS (sl 1 0))) := by
  unfold RSI DS RSl
  rw [if_pos rfl, if_pos rfl, if_pos rfl, if_pos rfl, if_pos rfl]
  simp only [sl7, sl8]
  rw [show 2 + 4 * (7 * h.val + 7) - 2 = 28 + 28 * h.val by omega]
  iintro ⟨-, HO, H1, H2, ⟨HS0, HL0⟩, ⟨HS1, HL1⟩, -, HC, HD, Hd0, Hd1⟩
  iframe HO H1 H2 HC HD Hd0 Hd1 HS0 HS1 HL0 HL1

theorem agi_in (h : Fin 2) {n : Nat} (hn : n = 65 + 28 * h.val) : iprop(recs X W K ∗ Own (F := F) c n ∗ Hd (F := F) c 0 (14 + 7 * h.val) ∗ Hd (F := F) c 1 (14 + 7 * h.val)
      ∗ owns (c : Thread nD τ) (qS (sl 0 0)) fullShare (qv X W h 0 0 c) ∗ owns (c : Thread nD τ) (qS (sl 1 0)) fullShare (qv X W h 1 0 c)
      ∗ SI X W c 0 h 1 ∗ SI X W c 1 h 1)
    ⊢ AGI X W K c h 0 := by
  subst hn
  unfold AGI DA QSl SH
  rw [if_neg (by decide), if_neg (by decide), if_neg (by decide), if_neg (by decide), if_neg (by decide), if_pos (by decide), if_pos (by decide)]
  rw [show 9 + 4 * (14 + 7 * h.val + 0) - 0 = 65 + 28 * h.val by omega, show 14 + 7 * h.val + 0 = 14 + 7 * h.val from rfl]
  iintro ⟨#R, HO, H1, H2, HQ0, HQ1, HS0, HS1⟩
  iframe R HO H1 H2 HQ0 HQ1 HS0 HS1

theorem agi_out (h : Fin 2) : AGI X W K c h 7 ⊢ iprop(Own (F := F) c (91 + 28 * h.val) ∗ Af (F := F) c 0 (20 + 7 * h.val) ∗ Af (F := F) c 1 (20 + 7 * h.val)
      ∗ owns (c : Thread nD τ) (qS (sl 0 1)) fullShare (qv X W h 0 7 c) ∗ owns (c : Thread nD τ) (qS (sl 1 1)) fullShare (qv X W h 1 7 c)
      ∗ some (F := F) c (qS (sl 0 0)) ∗ some (F := F) c (qS (sl 1 0)) ∗ SF X W c 0 h 6 ∗ SF X W c 1 h 6) := by
  unfold AGI DA QSl SH
  rw [if_pos rfl, if_pos rfl, if_pos rfl, if_pos rfl, if_pos rfl, if_neg (by decide), if_neg (by decide)]
  simp only [sl7, sl8]
  rw [show 9 + 4 * (14 + 7 * h.val + 7) - 2 = 91 + 28 * h.val by omega, show 14 + 7 * h.val + 6 = 20 + 7 * h.val by omega]
  iintro ⟨-, HO, H1, H2, ⟨HQ0, HL0⟩, ⟨HQ1, HL1⟩, HS0, HS1⟩
  iframe HO H1 H2 HQ0 HQ1 HL0 HL1 HS0 HS1

theorem si_eq (d h : Fin 2) (t : Nat) : SI X W c d h t = iprop(Idle (F := F) c d (2 + 8 * h.val + t) ∗ some (F := F) c (dH d) ∗ DN X W c d h t ∗ TD (F := F) c d h t) := rfl

theorem rows_in : iprop(owns (c : Thread nD τ) (aS c) fullShare (amv X W c) ∗ AxT (F := F) c ∗ Col (F := F) c 14) ⊢ RS' X W c 1 := by
  have e1 : up 0 7 c = fwd 1 c := by revert c; decide
  have e2 : up 0 6 c = fwd 2 c := by revert c; decide
  have e3 : up 0 5 c = fwd 3 c := by revert c; decide
  have e4 : up 0 4 c = fwd 4 c := by revert c; decide
  have e5 : up 0 3 c = fwd 5 c := by revert c; decide
  have e6 : up 0 2 c = fwd 6 c := by revert c; decide
  have e7 : up 0 1 c = fwd 7 c := by revert c; decide
  have hs := row_split c (amv X W c)
  unfold RS' AxT Col
  rw [show min 14 7 + 1 = 8 from rfl, ico_nil, ico7, ico7, ico7, e1, e2, e3, e4, e5, e6, e7]
  rw [ico7] at hs
  unfold RowS
  iintro ⟨HA, ⟨⟨H11, H12, H13⟩, ⟨H21, H22, H23⟩, ⟨H31, H32, H33⟩, ⟨H41, H42, H43⟩, ⟨H51, H52, H53⟩, ⟨H61, H62, H63⟩, ⟨H71, H72, H73⟩, -⟩, C7, C6, C5, C4, C3, C2, C1, -⟩
  ihave HA := hs $$ HA
  icases HA with ⟨A1, A2, A3, A4, A5, A6, A7, -⟩
  iframe A1 C1 H11 H12 H13 A2 C2 H21 H22 H23 A3 C3 H31 H32 H33 A4 C4 H41 H42 H43 A5 C5 H51 H52 H53 A6 C6 H61 H62 H63 A7 C7 H71 H72 H73

theorem rows_sent : RS' X W c 8 ⊢ RL' X W c 1 := by
  unfold RS' RL'
  rw [ico_nil, ico_nil]
  iintro ⟨-, H⟩
  iframe H

theorem rows_all : iprop(RW' X W c 8 ∗ RL' X W c 8) ⊢ iprop(AxD (F := F) c ∗ Rows X W c) := by
  have hj := row_join c (amv X W c)
  have hG : bigSep (Finset.Ico 1 8) (RowG X W c) = iprop((bigSep (Finset.Ico 1 8) fun k => At (F := F) c (.axr (fwd k c)) 1)
      ∗ bigSep (Finset.Ico 1 8) fun k => owns (c : Thread nD τ) (aS (fwd k c)) fullShare (amv X W (fwd k c))) := bigSep_sep' _ _ _
  have hL : bigSep (Finset.Ico 1 8) (RowL X W c) = iprop((bigSep (Finset.Ico 1 8) fun k => At (F := F) c (.axs (ak k)) 1)
      ∗ bigSep (Finset.Ico 1 8) fun k => owns (c : Thread nD τ) (aS c) (shr (ak k).val) (amv X W c)) := bigSep_sep' _ _ _
  unfold RW' RL' AxD Rows
  rw [hG, hL, univ_fwd c]
  iintro ⟨⟨-, H1, H2⟩, -, H3, H4⟩
  ihave H4 := hj $$ H4
  iframe H1 H2 H3 H4

end Between

section Stretches

variable (X : Dev nD → Vec F S4096x512 .f32) (W : Dev nD → Vec F S512x8192 .f32) (K : Dev nD × CK → ℕ) (c : Dev nD)
variable {α : Type} {Q : α → sProp (MT nD τ sig ℕ (Elt F) ℕ UU ℕ)}

/-- The barrier, and the first sum of direction 0. -/
theorem s16 (v2 : BitVec 32) (v14 : BitVec 32) (v25 : BitVec 32) (v28 : BitVec 32) (v29 : BitVec 32) (v34 : BitVec 1) {k} :
    iprop(recs X W K ∗ Own (F := F) c 0 ∗ At (F := F) c .bar 0 ∗ cred (tallyAt (cell c .bar) 0 2) ∗ Tok (F := F) (pv 0 c) .bar 0 0 ∗ Tok (F := F) (pv 1 c) .bar 0 1 ∗ Land (F := F) c 0 0 ∗ Land (F := F) c 1 0 ∗ Dir0 (F := F) c 0 ∗ Dir0 (F := F) c 1 ∗ Data X W c ∗ some (F := F) c (cS (sl 0 0)))
      ⊢ iprop((∀ v, (Own (F := F) c 2 ∗ At (F := F) c .bar 1 ∗ Md (F := F) c 0 0 ∗ Md (F := F) c 1 0 ∗ Data X W c ∗ owns (c : Thread nD τ) (cS (sl 0 0)) fullShare (acc X W 0 0 0 c)) -∗ WP c (k v) Q)
        -∗ WP c (k0_part16 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v14 v25 v28 v29 v34 >>= k) Q) := by
  simp only [k0_part16_eq_skeleton]
  unfold k0_part16_skel
  simp only [semSignalWord, semWaitWord, Prog.lift, Prog.bind_op, Prog.bind_ret, Prog.pure_eq_ret, Prog.bind_assoc]
  have z0 := recs_zero X W K (pv 0 c) .bar
  have z1 := recs_zero X W K (pv 1 c) .bar
  have z2 := recs_zero X W K (nx 0 c) (.rcv 0)
  have z3 := recs_zero X W K (nx 1 c) (.rcv 1)
  conv_lhs => unfold Data Dir0
  iintro ⟨#R, HO, HB, HC, HT0, HT1, HL0, HL1, ⟨HA1, HA2, HA3, HA4, HA5, HA6⟩, ⟨HB1, HB2, HB3, HB4, HB5, HB6⟩, ⟨Hx, Hw⟩, HS⟩ Hk
  ihave #Z0 := z0 $$ R
  ihave #Z1 := z1 $$ R
  ihave #Z2 := z2 $$ R
  ihave #Z3 := z3 $$ R
  ihave HL0 := (give_bar X W c 0) $$ HL0
  ihave HL1 := (give_bar X W c 1) $$ HL1
  iapply (signal_any X W K c (c' := pv 0 c) (ck := .bar) (r := 0) (d := 0) (n := 0) (by decide) rfl (Finset.mem_univ _) rfl rfl rfl (Fin.ext (dev1 c))) $$ [HO HT0 HL0 Z0]
  · iframe R HO HT0 HL0 Z0
  iintro HO
  iapply (signal_any X W K c (c' := pv 1 c) (ck := .bar) (r := 0) (d := 1) (n := 1) (by decide) rfl (Finset.mem_univ _) rfl rfl rfl (Fin.ext (dev2 c))) $$ [HO HT1 HL1 Z1]
  · iframe R HO HT1 HL1 Z1
  iintro HO
  iapply (wait_bar X W K c (n := 2) (by decide) rfl rfl) $$ [HO HC HB]
  · iframe R HO HC HB
  iintro ⟨HO, HB, HL0, HL1⟩
  iapply (load_x c (i := c) (off1 c)) $$ [Hx]
  · iexact Hx
  iintro Hx
  iapply (load_w c (i := qd 0 0) rfl) $$ [Hw]
  · iexact Hw
  iintro Hw
  iapply (store_c c (j := sl 0 0) (Y := acc X W 0 0 0 c) rfl (pay13_eq _ _)) $$ [HS]
  · iexact HS
  iintro HS
  unfold Md Data
  iapply Hk
  iframe HO HB HA1 HA2 HA3 HA4 HA5 HA6 HB1 HB2 HB3 HB4 HB5 HB6 HL0 HL1 Hx Hw HS Z2 Z3

/-- The first sum of direction 1, and the first round of the reduction. -/
theorem s17 (v2 : BitVec 32) (v14 : BitVec 32) (v25 : BitVec 32) (v36 : BitVec 32) (v48 : BitVec 32) {k} :
    iprop(recs X W K ∗ Own (F := F) c 2 ∗ Md (F := F) c 0 0 ∗ Md (F := F) c 1 0 ∗ Data X W c ∗ owns (c : Thread nD τ) (cS (sl 0 0)) fullShare (acc X W 0 0 0 c) ∗ some (F := F) c (cS (sl 1 0)) ∗ Bn (F := F) c 0 0 ∗ some (F := F) c (dH 0) ∗ some (F := F) c (dH 1) ∗ some (F := F) c (oB (nx 0 c) (qd 0 0)) ∗ Idle (F := F) c 0 0)
      ⊢ iprop((∀ v, (⌜v = k0_pay17 (up1 (acc X W 0 0 7 c)) (up1 (acc X W 0 1 7 c))⌝ ∗ Own (F := F) c 28 ∗ Af (F := F) c 0 6 ∗ Af (F := F) c 1 6 ∗ Col (F := F) c 7 ∗ Data X W c ∗ some (F := F) c (dH 0) ∗ some (F := F) c (dH 1) ∗ Fly (F := F) c 0 0 ∗ owns (c : Thread nD τ) (cS (sl 1 1)) fullShare (acc X W 0 1 7 c) ∗ some (F := F) c (cS (sl 0 0)) ∗ some (F := F) c (cS (sl 1 0))) -∗ WP c (k v) Q)
        -∗ WP c (k0_part17 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v14 v25 v36 v48 >>= k) Q) := by
  simp only [k0_part17_eq_skeleton]
  unfold k0_part17_skel
  simp only [semSignalWord, semWaitWord, Prog.lift, Prog.bind_op, Prog.bind_ret, Prog.pure_eq_ret, Prog.bind_assoc]
  conv_lhs => unfold Data
  iintro ⟨#R, HO, H1, H2, ⟨Hx, Hw⟩, HS0, HS1, HB, Hd0, Hd1, Ho, HI⟩ Hk
  iapply (load_x c (i := c) (off1 c)) $$ [Hx]
  · iexact Hx
  iintro Hx
  iapply (load_w c (i := qd 0 1) rfl) $$ [Hw]
  · iexact Hw
  iintro Hw
  iapply (store_c c (j := sl 1 0) (Y := acc X W 0 1 0 c) rfl (pay14_eq _ _)) $$ [HS1]
  · iexact HS1
  iintro HS1
  ihave HI0 := (rsi_in0 X W K c) $$ [HO H1 H2 Hx Hw HS0 HS1 HB Hd0 Hd1]
  · unfold Data
    iframe R HO H1 H2 Hx Hw HS0 HS1 HB Hd0 Hd1
  iapply (wp_loop c k0_t1_loop (RSI X W K c 0) (fun t a => t1_step X W K c t a _ _ _ _ _)) $$ HI0
  rw [trips1]
  iintro HI0
  ihave HI0 := (rsi_out X W K c 0) $$ HI0
  icases HI0 with ⟨HO, H1, H2, HC, HD, Hd0, Hd1, HS0, HS1, HS2, HS3⟩
  iapply (load_c c (j := sl 0 1) rfl) $$ [HS0]
  · iexact HS0
  iintro HS0
  iapply (load_c c (j := sl 1 1) rfl) $$ [HS1]
  · iexact HS1
  iintro HS1
  iapply (st_park X W K c 0 0 (cS_of rfl) (oB_of (off7 c)) rfl) $$ [HS0 Ho HI]
  · iframe R HS0 Ho HI
  iintro HI
  iapply Hk
  isplitr
  · ipureintro; rfl
  iframe HO H1 H2 HC HD Hd0 Hd1 HI HS1 HS2 HS3

/-- The sums are put aside, and their slots offered again. -/
theorem s18 (v2 : BitVec 32) (v14 : BitVec 32) (v25 : BitVec 32) {k} :
    iprop(recs X W K ∗ Own (F := F) c 28 ∗ Af (F := F) c 0 6 ∗ Af (F := F) c 1 6 ∗ Data X W c ∗ owns (c : Thread nD τ) (cS (sl 1 1)) fullShare (acc X W 0 1 7 c) ∗ some (F := F) c (oB (nx 1 c) (qd 0 1)) ∗ Idle (F := F) c 1 0 ∗ Fly (F := F) c 0 0)
      ⊢ iprop((∀ v, (⌜v = ⟨k0_pay18 (xk (X c) c), wk (W c) (qd 1 0)⟩⌝ ∗ Own (F := F) c 30 ∗ Hd (F := F) c 0 7 ∗ Hd (F := F) c 1 7 ∗ Data X W c ∗ Idle (F := F) c 0 1 ∗ Idle (F := F) c 1 1 ∗ owns (c : Thread nD τ) (oB (nx 0 c) (qd 0 0)) fullShare (acc X W 0 0 7 c) ∗ owns (c : Thread nD τ) (oB (nx 1 c) (qd 0 1)) fullShare (acc X W 0 1 7 c)) -∗ WP c (k v) Q)
        -∗ WP c (k0_part18 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v14 v25 >>= k) Q) := by
  simp only [k0_part18_eq_skeleton]
  unfold k0_part18_skel
  simp only [semSignalWord, semWaitWord, Prog.lift, Prog.bind_op, Prog.bind_ret, Prog.pure_eq_ret, Prog.bind_assoc]
  conv_lhs => unfold Data
  iintro ⟨#R, HO, H1, H2, ⟨Hx, Hw⟩, HS1, Ho1, HI1, HI0⟩ Hk
  iapply (st_park X W K c 1 0 (cS_of rfl) (oB_of (off8 c)) rfl) $$ [HS1 Ho1 HI1]
  · iframe R HS1 Ho1 HI1
  iintro HI1
  iapply (st_stored X W K c 0 (r := 0) (by decide) rfl out_credit) $$ [HO HI0]
  · iframe R HO HI0
  iintro ⟨HO, HI0, HZ⟩
  ihave HZ := (show Sto X W c 0 0 ⊢ _ from Entails.of_eq (Sto_park X W c 0 0)) $$ HZ
  icases HZ with ⟨Ho0, HS0⟩
  iapply (st_stored X W K c 1 (r := 0) (by decide) rfl out_credit) $$ [HO HI1]
  · iframe R HO HI1
  iintro ⟨HO, HI1, HZ⟩
  ihave HZ := (show Sto X W c 1 0 ⊢ _ from Entails.of_eq (Sto_park X W c 1 0)) $$ HZ
  icases HZ with ⟨Ho1, HS1⟩
  ihave HS0 := (owns_some c _ _) $$ HS0
  ihave HS1 := (owns_some c _ _) $$ HS1
  ihave HS0 := (Entails.of_eq (Land_c (F := F) c 0 1 0 (by decide)).symm) $$ HS0
  ihave HS1 := (Entails.of_eq (Land_c (F := F) c 1 1 0 (by decide)).symm) $$ HS1
  iapply (st_grant X W K c 0 (r := 6) (n := 28) (by decide) rfl rfl rfl (Fin.ext (dev7 c))) $$ [HO H1 HS0]
  · iframe R HO H1 HS0
  iintro ⟨HO, H1⟩
  iapply (st_grant X W K c 1 (r := 6) (n := 29) (by decide) rfl rfl rfl (Fin.ext (dev8 c))) $$ [HO H2 HS1]
  · iframe R HO H2 HS1
  iintro ⟨HO, H2⟩
  iapply (load_x c (i := c) (off1 c)) $$ [Hx]
  · iexact Hx
  iintro Hx
  iapply (load_w c (i := qd 1 0) rfl) $$ [Hw]
  · iexact Hw
  iintro Hw
  unfold Data
  iapply Hk
  isplitr
  · ipureintro; rfl
  iframe HO H1 H2 Hx Hw HI0 HI1 Ho0 Ho1

/-- The second round of the reduction. -/
theorem s19 (v2 : BitVec 32) (v14 : BitVec 32) (v25 : BitVec 32) {k} :
    iprop(recs X W K ∗ Own (F := F) c 30 ∗ Hd (F := F) c 0 7 ∗ Hd (F := F) c 1 7 ∗ Data X W c ∗ some (F := F) c (cS (sl 0 0)) ∗ some (F := F) c (cS (sl 1 0)) ∗ Col (F := F) c 7 ∗ some (F := F) c (dH 0) ∗ some (F := F) c (dH 1))
      ⊢ iprop((∀ v, (⌜v.1 = lam X W c⌝ ∗ Own (F := F) c 56 ∗ Af (F := F) c 0 13 ∗ Af (F := F) c 1 13 ∗ Col (F := F) c 14 ∗ Data X W c ∗ some (F := F) c (dH 0) ∗ some (F := F) c (dH 1) ∗ owns (c : Thread nD τ) (cS (sl 0 1)) fullShare (acc X W 1 0 7 c) ∗ owns (c : Thread nD τ) (cS (sl 1 1)) fullShare (acc X W 1 1 7 c) ∗ some (F := F) c (cS (sl 0 0)) ∗ some (F := F) c (cS (sl 1 0))) -∗ WP c (k v) Q)
        -∗ WP c (k0_part19 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v14 v25 (k0_pay17 (up1 (acc X W 0 0 7 c)) (up1 (acc X W 0 1 7 c))) (k0_pay18 (xk (X c) c)) (wk (W c) (qd 1 0)) >>= k) Q) := by
  simp only [k0_part19_eq_skeleton]
  unfold k0_part19_skel
  simp only [semSignalWord, semWaitWord, Prog.lift, Prog.bind_op, Prog.bind_ret, Prog.pure_eq_ret, Prog.bind_assoc]
  conv_lhs => unfold Data
  iintro ⟨#R, HO, H1, H2, ⟨Hx, Hw⟩, HS0, HS1, HC, Hd0, Hd1⟩ Hk
  iapply (store_c c (j := sl 0 0) (Y := acc X W 1 0 0 c) rfl (pay19_eq _ _)) $$ [HS0]
  · iexact HS0
  iintro HS0
  iapply (load_x c (i := c) (off1 c)) $$ [Hx]
  · iexact Hx
  iintro Hx
  iapply (load_w c (i := qd 1 1) rfl) $$ [Hw]
  · iexact Hw
  iintro Hw
  iapply (store_c c (j := sl 1 0) (Y := acc X W 1 1 0 c) rfl (pay20_eq _ _)) $$ [HS1]
  · iexact HS1
  iintro HS1
  ihave HI0 := (rsi_in1 X W K c) $$ [HO H1 H2 Hx Hw HS0 HS1 HC Hd0 Hd1]
  · unfold Data
    iframe R HO H1 H2 Hx Hw HS0 HS1 HC Hd0 Hd1
  iapply (wp_loop c k0_t2_loop (RSI X W K c 1) (fun t a => t2_step X W K c t a _ _ _ _ _ _)) $$ HI0
  rw [trips2]
  iintro HI0
  ihave HI0 := (rsi_out X W K c 1) $$ HI0
  icases HI0 with ⟨HO, H1, H2, HC, HD, Hd0, Hd1, HS0, HS1, HS2, HS3⟩
  iapply (load_c c (j := sl 0 1) rfl) $$ [HS0]
  · iexact HS0
  iintro HS0
  iapply (load_c c (j := sl 1 1) rfl) $$ [HS1]
  · iexact HS1
  iintro HS1
  iapply Hk
  isplitr
  · ipureintro; rfl
  iframe HO H1 H2 HC HD Hd0 Hd1 HS0 HS1 HS2 HS3

/-- The sums of the second half are put aside. -/
theorem s20 (v14 : BitVec 32) (v36 : BitVec 32) (v48 : BitVec 32) (c512_i32_109 : BitVec 32) {k} :
    iprop(recs X W K ∗ Own (F := F) c 56 ∗ Af (F := F) c 0 13 ∗ owns (c : Thread nD τ) (cS (sl 0 1)) fullShare (acc X W 1 0 7 c) ∗ owns (c : Thread nD τ) (cS (sl 1 1)) fullShare (acc X W 1 1 7 c) ∗ some (F := F) c (oB (nx 0 c) (qd 1 0)) ∗ some (F := F) c (oB (nx 1 c) (qd 1 1)) ∗ Idle (F := F) c 0 1 ∗ Idle (F := F) c 1 1 ∗ some (F := F) c (qS (sl 0 1)))
      ⊢ iprop((∀ v, (Own (F := F) c 57 ∗ Hd (F := F) c 0 14 ∗ Idle (F := F) c 0 2 ∗ Idle (F := F) c 1 2 ∗ owns (c : Thread nD τ) (oB (nx 0 c) (qd 1 0)) fullShare (acc X W 1 0 7 c) ∗ owns (c : Thread nD τ) (oB (nx 1 c) (qd 1 1)) fullShare (acc X W 1 1 7 c) ∗ some (F := F) c (cS (sl 0 1)) ∗ some (F := F) c (cS (sl 1 1))) -∗ WP c (k v) Q)
        -∗ WP c (k0_part20 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v14 v36 v48 c512_i32_109 >>= k) Q) := by
  simp only [k0_part20_eq_skeleton]
  unfold k0_part20_skel
  simp only [semSignalWord, semWaitWord, Prog.lift, Prog.bind_op, Prog.bind_ret, Prog.pure_eq_ret, Prog.bind_assoc]
  iintro ⟨#R, HO, H1, HS0, HS1, Ho0, Ho1, HI0, HI1, HQ⟩ Hk
  iapply (st_park X W K c 0 1 (cS_of rfl) (oB_of (off14 c)) rfl) $$ [HS0 Ho0 HI0]
  · iframe R HS0 Ho0 HI0
  iintro HI0
  iapply (st_park X W K c 1 1 (cS_of rfl) (oB_of (off15 c)) rfl) $$ [HS1 Ho1 HI1]
  · iframe R HS1 Ho1 HI1
  iintro HI1
  iapply (st_stored X W K c 0 (r := 1) (by decide) rfl out_credit) $$ [HO HI0]
  · iframe R HO HI0
  iintro ⟨HO, HI0, HZ⟩
  ihave HZ := (show Sto X W c 0 1 ⊢ _ from Entails.of_eq (Sto_park X W c 0 1)) $$ HZ
  icases HZ with ⟨Ho0, HS0⟩
  iapply (st_stored X W K c 1 (r := 1) (by decide) rfl out_credit) $$ [HO HI1]
  · iframe R HO HI1
  iintro ⟨HO, HI1, HZ⟩
  ihave HZ := (show Sto X W c 1 1 ⊢ _ from Entails.of_eq (Sto_park X W c 1 1)) $$ HZ
  icases HZ with ⟨Ho1, HS1⟩
  ihave HS0 := (owns_some c _ _) $$ HS0
  ihave HS1 := (owns_some c _ _) $$ HS1
  ihave HQ := (Entails.of_eq (Land_q (F := F) c 0 0 0 (by decide)).symm) $$ HQ
  iapply (st_grant X W K c 0 (r := 13) (n := 56) (by decide) rfl rfl rfl (Fin.ext (dev13 c))) $$ [HO H1 HQ]
  · iframe R HO H1 HQ
  iintro ⟨HO, H1⟩
  iapply Hk
  iframe HO H1 HI0 HI1 Ho0 Ho1 HS0 HS1

/-- The largest magnitude is put into the table and sent on. -/
theorem s21 (v2 : BitVec 32) (v25 : BitVec 32) {k} :
    iprop(recs X W K ∗ Own (F := F) c 57 ∗ Af (F := F) c 1 13 ∗ some (F := F) c (qS (sl 1 1)) ∗ some (F := F) c (aS c) ∗ AxT (F := F) c ∗ Col (F := F) c 14)
      ⊢ iprop((∀ v, (Own (F := F) c 59 ∗ Hd (F := F) c 1 14 ∗ RS' X W c 2) -∗ WP c (k v) Q)
        -∗ WP c (k0_part21 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v25 (lam X W c) >>= k) Q) := by
  simp only [k0_part21_eq_skeleton]
  unfold k0_part21_skel
  simp only [semSignalWord, semWaitWord, Prog.lift, Prog.bind_op, Prog.bind_ret, Prog.pure_eq_ret, Prog.bind_assoc]
  iintro ⟨#R, HO, H1, HQ, HA, HT, HC⟩ Hk
  ihave HQ := (Entails.of_eq (Land_q (F := F) c 1 0 0 (by decide)).symm) $$ HQ
  iapply (st_grant X W K c 1 (r := 13) (n := 57) (by decide) rfl rfl rfl (Fin.ext (dev14 c))) $$ [HO H1 HQ]
  · iframe R HO H1 HQ
  iintro ⟨HO, H1⟩
  iapply (store_a c (j := c) (Y := amv X W c) (off16 c) rfl) $$ [HA]
  · iexact HA
  iintro HA
  ihave HR := (rows_in X W c) $$ [HA HT HC]
  · iframe HA HT HC
  iapply (ax_send X W K c 1 (n := 58) (by decide) rfl (off18 c) (off18 c) (axs_sem rfl) (off17 c) (Fin.ext (dev15 c))) $$ [HO HR]
  · iframe R HO HR
  iintro ⟨HO, HR⟩
  iapply Hk
  iframe HO H1 HR

/-- The row is sent on. -/
theorem s22 (v2 : BitVec 32) (v215 : BitVec 32) (v216 : BitVec 32) (v217 : BitVec 1) (c0_i32_158 : BitVec 32) {k} :
    iprop(recs X W K ∗ Own (F := F) c 59 ∗ RS' X W c 2)
      ⊢ iprop((∀ v, (Own (F := F) c 60 ∗ RS' X W c 3) -∗ WP c (k v) Q)
        -∗ WP c (k0_part22 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v215 v216 v217 c0_i32_158 >>= k) Q) := by
  simp only [k0_part22_eq_skeleton]
  unfold k0_part22_skel
  simp only [semSignalWord, semWaitWord, Prog.lift, Prog.bind_op, Prog.bind_ret, Prog.pure_eq_ret, Prog.bind_assoc]
  iintro ⟨#R, HO, HR⟩ Hk
  iapply (ax_send X W K c 2 (n := 59) (by decide) rfl (off18 c) (off18 c) (axs_sem rfl) (off17 c) (Fin.ext (dev16 c))) $$ [HO HR]
  · iframe R HO HR
  iintro ⟨HO, HR⟩
  iapply Hk
  iframe HO HR

/-- The row is sent on. -/
theorem s23 (v2 : BitVec 32) {k} :
    iprop(recs X W K ∗ Own (F := F) c 60 ∗ RS' X W c 3)
      ⊢ iprop((∀ v, (Own (F := F) c 62 ∗ RS' X W c 5) -∗ WP c (k v) Q)
        -∗ WP c (k0_part23 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 >>= k) Q) := by
  simp only [k0_part23_eq_skeleton]
  unfold k0_part23_skel
  simp only [semSignalWord, semWaitWord, Prog.lift, Prog.bind_op, Prog.bind_ret, Prog.pure_eq_ret, Prog.bind_assoc]
  iintro ⟨#R, HO, HR⟩ Hk
  iapply (ax_send X W K c 3 (n := 60) (by decide) rfl (off18 c) (off18 c) (axs_sem rfl) (off17 c) (Fin.ext (dev17 c))) $$ [HO HR]
  · iframe R HO HR
  iintro ⟨HO, HR⟩
  iapply (ax_send X W K c 4 (n := 61) (by decide) rfl (off18 c) (off18 c) (axs_sem rfl) (off17 c) (Fin.ext (dev18 c))) $$ [HO HR]
  · iframe R HO HR
  iintro ⟨HO, HR⟩
  iapply Hk
  iframe HO HR

/-- The row is sent on. -/
theorem s24 (v2 : BitVec 32) {k} :
    iprop(recs X W K ∗ Own (F := F) c 62 ∗ RS' X W c 5)
      ⊢ iprop((∀ v, (Own (F := F) c 64 ∗ RS' X W c 7) -∗ WP c (k v) Q)
        -∗ WP c (k0_part24 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 >>= k) Q) := by
  simp only [k0_part24_eq_skeleton]
  unfold k0_part24_skel
  simp only [semSignalWord, semWaitWord, Prog.lift, Prog.bind_op, Prog.bind_ret, Prog.pure_eq_ret, Prog.bind_assoc]
  iintro ⟨#R, HO, HR⟩ Hk
  iapply (ax_send X W K c 5 (n := 62) (by decide) rfl (off18 c) (off18 c) (axs_sem rfl) (off17 c) (Fin.ext (dev19 c))) $$ [HO HR]
  · iframe R HO HR
  iintro ⟨HO, HR⟩
  iapply (ax_send X W K c 6 (n := 63) (by decide) rfl (off18 c) (off18 c) (axs_sem rfl) (off17 c) (Fin.ext (dev20 c))) $$ [HO HR]
  · iframe R HO HR
  iintro ⟨HO, HR⟩
  iapply Hk
  iframe HO HR

/-- The row is sent on, and the first of the others awaited. -/
theorem s25 (v2 : BitVec 32) (v320 : BitVec 32) (v321 : BitVec 32) (v322 : BitVec 1) (c0_i32_225 : BitVec 32) {k} :
    iprop(recs X W K ∗ Own (F := F) c 64 ∗ RS' X W c 7 ∗ RW' X W c 1)
      ⊢ iprop((∀ v, (Own (F := F) c 65 ∗ RS' X W c 8 ∗ RW' X W c 2) -∗ WP c (k v) Q)
        -∗ WP c (k0_part25 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v320 v321 v322 c0_i32_225 >>= k) Q) := by
  simp only [k0_part25_eq_skeleton]
  unfold k0_part25_skel
  simp only [semSignalWord, semWaitWord, Prog.lift, Prog.bind_op, Prog.bind_ret, Prog.pure_eq_ret, Prog.bind_assoc]
  iintro ⟨#R, HO, HR, HW⟩ Hk
  iapply (ax_send X W K c 7 (n := 64) (by decide) rfl (off18 c) (off18 c) (axs_sem rfl) (off17 c) (Fin.ext (dev21 c))) $$ [HO HR]
  · iframe R HO HR
  iintro ⟨HO, HR⟩
  iapply (ax_arr X W K c 1 (n := 65) (by decide) (by decide) (off20 c 1) (off19 c 1)) $$ [HO HW]
  · iframe R HO HW
  iintro ⟨HO, HW⟩
  iapply Hk
  iframe HO HR HW

/-- The others' rows are awaited. -/
theorem s26 (v2 : BitVec 32) (c2_i32_248 : BitVec 32) {k} :
    iprop(recs X W K ∗ Own (F := F) c 65 ∗ RW' X W c 2)
      ⊢ iprop((∀ v, (Own (F := F) c 65 ∗ RW' X W c 3) -∗ WP c (k v) Q)
        -∗ WP c (k0_part26 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 c2_i32_248 >>= k) Q) := by
  simp only [k0_part26_eq_skeleton]
  unfold k0_part26_skel
  simp only [semSignalWord, semWaitWord, Prog.lift, Prog.bind_op, Prog.bind_ret, Prog.pure_eq_ret, Prog.bind_assoc]
  iintro ⟨#R, HO, HW⟩ Hk
  iapply (ax_arr X W K c 2 (n := 65) (by decide) (by decide) (off20 c 2) (off19 c 2)) $$ [HO HW]
  · iframe R HO HW
  iintro ⟨HO, HW⟩
  iapply Hk
  iframe HO HW

/-- The others' rows are awaited. -/
theorem s27 (v2 : BitVec 32) {k} :
    iprop(recs X W K ∗ Own (F := F) c 65 ∗ RW' X W c 3)
      ⊢ iprop((∀ v, (Own (F := F) c 65 ∗ RW' X W c 5) -∗ WP c (k v) Q)
        -∗ WP c (k0_part27 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 >>= k) Q) := by
  simp only [k0_part27_eq_skeleton]
  unfold k0_part27_skel
  simp only [semSignalWord, semWaitWord, Prog.lift, Prog.bind_op, Prog.bind_ret, Prog.pure_eq_ret, Prog.bind_assoc]
  iintro ⟨#R, HO, HW⟩ Hk
  iapply (ax_arr X W K c 3 (n := 65) (by decide) (by decide) (off20 c 3) (off19 c 3)) $$ [HO HW]
  · iframe R HO HW
  iintro ⟨HO, HW⟩
  iapply (ax_arr X W K c 4 (n := 65) (by decide) (by decide) (off20 c 4) (off19 c 4)) $$ [HO HW]
  · iframe R HO HW
  iintro ⟨HO, HW⟩
  iapply Hk
  iframe HO HW

/-- The others' rows are awaited. -/
theorem s28 (v2 : BitVec 32) (v425 : BitVec 32) {k} :
    iprop(recs X W K ∗ Own (F := F) c 65 ∗ RW' X W c 5)
      ⊢ iprop((∀ v, (Own (F := F) c 65 ∗ RW' X W c 7) -∗ WP c (k v) Q)
        -∗ WP c (k0_part28 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v425 >>= k) Q) := by
  simp only [k0_part28_eq_skeleton]
  unfold k0_part28_skel
  simp only [semSignalWord, semWaitWord, Prog.lift, Prog.bind_op, Prog.bind_ret, Prog.pure_eq_ret, Prog.bind_assoc]
  iintro ⟨#R, HO, HW⟩ Hk
  iapply (ax_arr X W K c 5 (n := 65) (by decide) (by decide) (off20 c 5) (off19 c 5)) $$ [HO HW]
  · iframe R HO HW
  iintro ⟨HO, HW⟩
  iapply (ax_arr X W K c 6 (n := 65) (by decide) (by decide) (off20 c 6) (off19 c 6)) $$ [HO HW]
  · iframe R HO HW
  iintro ⟨HO, HW⟩
  iapply Hk
  iframe HO HW

/-- The last row is awaited, and the first of the device's own transfers. -/
theorem s29 (v455 : BitVec 32) (v456 : BitVec 32) (v457 : BitVec 1) (c0_i32_323 : BitVec 32) {k} :
    iprop(recs X W K ∗ Own (F := F) c 65 ∗ RW' X W c 7 ∗ RS' X W c 8)
      ⊢ iprop((∀ v, (Own (F := F) c 65 ∗ RW' X W c 8 ∗ RL' X W c 3) -∗ WP c (k v) Q)
        -∗ WP c (k0_part29 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v455 v456 v457 c0_i32_323 >>= k) Q) := by
  simp only [k0_part29_eq_skeleton]
  unfold k0_part29_skel
  simp only [semSignalWord, semWaitWord, Prog.lift, Prog.bind_op, Prog.bind_ret, Prog.pure_eq_ret, Prog.bind_assoc]
  iintro ⟨#R, HO, HW, HR⟩ Hk
  iapply (ax_arr X W K c 7 (n := 65) (by decide) (by decide) (off20 c 7) (off19 c 7)) $$ [HO HW]
  · iframe R HO HW
  iintro ⟨HO, HW⟩
  ihave HL := (rows_sent X W c) $$ HR
  iapply (ax_left X W K c 1 (n := 65) (by decide) (by decide) (off18 c) (axs_sem rfl)) $$ [HO HL]
  · iframe R HO HL
  iintro ⟨HO, HL⟩
  iapply (ax_left X W K c 2 (n := 65) (by decide) (by decide) (off18 c) (axs_sem rfl)) $$ [HO HL]
  · iframe R HO HL
  iintro ⟨HO, HL⟩
  iapply Hk
  iframe HO HW HL

/-- The device's own transfers are awaited. -/
theorem s30 {k} :
    iprop(recs X W K ∗ Own (F := F) c 65 ∗ RW' X W c 8 ∗ RL' X W c 3)
      ⊢ iprop((∀ v, (⌜v = k0_pay25 (upA (amv X W 0))⌝ ∗ Own (F := F) c 65 ∗ AxD (F := F) c ∗ Rows X W c) -∗ WP c (k v) Q)
        -∗ WP c (k0_part30 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c  >>= k) Q) := by
  simp only [k0_part30_eq_skeleton]
  unfold k0_part30_skel
  simp only [semSignalWord, semWaitWord, Prog.lift, Prog.bind_op, Prog.bind_ret, Prog.pure_eq_ret, Prog.bind_assoc]
  iintro ⟨#R, HO, HW, HL⟩ Hk
  iapply (ax_left X W K c 3 (n := 65) (by decide) (by decide) (off18 c) (axs_sem rfl)) $$ [HO HL]
  · iframe R HO HL
  iintro ⟨HO, HL⟩
  iapply (ax_left X W K c 4 (n := 65) (by decide) (by decide) (off18 c) (axs_sem rfl)) $$ [HO HL]
  · iframe R HO HL
  iintro ⟨HO, HL⟩
  iapply (ax_left X W K c 5 (n := 65) (by decide) (by decide) (off18 c) (axs_sem rfl)) $$ [HO HL]
  · iframe R HO HL
  iintro ⟨HO, HL⟩
  iapply (ax_left X W K c 6 (n := 65) (by decide) (by decide) (off18 c) (axs_sem rfl)) $$ [HO HL]
  · iframe R HO HL
  iintro ⟨HO, HL⟩
  iapply (ax_left X W K c 7 (n := 65) (by decide) (by decide) (off18 c) (axs_sem rfl)) $$ [HO HL]
  · iframe R HO HL
  iintro ⟨HO, HL⟩
  ihave HW := (rows_all X W c) $$ [HW HL]
  · iframe HW HL
  rw [Rows_eq]
  icases HW with ⟨HA, H0, H1, H2, H3, H4, H5, H6, H7, -⟩
  iapply (load_a c (j := 0) rfl) $$ [H0]
  · iexact H0
  iintro H0
  iapply Hk
  isplitr
  · ipureintro; rfl
  iframe HO HA H0 H1 H2 H3 H4 H5 H6 H7

/-- The scale and its inverse. -/
theorem s31 (v36 : BitVec 32) {k} :
    iprop(Rows X W c)
      ⊢ iprop((∀ v, (⌜v = ⟨scl X W, inv X W⟩⌝ ∗ Rows X W c) -∗ WP c (k v) Q)
        -∗ WP c (k0_part31 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v36 (k0_pay25 (upA (amv X W 0))) >>= k) Q) := by
  simp only [k0_part31_eq_skeleton]
  unfold k0_part31_skel
  simp only [semSignalWord, semWaitWord, Prog.lift, Prog.bind_op, Prog.bind_ret, Prog.pure_eq_ret, Prog.bind_assoc]
  rw [Rows_eq]
  iintro ⟨H0, H1, H2, H3, H4, H5, H6, H7, -⟩ Hk
  iapply (load_a c (j := 1) rfl) $$ [H1]
  · iexact H1
  iintro H1
  iapply (load_a c (j := 2) rfl) $$ [H2]
  · iexact H2
  iintro H2
  iapply (load_a c (j := 3) rfl) $$ [H3]
  · iexact H3
  iintro H3
  iapply (load_a c (j := 4) rfl) $$ [H4]
  · iexact H4
  iintro H4
  iapply (load_a c (j := 5) rfl) $$ [H5]
  · iexact H5
  iintro H5
  iapply (load_a c (j := 6) rfl) $$ [H6]
  · iexact H6
  iintro H6
  iapply (load_a c (j := 7) rfl) $$ [H7]
  · iexact H7
  iintro H7
  iapply Hk
  isplitr
  · ipureintro; rfl
  iframe H0 H1 H2 H3 H4 H5 H6 H7

/-- The sums of the first half are read back and quantised. -/
theorem s32 (v48 : BitVec 32) {k} :
    iprop(recs X W K ∗ Own (F := F) c 65 ∗ owns (c : Thread nD τ) (oB (nx 0 c) (qd 0 0)) fullShare (acc X W 0 0 7 c) ∗ owns (c : Thread nD τ) (oB (nx 1 c) (qd 0 1)) fullShare (acc X W 0 1 7 c) ∗ some (F := F) c (dH 0) ∗ some (F := F) c (dH 1) ∗ LIdle (F := F) c 0 0 ∗ LIdle (F := F) c 1 0 ∗ some (F := F) c (qS (sl 0 0)) ∗ some (F := F) c (qS (sl 1 0)))
      ⊢ iprop((∀ v, (⌜v = up1 (qv X W 0 0 0 c)⌝ ∗ Own (F := F) c 65 ∗ some (F := F) c (oB (nx 0 c) (qd 0 0)) ∗ some (F := F) c (oB (nx 1 c) (qd 0 1)) ∗ some (F := F) c (dH 0) ∗ some (F := F) c (dH 1) ∗ LIdle (F := F) c 0 1 ∗ LIdle (F := F) c 1 1 ∗ owns (c : Thread nD τ) (qS (sl 0 0)) fullShare (qv X W 0 0 0 c) ∗ owns (c : Thread nD τ) (qS (sl 1 0)) fullShare (qv X W 0 1 0 c)) -∗ WP c (k v) Q)
        -∗ WP c (k0_part32 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v48 (inv X W) >>= k) Q) := by
  simp only [k0_part32_eq_skeleton]
  unfold k0_part32_skel
  simp only [semSignalWord, semWaitWord, Prog.lift, Prog.bind_op, Prog.bind_ret, Prog.pure_eq_ret, Prog.bind_assoc]
  iintro ⟨#R, HO, Ho0, Ho1, Hd0, Hd1, HI0, HI1, HQ0, HQ1⟩ Hk
  iapply (st_load X W K c 0 0 (oB_of (off7 c)) (dH_of rfl) rfl) $$ [Ho0 Hd0 HI0]
  · iframe R Ho0 Hd0 HI0
  iintro HI0
  iapply (st_load X W K c 1 0 (oB_of (off8 c)) (dH_of rfl) rfl) $$ [Ho1 Hd1 HI1]
  · iframe R Ho1 Hd1 HI1
  iintro HI1
  iapply (st_loaded X W K c 0 0 (n := 65) rfl (by unfold nD'; rfl)) $$ [HO HI0]
  · iframe R HO HI0
  iintro ⟨HO, HI0, Hd0, Ho0⟩
  ihave Ho0 := (owns_some c _ _) $$ Ho0
  iapply (st_loaded X W K c 1 0 (n := 65) rfl (by unfold nD'; rfl)) $$ [HO HI1]
  · iframe R HO HI1
  iintro ⟨HO, HI1, Hd1, Ho1⟩
  ihave Ho1 := (owns_some c _ _) $$ Ho1
  iapply (load_d c (d := 0) rfl) $$ [Hd0]
  · iexact Hd0
  iintro Hd0
  iapply (store_q c (j := sl 0 0) (Y := qv X W 0 0 0 c) rfl (pay29_eq _ _)) $$ [HQ0]
  · iexact HQ0
  iintro HQ0
  iapply (load_d c (d := 1) rfl) $$ [Hd1]
  · iexact Hd1
  iintro Hd1
  iapply (store_q c (j := sl 1 0) (Y := qv X W 0 1 0 c) rfl (pay30_eq _ _)) $$ [HQ1]
  · iexact HQ1
  iintro HQ1
  iapply (load_q c (j := sl 0 0) rfl) $$ [HQ0]
  · iexact HQ0
  iintro HQ0
  ihave Hd0 := (owns_some c _ _) $$ Hd0
  ihave Hd1 := (owns_some c _ _) $$ Hd1
  iapply Hk
  isplitr
  · ipureintro; rfl
  iframe HO Ho0 Ho1 Hd0 Hd1 HI0 HI1 HQ0 HQ1

/-- The first chunk of the result is written. -/
theorem s33 (v36 : BitVec 32) (v48 : BitVec 32) {k} :
    iprop(recs X W K ∗ Own (F := F) c 65 ∗ some (F := F) c (dH 0) ∗ some (F := F) c (dH 1) ∗ owns (c : Thread nD τ) (qS (sl 1 0)) fullShare (qv X W 0 1 0 c) ∗ Idle (F := F) c 0 2 ∗ Idle (F := F) c 1 2 ∗ TD (F := F) c 0 0 0 ∗ TD (F := F) c 1 0 0)
      ⊢ iprop((∀ v, (Own (F := F) c 65 ∗ owns (c : Thread nD τ) (qS (sl 1 0)) fullShare (qv X W 0 1 0 c) ∗ SI X W c 0 0 1 ∗ SF X W c 1 0 0) -∗ WP c (k v) Q)
        -∗ WP c (k0_part33 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v36 v48 (scl X W) (up1 (qv X W 0 0 0 c)) >>= k) Q) := by
  simp only [k0_part33_eq_skeleton]
  unfold k0_part33_skel
  simp only [semSignalWord, semWaitWord, Prog.lift, Prog.bind_op, Prog.bind_ret, Prog.pure_eq_ret, Prog.bind_assoc]
  iintro ⟨#R, HO, Hd0, Hd1, HQ1, HI0, HI1, HT0, HT1⟩ Hk
  iapply (store_d c (d := 0) (Y := dq (scl X W) (qv X W 0 0 0 c)) rfl (pay31_eq _ _)) $$ [Hd0]
  · iexact Hd0
  iintro Hd0
  iapply (load_q c (j := sl 1 0) rfl) $$ [HQ1]
  · iexact HQ1
  iintro HQ1
  iapply (store_d c (d := 1) (Y := dq (scl X W) (qv X W 0 1 0 c)) rfl (pay32_eq _ _)) $$ [Hd1]
  · iexact Hd1
  iintro Hd1
  ihave HN0 : DN X W c 0 0 0 $$ []
  · unfold DN
    rw [ico_nil]
    iempintro
  ihave HN1 : DN X W c 1 0 0 $$ []
  · unfold DN
    rw [ico_nil]
    iempintro
  iapply (ag_copy X W K c 0 0 (t := 0) (by decide) (dH_of rfl) (off7 c) rfl) $$ [HI0 Hd0 HN0 HT0]
  · iframe R HI0 Hd0 HN0 HT0
  iintro HF0
  iapply (ag_copy X W K c 1 0 (t := 0) (by decide) (dH_of rfl) (off8 c) rfl) $$ [HI1 Hd1 HN1 HT1]
  · iframe R HI1 Hd1 HN1 HT1
  iintro HF1
  iapply (ag_stored X W K c 0 0 (t := 0) (n := 65) (by decide) rfl) $$ [HO HF0]
  · iframe R HO HF0
  iintro ⟨HO, HF0⟩
  iapply Hk
  iframe HO HQ1 HF0 HF1

/-- The first round of the broadcast. -/
theorem s34 (v2 : BitVec 32) (v14 : BitVec 32) (v25 : BitVec 32) (v36 : BitVec 32) (v48 : BitVec 32) {k} :
    iprop(recs X W K ∗ Own (F := F) c 65 ∗ SI X W c 0 0 1 ∗ SF X W c 1 0 0 ∗ Hd (F := F) c 0 14 ∗ Hd (F := F) c 1 14 ∗ owns (c : Thread nD τ) (qS (sl 0 0)) fullShare (qv X W 0 0 0 c) ∗ owns (c : Thread nD τ) (qS (sl 1 0)) fullShare (qv X W 0 1 0 c))
      ⊢ iprop((∀ v, (Own (F := F) c 91 ∗ Af (F := F) c 0 20 ∗ Af (F := F) c 1 20 ∗ owns (c : Thread nD τ) (qS (sl 0 1)) fullShare (qv X W 0 0 7 c) ∗ owns (c : Thread nD τ) (qS (sl 1 1)) fullShare (qv X W 0 1 7 c) ∗ some (F := F) c (qS (sl 0 0)) ∗ some (F := F) c (qS (sl 1 0)) ∗ Idle (F := F) c 0 9 ∗ Idle (F := F) c 1 9 ∗ owns (c : Thread nD τ) (dH 0) fullShare (dq (scl X W) (qv X W 0 0 7 c)) ∗ owns (c : Thread nD τ) (dH 1) fullShare (dq (scl X W) (qv X W 0 1 7 c)) ∗ DN X W c 0 0 7 ∗ DN X W c 1 0 7 ∗ TD (F := F) c 0 0 7 ∗ TD (F := F) c 1 0 7) -∗ WP c (k v) Q)
        -∗ WP c (k0_part34 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v14 v25 v36 v48 (scl X W) >>= k) Q) := by
  simp only [k0_part34_eq_skeleton]
  unfold k0_part34_skel
  simp only [semSignalWord, semWaitWord, Prog.lift, Prog.bind_op, Prog.bind_ret, Prog.pure_eq_ret, Prog.bind_assoc]
  iintro ⟨#R, HO, HF0, HF1, H1, H2, HQ0, HQ1⟩ Hk
  iapply (ag_stored X W K c 1 0 (t := 0) (n := 65) (by decide) rfl) $$ [HO HF1]
  · iframe R HO HF1
  iintro ⟨HO, HF1⟩
  ihave HA := (agi_in X W K c 0 (n := 65) rfl) $$ [HO H1 H2 HQ0 HQ1 HF0 HF1]
  · iframe R HO H1 H2 HQ0 HQ1 HF0 HF1
  iapply (wp_loop c k0_t3_loop (AGI X W K c 0) (fun t a => t3_step X W K c t a _ _ _ _ _)) $$ HA
  rw [trips3]
  iintro HA
  ihave HA := (agi_out X W K c 0) $$ HA
  icases HA with ⟨HO, H1, H2, HQ0, HQ1, HE0, HE1, HF0, HF1⟩
  iapply (ag_stored X W K c 0 0 (t := 6) (n := 91) (by decide) rfl) $$ [HO HF0]
  · iframe R HO HF0
  iintro ⟨HO, HF0⟩
  iapply (ag_stored X W K c 1 0 (t := 6) (n := 91) (by decide) rfl) $$ [HO HF1]
  · iframe R HO HF1
  iintro ⟨HO, HF1⟩
  ihave HF0 := (Entails.of_eq (si_eq X W c 0 0 7)) $$ HF0
  icases HF0 with ⟨HI0, Hd0, HN0, HT0⟩
  ihave HF1 := (Entails.of_eq (si_eq X W c 1 0 7)) $$ HF1
  icases HF1 with ⟨HI1, Hd1, HN1, HT1⟩
  iapply (load_q c (j := sl 0 1) rfl) $$ [HQ0]
  · iexact HQ0
  iintro HQ0
  iapply (store_d c (d := 0) (Y := dq (scl X W) (qv X W 0 0 7 c)) rfl (pay33_eq _ _)) $$ [Hd0]
  · iexact Hd0
  iintro Hd0
  iapply (load_q c (j := sl 1 1) rfl) $$ [HQ1]
  · iexact HQ1
  iintro HQ1
  iapply (store_d c (d := 1) (Y := dq (scl X W) (qv X W 0 1 7 c)) rfl (pay34_eq _ _)) $$ [Hd1]
  · iexact Hd1
  iintro Hd1
  iapply Hk
  iframe HO H1 H2 HQ0 HQ1 HE0 HE1 HI0 HI1 Hd0 Hd1 HN0 HN1 HT0 HT1

/-- The last chunk of the first half is written. -/
theorem s35 (v2 : BitVec 32) {k} :
    iprop(recs X W K ∗ Idle (F := F) c 0 9 ∗ Idle (F := F) c 1 9 ∗ owns (c : Thread nD τ) (dH 0) fullShare (dq (scl X W) (qv X W 0 0 7 c)) ∗ owns (c : Thread nD τ) (dH 1) fullShare (dq (scl X W) (qv X W 0 1 7 c)) ∗ DN X W c 0 0 7 ∗ DN X W c 1 0 7 ∗ TD (F := F) c 0 0 7 ∗ TD (F := F) c 1 0 7)
      ⊢ iprop((∀ v, (SF X W c 0 0 7 ∗ SF X W c 1 0 7) -∗ WP c (k v) Q)
        -∗ WP c (k0_part35 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 >>= k) Q) := by
  simp only [k0_part35_eq_skeleton]
  unfold k0_part35_skel
  simp only [semSignalWord, semWaitWord, Prog.lift, Prog.bind_op, Prog.bind_ret, Prog.pure_eq_ret, Prog.bind_assoc]
  iintro ⟨#R, HI0, HI1, Hd0, Hd1, HN0, HN1, HT0, HT1⟩ Hk
  iapply (ag_copy X W K c 0 0 (t := 7) (by decide) (dH_of rfl) (off28 c) rfl) $$ [HI0 Hd0 HN0 HT0]
  · iframe R HI0 Hd0 HN0 HT0
  iintro HF0
  iapply (ag_copy X W K c 1 0 (t := 7) (by decide) (dH_of rfl) (off29 c) rfl) $$ [HI1 Hd1 HN1 HT1]
  · iframe R HI1 Hd1 HN1 HT1
  iintro HF1
  iapply Hk
  iframe HF0 HF1

/-- The slots are offered again, and the second half's sums read back. -/
theorem s36 (v14 : BitVec 32) (v25 : BitVec 32) (v36 : BitVec 32) (v48 : BitVec 32) {k} :
    iprop(recs X W K ∗ Own (F := F) c 91 ∗ Af (F := F) c 0 20 ∗ Af (F := F) c 1 20 ∗ some (F := F) c (qS (sl 0 1)) ∗ some (F := F) c (qS (sl 1 1)) ∗ SF X W c 0 0 7 ∗ SF X W c 1 0 7 ∗ owns (c : Thread nD τ) (oB (nx 0 c) (qd 1 0)) fullShare (acc X W 1 0 7 c) ∗ owns (c : Thread nD τ) (oB (nx 1 c) (qd 1 1)) fullShare (acc X W 1 1 7 c) ∗ LIdle (F := F) c 0 1 ∗ LIdle (F := F) c 1 1)
      ⊢ iprop((∀ v, (Own (F := F) c 93 ∗ Hd (F := F) c 0 21 ∗ Hd (F := F) c 1 21 ∗ Idle (F := F) c 0 10 ∗ Idle (F := F) c 1 10 ∗ DN X W c 0 0 8 ∗ DN X W c 1 0 8 ∗ LFly (F := F) c 0 1 ∗ LFly (F := F) c 1 1) -∗ WP c (k v) Q)
        -∗ WP c (k0_part36 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v14 v25 v36 v48 >>= k) Q) := by
  simp only [k0_part36_eq_skeleton]
  unfold k0_part36_skel
  simp only [semSignalWord, semWaitWord, Prog.lift, Prog.bind_op, Prog.bind_ret, Prog.pure_eq_ret, Prog.bind_assoc]
  iintro ⟨#R, HO, H1, H2, HQ0, HQ1, HF0, HF1, Ho0, Ho1, HI0, HI1⟩ Hk
  ihave HQ0 := (Entails.of_eq (Land_q (F := F) c 0 1 0 (by decide)).symm) $$ HQ0
  ihave HQ1 := (Entails.of_eq (Land_q (F := F) c 1 1 0 (by decide)).symm) $$ HQ1
  iapply (st_grant X W K c 0 (r := 20) (n := 91) (by decide) rfl rfl rfl (Fin.ext (dev26 c))) $$ [HO H1 HQ0]
  · iframe R HO H1 HQ0
  iintro ⟨HO, H1⟩
  iapply (st_grant X W K c 1 (r := 20) (n := 92) (by decide) rfl rfl rfl (Fin.ext (dev27 c))) $$ [HO H2 HQ1]
  · iframe R HO H2 HQ1
  iintro ⟨HO, H2⟩
  iapply (ag_stored X W K c 0 0 (t := 7) (n := 93) (by decide) rfl) $$ [HO HF0]
  · iframe R HO HF0
  iintro ⟨HO, HF0⟩
  iapply (ag_stored X W K c 1 0 (t := 7) (n := 93) (by decide) rfl) $$ [HO HF1]
  · iframe R HO HF1
  iintro ⟨HO, HF1⟩
  ihave HF0 := (Entails.of_eq (si_eq X W c 0 0 8)) $$ HF0
  icases HF0 with ⟨HJ0, Hd0, HN0, -⟩
  ihave HF1 := (Entails.of_eq (si_eq X W c 1 0 8)) $$ HF1
  icases HF1 with ⟨HJ1, Hd1, HN1, -⟩
  iapply (st_load X W K c 0 1 (oB_of (off14 c)) (dH_of rfl) rfl) $$ [Ho0 Hd0 HI0]
  · iframe R Ho0 Hd0 HI0
  iintro HI0
  iapply (st_load X W K c 1 1 (oB_of (off15 c)) (dH_of rfl) rfl) $$ [Ho1 Hd1 HI1]
  · iframe R Ho1 Hd1 HI1
  iintro HI1
  iapply Hk
  iframe HO H1 H2 HJ0 HJ1 HN0 HN1 HI0 HI1

/-- The second half is quantised. -/
theorem s37 {k} :
    iprop(recs X W K ∗ Own (F := F) c 93 ∗ LFly (F := F) c 0 1 ∗ LFly (F := F) c 1 1 ∗ some (F := F) c (qS (sl 0 0)) ∗ some (F := F) c (qS (sl 1 0)))
      ⊢ iprop((∀ v, (Own (F := F) c 93 ∗ some (F := F) c (oB (nx 0 c) (qd 1 0)) ∗ some (F := F) c (oB (nx 1 c) (qd 1 1)) ∗ owns (c : Thread nD τ) (dH 0) fullShare (dq (scl X W) (qv X W 1 0 0 c)) ∗ some (F := F) c (dH 1) ∗ LIdle (F := F) c 0 2 ∗ LIdle (F := F) c 1 2 ∗ owns (c : Thread nD τ) (qS (sl 0 0)) fullShare (qv X W 1 0 0 c) ∗ owns (c : Thread nD τ) (qS (sl 1 0)) fullShare (qv X W 1 1 0 c)) -∗ WP c (k v) Q)
        -∗ WP c (k0_part37 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c (scl X W) (inv X W) >>= k) Q) := by
  simp only [k0_part37_eq_skeleton]
  unfold k0_part37_skel
  simp only [semSignalWord, semWaitWord, Prog.lift, Prog.bind_op, Prog.bind_ret, Prog.pure_eq_ret, Prog.bind_assoc]
  iintro ⟨#R, HO, HI0, HI1, HQ0, HQ1⟩ Hk
  iapply (st_loaded X W K c 0 1 (n := 93) rfl (by unfold nD'; rfl)) $$ [HO HI0]
  · iframe R HO HI0
  iintro ⟨HO, HI0, Hd0, Ho0⟩
  ihave Ho0 := (owns_some c _ _) $$ Ho0
  iapply (st_loaded X W K c 1 1 (n := 93) rfl (by unfold nD'; rfl)) $$ [HO HI1]
  · iframe R HO HI1
  iintro ⟨HO, HI1, Hd1, Ho1⟩
  ihave Ho1 := (owns_some c _ _) $$ Ho1
  iapply (load_d c (d := 0) rfl) $$ [Hd0]
  · iexact Hd0
  iintro Hd0
  iapply (store_q c (j := sl 0 0) (Y := qv X W 1 0 0 c) rfl (pay35_eq _ _)) $$ [HQ0]
  · iexact HQ0
  iintro HQ0
  iapply (load_d c (d := 1) rfl) $$ [Hd1]
  · iexact Hd1
  iintro Hd1
  iapply (store_q c (j := sl 1 0) (Y := qv X W 1 1 0 c) rfl (pay36_eq _ _)) $$ [HQ1]
  · iexact HQ1
  iintro HQ1
  iapply (load_q c (j := sl 0 0) rfl) $$ [HQ0]
  · iexact HQ0
  iintro HQ0
  ihave Hd0 := (owns_some c _ _) $$ Hd0
  ihave Hd1 := (owns_some c _ _) $$ Hd1
  iapply (store_d c (d := 0) (Y := dq (scl X W) (qv X W 1 0 0 c)) rfl (pay37_eq _ _)) $$ [Hd0]
  · iexact Hd0
  iintro Hd0
  iapply Hk
  iframe HO Ho0 Ho1 Hd0 Hd1 HI0 HI1 HQ0 HQ1

/-- The second round of the broadcast. -/
theorem s38 (v2 : BitVec 32) (v14 : BitVec 32) (v25 : BitVec 32) (v36 : BitVec 32) (v48 : BitVec 32) {k} :
    iprop(recs X W K ∗ Own (F := F) c 93 ∗ owns (c : Thread nD τ) (qS (sl 0 0)) fullShare (qv X W 1 0 0 c) ∗ owns (c : Thread nD τ) (qS (sl 1 0)) fullShare (qv X W 1 1 0 c) ∗ owns (c : Thread nD τ) (dH 0) fullShare (dq (scl X W) (qv X W 1 0 0 c)) ∗ some (F := F) c (dH 1) ∗ Idle (F := F) c 0 10 ∗ Idle (F := F) c 1 10 ∗ TD (F := F) c 0 1 0 ∗ TD (F := F) c 1 1 0 ∗ Hd (F := F) c 0 21 ∗ Hd (F := F) c 1 21)
      ⊢ iprop((∀ v, (Own (F := F) c 119 ∗ Af (F := F) c 0 27 ∗ Af (F := F) c 1 27 ∗ owns (c : Thread nD τ) (qS (sl 0 1)) fullShare (qv X W 1 0 7 c) ∗ owns (c : Thread nD τ) (qS (sl 1 1)) fullShare (qv X W 1 1 7 c) ∗ some (F := F) c (qS (sl 0 0)) ∗ some (F := F) c (qS (sl 1 0)) ∗ SF X W c 0 1 6 ∗ SF X W c 1 1 6) -∗ WP c (k v) Q)
        -∗ WP c (k0_part38 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v14 v25 v36 v48 (scl X W) >>= k) Q) := by
  simp only [k0_part38_eq_skeleton]
  unfold k0_part38_skel
  simp only [semSignalWord, semWaitWord, Prog.lift, Prog.bind_op, Prog.bind_ret, Prog.pure_eq_ret, Prog.bind_assoc]
  iintro ⟨#R, HO, HQ0, HQ1, Hd0, Hd1, HI0, HI1, HT0, HT1, H1, H2⟩ Hk
  iapply (load_q c (j := sl 1 0) rfl) $$ [HQ1]
  · iexact HQ1
  iintro HQ1
  iapply (store_d c (d := 1) (Y := dq (scl X W) (qv X W 1 1 0 c)) rfl (pay38_eq _ _)) $$ [Hd1]
  · iexact Hd1
  iintro Hd1
  ihave HN0 : DN X W c 0 1 0 $$ []
  · unfold DN
    rw [ico_nil]
    iempintro
  ihave HN1 : DN X W c 1 1 0 $$ []
  · unfold DN
    rw [ico_nil]
    iempintro
  iapply (ag_copy X W K c 0 1 (t := 0) (by decide) (dH_of rfl) (off14 c) rfl) $$ [HI0 Hd0 HN0 HT0]
  · iframe R HI0 Hd0 HN0 HT0
  iintro HF0
  iapply (ag_copy X W K c 1 1 (t := 0) (by decide) (dH_of rfl) (off15 c) rfl) $$ [HI1 Hd1 HN1 HT1]
  · iframe R HI1 Hd1 HN1 HT1
  iintro HF1
  iapply (ag_stored X W K c 0 1 (t := 0) (n := 93) (by decide) rfl) $$ [HO HF0]
  · iframe R HO HF0
  iintro ⟨HO, HF0⟩
  iapply (ag_stored X W K c 1 1 (t := 0) (n := 93) (by decide) rfl) $$ [HO HF1]
  · iframe R HO HF1
  iintro ⟨HO, HF1⟩
  ihave HA := (agi_in X W K c 1 (n := 93) rfl) $$ [HO H1 H2 HQ0 HQ1 HF0 HF1]
  · iframe R HO H1 H2 HQ0 HQ1 HF0 HF1
  iapply (wp_loop c k0_t4_loop (AGI X W K c 1) (fun t a => t4_step X W K c t a _ _ _ _ _)) $$ HA
  rw [trips4]
  iintro HA
  ihave HA := (agi_out X W K c 1) $$ HA
  icases HA with ⟨HO, H1, H2, HQ0, HQ1, HE0, HE1, HF0, HF1⟩
  iapply Hk
  iframe HO H1 H2 HQ0 HQ1 HE0 HE1 HF0 HF1

/-- The last chunk is scaled. -/
theorem s39 (v2 : BitVec 32) (v48 : BitVec 32) {k} :
    iprop(recs X W K ∗ Own (F := F) c 119 ∗ owns (c : Thread nD τ) (qS (sl 0 1)) fullShare (qv X W 1 0 7 c) ∗ owns (c : Thread nD τ) (qS (sl 1 1)) fullShare (qv X W 1 1 7 c) ∗ SF X W c 0 1 6 ∗ SF X W c 1 1 6)
      ⊢ iprop((∀ v, (Own (F := F) c 119 ∗ owns (c : Thread nD τ) (qS (sl 0 1)) fullShare (qv X W 1 0 7 c) ∗ owns (c : Thread nD τ) (qS (sl 1 1)) fullShare (qv X W 1 1 7 c) ∗ Idle (F := F) c 0 17 ∗ Idle (F := F) c 1 17 ∗ owns (c : Thread nD τ) (dH 0) fullShare (dq (scl X W) (qv X W 1 0 7 c)) ∗ owns (c : Thread nD τ) (dH 1) fullShare (dq (scl X W) (qv X W 1 1 7 c)) ∗ DN X W c 0 1 7 ∗ DN X W c 1 1 7 ∗ TD (F := F) c 0 1 7 ∗ TD (F := F) c 1 1 7) -∗ WP c (k v) Q)
        -∗ WP c (k0_part39 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v48 (scl X W) >>= k) Q) := by
  simp only [k0_part39_eq_skeleton]
  unfold k0_part39_skel
  simp only [semSignalWord, semWaitWord, Prog.lift, Prog.bind_op, Prog.bind_ret, Prog.pure_eq_ret, Prog.bind_assoc]
  iintro ⟨#R, HO, HQ0, HQ1, HF0, HF1⟩ Hk
  iapply (ag_stored X W K c 0 1 (t := 6) (n := 119) (by decide) rfl) $$ [HO HF0]
  · iframe R HO HF0
  iintro ⟨HO, HF0⟩
  iapply (ag_stored X W K c 1 1 (t := 6) (n := 119) (by decide) rfl) $$ [HO HF1]
  · iframe R HO HF1
  iintro ⟨HO, HF1⟩
  ihave HF0 := (Entails.of_eq (si_eq X W c 0 1 7)) $$ HF0
  icases HF0 with ⟨HI0, Hd0, HN0, HT0⟩
  ihave HF1 := (Entails.of_eq (si_eq X W c 1 1 7)) $$ HF1
  icases HF1 with ⟨HI1, Hd1, HN1, HT1⟩
  iapply (load_q c (j := sl 0 1) rfl) $$ [HQ0]
  · iexact HQ0
  iintro HQ0
  iapply (store_d c (d := 0) (Y := dq (scl X W) (qv X W 1 0 7 c)) rfl (pay39_eq _ _)) $$ [Hd0]
  · iexact Hd0
  iintro Hd0
  iapply (load_q c (j := sl 1 1) rfl) $$ [HQ1]
  · iexact HQ1
  iintro HQ1
  iapply (store_d c (d := 1) (Y := dq (scl X W) (qv X W 1 1 7 c)) rfl (pay40_eq _ _)) $$ [Hd1]
  · iexact Hd1
  iintro Hd1
  iapply Hk
  iframe HO HQ0 HQ1 HI0 HI1 Hd0 Hd1 HN0 HN1 HT0 HT1

/-- The last chunk is written. -/
theorem s40 (v2 : BitVec 32) (v36 : BitVec 32) (v48 : BitVec 32) (v781 : BitVec 32) (v782 : BitVec 32) (v783 : BitVec 1) (v784 : BitVec 1) {k} :
    iprop(recs X W K ∗ Own (F := F) c 119 ∗ Idle (F := F) c 0 17 ∗ Idle (F := F) c 1 17 ∗ owns (c : Thread nD τ) (dH 0) fullShare (dq (scl X W) (qv X W 1 0 7 c)) ∗ owns (c : Thread nD τ) (dH 1) fullShare (dq (scl X W) (qv X W 1 1 7 c)) ∗ DN X W c 0 1 7 ∗ DN X W c 1 1 7 ∗ TD (F := F) c 0 1 7 ∗ TD (F := F) c 1 1 7)
      ⊢ iprop((∀ v, (Own (F := F) c 119 ∗ SI X W c 0 1 8 ∗ SF X W c 1 1 7) -∗ WP c (k v) Q)
        -∗ WP c (k0_part40 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v2 v36 v48 v781 v782 v783 v784 >>= k) Q) := by
  simp only [k0_part40_eq_skeleton]
  unfold k0_part40_skel
  simp only [semSignalWord, semWaitWord, Prog.lift, Prog.bind_op, Prog.bind_ret, Prog.pure_eq_ret, Prog.bind_assoc]
  iintro ⟨#R, HO, HI0, HI1, Hd0, Hd1, HN0, HN1, HT0, HT1⟩ Hk
  iapply (ag_copy X W K c 0 1 (t := 7) (by decide) (dH_of rfl) (off37 c) rfl) $$ [HI0 Hd0 HN0 HT0]
  · iframe R HI0 Hd0 HN0 HT0
  iintro HF0
  iapply (ag_copy X W K c 1 1 (t := 7) (by decide) (dH_of rfl) (off38 c) rfl) $$ [HI1 Hd1 HN1 HT1]
  · iframe R HI1 Hd1 HN1 HT1
  iintro HF1
  iapply (ag_stored X W K c 0 1 (t := 7) (n := 119) (by decide) rfl) $$ [HO HF0]
  · iframe R HO HF0
  iintro ⟨HO, HF0⟩
  iapply Hk
  iframe HO HF0 HF1

end Stretches

end Cert.Proof.KI
-- ==== Proof.Body.lean ====
/- The body at a device. -/
module

public import proofs.«01_k».proof.Proof.Parts
public import proofs.«01_k».proof.Proof.Gen.KernelIdeal.Skeleton

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Whole

variable (X : Dev nD → Vec F S4096x512 .f32) (W : Dev nD → Vec F S512x8192 .f32) (K : Dev nD × CK → ℕ) (c : Dev nD)

/-- What the body starts from. -/
def Start : sProp 𝕄 := iprop(recs X W K ∗ Own (F := F) c 0 ∗ At (F := F) c .bar 0 ∗ cred (tallyAt (cell c .bar) 0 2) ∗ Tok (F := F) (pv 0 c) .bar 0 0 ∗ Tok (F := F) (pv 1 c) .bar 0 1 ∗ some (F := F) c (cS (sl 0 0)) ∗ some (F := F) c (cS (sl 0 1)) ∗ some (F := F) c (cS (sl 1 0)) ∗ some (F := F) c (cS (sl 1 1)) ∗ Dir0 (F := F) c 0 ∗ Dir0 (F := F) c 1 ∗ Data X W c ∗ some (F := F) c (qS (sl 0 0)) ∗ some (F := F) c (qS (sl 0 1)) ∗ some (F := F) c (qS (sl 1 0)) ∗ some (F := F) c (qS (sl 1 1)) ∗ some (F := F) c (dH 0) ∗ some (F := F) c (dH 1) ∗ Bn (F := F) c 0 0 ∗ some (F := F) c (aS c) ∗ TD (F := F) c 0 0 0 ∗ TD (F := F) c 1 0 0 ∗ TD (F := F) c 0 1 0 ∗ TD (F := F) c 1 1 0 ∗ Idle (F := F) c 0 0 ∗ Idle (F := F) c 1 0 ∗ LIdle (F := F) c 0 0 ∗ LIdle (F := F) c 1 0 ∗ AxT (F := F) c ∗ RW' X W c 1)

/-- What the body ends with. -/
def End : sProp 𝕄 := iprop(recs X W K ∗ Own (F := F) c 119 ∗ At (F := F) c .bar 1 ∗ Af (F := F) c 0 27 ∗ Af (F := F) c 1 27 ∗ AxD (F := F) c ∗ Idle (F := F) c 0 18 ∗ Idle (F := F) c 1 18 ∗ LIdle (F := F) c 0 2 ∗ LIdle (F := F) c 1 2 ∗ Data X W c ∗ some (F := F) c (cS (sl 0 0)) ∗ some (F := F) c (cS (sl 0 1)) ∗ some (F := F) c (cS (sl 1 0)) ∗ some (F := F) c (cS (sl 1 1)) ∗ some (F := F) c (qS (sl 0 0)) ∗ some (F := F) c (qS (sl 0 1)) ∗ some (F := F) c (qS (sl 1 0)) ∗ some (F := F) c (qS (sl 1 1)) ∗ some (F := F) c (dH 0) ∗ some (F := F) c (dH 1) ∗ Rows X W c ∗ DN X W c 0 0 8 ∗ DN X W c 1 0 8 ∗ DN X W c 0 1 8 ∗ DN X W c 1 1 8)

theorem td_open (d h : Fin 2) : TD (F := F) c d h 0 ⊢ iprop(some (F := F) c (oB (nx d c) (qd h d)) ∗ TD (F := F) c d h 1) := by
  unfold TD; rw [ico_peel 0 8 (by decide)]; exact .rfl

theorem td_close (d h : Fin 2) : iprop(some (F := F) c (oB (nx d c) (qd h d)) ∗ TD (F := F) c d h 1) ⊢ TD (F := F) c d h 0 := by
  unfold TD; rw [ico_peel 0 8 (by decide)]; exact .rfl

/-- The device asks which it is. -/
theorem s15 {α : Type} {Q : α → sProp (MT nD τ sig ℕ (Elt F) ℕ UU ℕ)} {k} :
    (iprop(emp) : sProp (MT nD τ sig ℕ (Elt F) ℕ UU ℕ)) ⊢ iprop((∀ v, ⌜v.1 = c⌝ -∗ WP c (k v) Q) -∗ WP c (k0_part15 (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 >>= k) Q) := by
  simp only [k0_part15_eq_skeleton]
  unfold k0_part15_skel
  simp only [Prog.lift, Prog.bind_op, Prog.bind_ret, Prog.pure_eq_ret]
  unfold WP
  rw [wp_deviceId]
  iintro - Hk
  iapply Hk
  ipureintro
  rfl

set_option maxRecDepth 65536 in
/-- The body at device `c`. -/
theorem body_run : Start X W K c ⊢ WP c (cc0_body (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11) (fun _ => End X W K c) := by
  simp only [cc0_body_eq_skeleton]
  unfold cc0_body_skel
  simp only [Prog.lift, Prog.bind_op, Prog.bind_ret, Prog.pure_eq_ret]
  unfold Start
  iintro ⟨#R, HO, HB, HC, HT0, HT1, C00, C01, C10, C11, D0, D1, HD, Q00, Q01, Q10, Q11, E0, E1, BN, AS, T00, T10, T01, T11, I0, I1, L0, L1, AT, RW⟩
  iapply (s15 c) $$ []
  · iempintro
  iintro %v %e
  obtain ⟨v15_0, v15_1, v15_2, v15_3, v15_4, v15_5, v15_6⟩ := v
  obtain rfl : c = v15_0 := (e : v15_0 = c).symm
  ihave C01 := (Entails.of_eq (Land_c (F := F) c 0 0 0 (by decide)).symm) $$ C01
  ihave C11 := (Entails.of_eq (Land_c (F := F) c 1 0 0 (by decide)).symm) $$ C11
  iapply (s16 X W K c _ _ _ _ _ _) $$ [HO HB HC HT0 HT1 C01 C11 D0 D1 HD C00]
  · iframe R HO HB HC HT0 HT1 C01 C11 D0 D1 HD C00
  iintro %v ⟨HO, HB, D0, D1, HD, C00⟩
  obtain ⟨v16_0, v16_1⟩ := v
  ihave T00 := (td_open c 0 0) $$ T00
  icases T00 with ⟨O00, T00⟩
  iapply (s17 X W K c _ _ _ _ _) $$ [HO D0 D1 HD C00 C10 BN E0 E1 O00 I0]
  · iframe R HO D0 D1 HD C00 C10 BN E0 E1 O00 I0
  iintro %v ⟨%e, HO, D0, D1, CO, HD, E0, E1, I0, C11, C00, C10⟩
  subst e
  ihave T10 := (td_open c 1 0) $$ T10
  icases T10 with ⟨O10, T10⟩
  iapply (s18 X W K c _ _ _) $$ [HO D0 D1 HD C11 O10 I1 I0]
  · iframe R HO D0 D1 HD C11 O10 I1 I0
  iintro %v ⟨%e, HO, D0, D1, HD, I0, I1, O00, O10⟩
  subst e
  iapply (s19 X W K c _ _ _) $$ [HO D0 D1 HD C00 C10 CO E0 E1]
  · iframe R HO D0 D1 HD C00 C10 CO E0 E1
  iintro %v ⟨%e, HO, D0, D1, CO, HD, E0, E1, C01, C11, C00, C10⟩
  obtain ⟨v19_0, v19_1⟩ := v
  obtain rfl : v19_0 = lam X W c := e
  ihave T01 := (td_open c 0 1) $$ T01
  icases T01 with ⟨O01, T01⟩
  ihave T11 := (td_open c 1 1) $$ T11
  icases T11 with ⟨O11, T11⟩
  iapply (s20 X W K c _ _ _ _) $$ [HO D0 C01 C11 O01 O11 I0 I1 Q01]
  · iframe R HO D0 C01 C11 O01 O11 I0 I1 Q01
  iintro %v ⟨HO, D0, I0, I1, O01, O11, C01, C11⟩
  iapply (s21 X W K c _ _) $$ [HO D1 Q11 AS AT CO]
  · iframe R HO D1 Q11 AS AT CO
  iintro %v ⟨HO, D1, RS⟩
  obtain ⟨v21_0, v21_1, v21_2, v21_3⟩ := v
  iapply (s22 X W K c _ _ _ _ _) $$ [HO RS]
  · iframe R HO RS
  iintro %v ⟨HO, RS⟩
  iapply (s23 X W K c _) $$ [HO RS]
  · iframe R HO RS
  iintro %v ⟨HO, RS⟩
  iapply (s24 X W K c _) $$ [HO RS]
  · iframe R HO RS
  iintro %v ⟨HO, RS⟩
  obtain ⟨v24_0, v24_1, v24_2, v24_3⟩ := v
  iapply (s25 X W K c _ _ _ _ _) $$ [HO RS RW]
  · iframe R HO RS RW
  iintro %v ⟨HO, RS, RW⟩
  iapply (s26 X W K c _ _) $$ [HO RW]
  · iframe R HO RW
  iintro %v ⟨HO, RW⟩
  iapply (s27 X W K c _) $$ [HO RW]
  · iframe R HO RW
  iintro %v ⟨HO, RW⟩
  iapply (s28 X W K c _ _) $$ [HO RW]
  · iframe R HO RW
  iintro %v ⟨HO, RW⟩
  obtain ⟨v28_0, v28_1, v28_2, v28_3⟩ := v
  iapply (s29 X W K c _ _ _ _) $$ [HO RW RS]
  · iframe R HO RW RS
  iintro %v ⟨HO, RW, RL⟩
  iapply (s30 X W K c) $$ [HO RW RL]
  · iframe R HO RW RL
  iintro %v ⟨%e, HO, AXD, ROWS⟩
  subst e
  iapply (s31 X W c _) $$ [ROWS]
  · iframe ROWS
  iintro %v ⟨%e, ROWS⟩
  subst e
  iapply (s32 X W K c _) $$ [HO O00 O10 E0 E1 L0 L1 Q00 Q10]
  · iframe R HO O00 O10 E0 E1 L0 L1 Q00 Q10
  iintro %v ⟨%e, HO, O00, O10, E0, E1, L0, L1, Q00, Q10⟩
  subst e
  ihave T00 := (td_close c 0 0) $$ [O00 T00]
  · iframe O00 T00
  ihave T10 := (td_close c 1 0) $$ [O10 T10]
  · iframe O10 T10
  iapply (s33 X W K c _ _) $$ [HO E0 E1 Q10 I0 I1 T00 T10]
  · iframe R HO E0 E1 Q10 I0 I1 T00 T10
  iintro %v ⟨HO, Q10, F0, F1⟩
  iapply (s34 X W K c _ _ _ _ _) $$ [HO F0 F1 D0 D1 Q00 Q10]
  · iframe R HO F0 F1 D0 D1 Q00 Q10
  iintro %v ⟨HO, D0, D1, Q01, Q11, Q00, Q10, I0, I1, E0, E1, N0, N1, T0, T1⟩
  iapply (s35 X W K c _) $$ [I0 I1 E0 E1 N0 N1 T0 T1]
  · iframe R I0 I1 E0 E1 N0 N1 T0 T1
  iintro %v ⟨F0, F1⟩
  ihave Q01 := (owns_some c _ _) $$ Q01
  ihave Q11 := (owns_some c _ _) $$ Q11
  iapply (s36 X W K c _ _ _ _) $$ [HO D0 D1 Q01 Q11 F0 F1 O01 O11 L0 L1]
  · iframe R HO D0 D1 Q01 Q11 F0 F1 O01 O11 L0 L1
  iintro %v ⟨HO, D0, D1, I0, I1, T00, T10, L0, L1⟩
  iapply (s37 X W K c) $$ [HO L0 L1 Q00 Q10]
  · iframe R HO L0 L1 Q00 Q10
  iintro %v ⟨HO, O01, O11, E0, E1, L0, L1, Q00, Q10⟩
  ihave T01 := (td_close c 0 1) $$ [O01 T01]
  · iframe O01 T01
  ihave T11 := (td_close c 1 1) $$ [O11 T11]
  · iframe O11 T11
  iapply (s38 X W K c _ _ _ _ _) $$ [HO Q00 Q10 E0 E1 I0 I1 T01 T11 D0 D1]
  · iframe R HO Q00 Q10 E0 E1 I0 I1 T01 T11 D0 D1
  iintro %v ⟨HO, D0, D1, Q01, Q11, Q00, Q10, F0, F1⟩
  iapply (s39 X W K c _ _) $$ [HO Q01 Q11 F0 F1]
  · iframe R HO Q01 Q11 F0 F1
  iintro %v ⟨HO, Q01, Q11, I0, I1, E0, E1, N0, N1, T0, T1⟩
  obtain ⟨v39_0, v39_1, v39_2, v39_3⟩ := v
  iapply (s40 X W K c _ _ _ _ _ _ _) $$ [HO I0 I1 E0 E1 N0 N1 T0 T1]
  · iframe R HO I0 I1 E0 E1 N0 N1 T0 T1
  iintro %v ⟨HO, F0, F1⟩
  iapply (ag_stored X W K c 1 1 (t := 7) (n := 119) (by decide) rfl) $$ [HO F1]
  · iframe R HO F1
  iintro ⟨HO, F1⟩
  ihave F0 := (Entails.of_eq (si_eq X W c 0 1 8)) $$ F0
  icases F0 with ⟨I0, E0, T01, -⟩
  ihave F1 := (Entails.of_eq (si_eq X W c 1 1 8)) $$ F1
  icases F1 with ⟨I1, E1, T11, -⟩
  ihave Q01 := (owns_some c _ _) $$ Q01
  ihave Q11 := (owns_some c _ _) $$ Q11
  iapply (wp_end c)
  unfold End
  iframe R HO HB D0 D1 AXD I0 I1 L0 L1 HD C00 C01 C10 C11 Q00 Q01 Q10 Q11 E0 E1 ROWS T00 T10 T01 T11

end Whole

end Cert.Proof.KI
-- ==== Proof.Deal.lean ====
/- What each device is dealt at the launch: the rights to pay for the rounds of the cells, and the certainty that the
   rounds of its own cells are paid for. -/
module

public import proofs.«01_k».proof.Proof.Body

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Ranges -/

theorem ico_fin (n : Nat) (Φ : Nat → sProp 𝕄) : bigSep (Finset.univ : Finset (Fin n)) (fun r => Φ r.val) = bigSep (Finset.Ico 0 n) Φ := by
  have h : Finset.Ico 0 n = (Finset.univ : Finset (Fin n)).map Fin.valEmbedding := by
    ext i
    simp only [Finset.mem_Ico, Finset.mem_map, Finset.mem_univ, true_and, Fin.valEmbedding_apply, Nat.zero_le]
    exact ⟨fun h => ⟨⟨i, h⟩, rfl⟩, fun ⟨j, hj⟩ => hj ▸ j.isLt⟩
  rw [h, bigSep_map]; rfl

theorem ico_shift (a n : Nat) (Φ : Nat → sProp 𝕄) : bigSep (Finset.Ico a (a + n)) Φ = bigSep (Finset.Ico 0 n) fun i => Φ (i + a) := by
  have h : Finset.Ico a (a + n) = (Finset.Ico 0 n).map (addRightEmbedding a) := by
    rw [Finset.map_add_right_Ico, Nat.zero_add, Nat.add_comm]
  rw [h, bigSep_map]; rfl

theorem ico_join (a b n : Nat) (h1 : a ≤ b) (h2 : b ≤ n) (Φ : Nat → sProp 𝕄) :
    bigSep (Finset.Ico a n) Φ = iprop(bigSep (Finset.Ico a b) Φ ∗ bigSep (Finset.Ico b n) Φ) := by
  rw [← Finset.Ico_union_Ico_eq_Ico h1 h2, bigSep_union (Finset.Ico_disjoint_Ico_consecutive a b n)]; rfl

/-- The permissions of a direction, from its two cells. -/
theorem cr_join (d : Fin 2) (Ψ : CK → Nat → sProp 𝕄) :
    iprop((bigSep (Finset.Ico 0 13) fun r => Ψ (.rsc d) r) ∗ bigSep (Finset.Ico 0 14) fun r => Ψ (.agc d) r) = bigSep (Finset.Ico 1 28) fun i => Ψ (crC d i) (crR i) := by
  rw [ico_join 1 14 28 (by decide) (by decide), ico_shift 1 13, ico_shift 14 14]
  rw [bigSep_congr (s := Finset.Ico 0 13) (Φ := fun i => Ψ (crC d (i + 1)) (crR (i + 1))) (Ψ := fun r => Ψ (.rsc d) r) fun i hi => ?_,
    bigSep_congr (s := Finset.Ico 0 14) (Φ := fun i => Ψ (crC d (i + 14)) (crR (i + 14))) (Ψ := fun r => Ψ (.agc d) r) fun i hi => ?_]
  · have := (Finset.mem_Ico.mp hi).2
    unfold crC crR; rw [if_neg (by omega), if_neg (by omega), Nat.add_sub_cancel]
  · have := (Finset.mem_Ico.mp hi).2
    unfold crC crR; rw [if_pos (by omega), if_pos (by omega), Nat.add_sub_cancel]

theorem ck_all (Φ : CK → sProp 𝕄) : bigSep Finset.univ Φ = iprop(Φ .bar ∗ Φ (.snd 0) ∗ Φ (.snd 1) ∗ Φ (.rcv 0) ∗ Φ (.rcv 1)
    ∗ Φ (.axs 0) ∗ Φ (.axs 1) ∗ Φ (.axs 2) ∗ Φ (.axs 3) ∗ Φ (.axs 4) ∗ Φ (.axs 5) ∗ Φ (.axs 6)
    ∗ Φ (.axr 0) ∗ Φ (.axr 1) ∗ Φ (.axr 2) ∗ Φ (.axr 3) ∗ Φ (.axr 4) ∗ Φ (.axr 5) ∗ Φ (.axr 6) ∗ Φ (.axr 7)
    ∗ Φ (.sto 0) ∗ Φ (.sto 1) ∗ Φ (.lod 0) ∗ Φ (.lod 1) ∗ Φ (.rsc 0) ∗ Φ (.rsc 1) ∗ Φ (.agc 0) ∗ Φ (.agc 1)) :=
  bigSep_univ_eq_bigSepL cks (by decide) (by decide) Φ

/-! ## The rights to pay -/

theorem kcell_inj : Function.Injective (fun p : Dev nD × CK => cell p.1 p.2) := fun a b h =>
  Prod.ext (cell_inj h).1 (cell_inj h).2
/-- All cells. -/
def allCells : Finset (GSem nD τ sig) := Finset.univ.map ⟨fun p : Dev nD × CK => cell p.1 p.2, kcell_inj⟩

/-- A right, by device, cell, round and payer. -/
abbrev tokOf (x : Dev nD × CK × Fin 28 × Fin 2) : GSem nD τ sig × ℕ × Fin 2 := (cell x.1 x.2.1, x.2.2.1.val, x.2.2.2)
theorem tokOf_inj : Function.Injective tokOf := by
  rintro ⟨c, ck, r, d⟩ ⟨c', ck', r', d'⟩ h
  obtain ⟨rfl, rfl⟩ := cell_inj (congrArg (fun x => x.1) h)
  obtain rfl : r = r' := Fin.ext (congrArg (fun x => x.2.1) h)
  obtain rfl : d = d' := congrArg (fun x => x.2.2) h
  rfl
/-- All rights. -/
def allToks : Finset (GSem nD τ sig × ℕ × Fin 2) := Finset.univ.map ⟨tokOf, tokOf_inj⟩

section Toks

variable (c : Dev nD)

/-- The rights for a device's cells. -/
def toks : sProp 𝕄 := bigSep Finset.univ fun t : CK × Fin 28 × Fin 2 => Tok (F := F) c t.1 t.2.1.val t.2.2
/-- The rights for the first `n` rounds of a cell. -/
def TR (ck : CK) (n : Nat) : sProp 𝕄 := bigSep (Finset.Ico 0 n) fun r => Tok (F := F) c ck r 0

theorem tr_of (ck : CK) (n : Nat) (h : n ≤ 28) :
    (bigSep Finset.univ fun t : Fin 28 × Fin 2 => Tok (F := F) c ck t.1.val t.2) ⊢ TR (F := F) c ck n := by
  rw [bigSep_univ_prod]
  have h1 : (bigSep Finset.univ fun r : Fin 28 => bigSep Finset.univ fun d : Fin 2 => Tok (F := F) c ck r.val d)
      ⊢ bigSep Finset.univ fun r : Fin 28 => Tok (F := F) c ck r.val 0 := bigSep_mono fun r _ => bigSep_elim (Finset.mem_univ (0 : Fin 2))
  refine h1.trans ?_
  rw [ico_fin 28 fun r => Tok (F := F) c ck r 0]
  exact bigSep_subset (Finset.Ico_subset_Ico le_rfl h)

theorem tr_one (ck : CK) : (bigSep Finset.univ fun t : Fin 28 × Fin 2 => Tok (F := F) c ck t.1.val t.2) ⊢ Tok (F := F) c ck 0 0 :=
  bigSep_elim (Finset.mem_univ ((0, 0) : Fin 28 × Fin 2))

theorem tr_bar : (bigSep Finset.univ fun t : Fin 28 × Fin 2 => Tok (F := F) c .bar t.1.val t.2)
    ⊢ iprop(Tok (F := F) c .bar 0 0 ∗ Tok (F := F) c .bar 0 1) := by
  rw [bigSep_univ_prod]
  refine (bigSep_elim (Finset.mem_univ (0 : Fin 28))).trans ?_
  rw [bigSep_univ_eq_bigSepL [0, 1] (by decide) (by decide)]; exact BI.Entails.refl _

/-- Those it uses itself. -/
def OwnT : sProp 𝕄 := iprop(TR (F := F) c (.snd 0) 28 ∗ TR (F := F) c (.snd 1) 28 ∗ TR (F := F) c (.sto 0) 18 ∗ TR (F := F) c (.sto 1) 18
  ∗ TR (F := F) c (.lod 0) 2 ∗ TR (F := F) c (.lod 1) 2 ∗ Tok (F := F) c (.axs 0) 0 0 ∗ Tok (F := F) c (.axs 1) 0 0 ∗ Tok (F := F) c (.axs 2) 0 0
  ∗ Tok (F := F) c (.axs 3) 0 0 ∗ Tok (F := F) c (.axs 4) 0 0 ∗ Tok (F := F) c (.axs 5) 0 0 ∗ Tok (F := F) c (.axs 6) 0 0)
/-- Those the device before it uses, -/
def RcvT (d : Fin 2) : sProp 𝕄 := TR (F := F) c (.rcv d) 28
/-- and the device after it. -/
def CrT (d : Fin 2) : sProp 𝕄 := iprop(Tok (F := F) c .bar 0 d ∗ TR (F := F) c (.rsc d) 13 ∗ TR (F := F) c (.agc d) 14)

theorem toks_split : toks (F := F) c ⊢ iprop(OwnT (F := F) c ∗ RcvT (F := F) c 0 ∗ RcvT (F := F) c 1 ∗ CrT (F := F) c 0 ∗ CrT (F := F) c 1
    ∗ bigSep Finset.univ fun j : Fin 8 => Tok (F := F) c (.axr j) 0 0) := by
  have a28 := fun ck => tr_of (F := F) c ck 28 (by decide)
  have a18 := fun ck => tr_of (F := F) c ck 18 (by decide)
  have a14 := fun ck => tr_of (F := F) c ck 14 (by decide)
  have a13 := fun ck => tr_of (F := F) c ck 13 (by decide)
  have a2 := fun ck => tr_of (F := F) c ck 2 (by decide)
  have a1 := fun ck => tr_one (F := F) c ck
  have b := tr_bar (F := F) c
  unfold toks
  rw [bigSep_univ_prod]
  rw [ck_all, univ8]
  unfold OwnT RcvT CrT
  iintro ⟨B, S0, S1, R0, R1, X0, X1, X2, X3, X4, X5, X6, Y0, Y1, Y2, Y3, Y4, Y5, Y6, Y7, T0, T1, L0, L1, C0, C1, D0, D1⟩
  ihave B := b $$ B
  icases B with ⟨B0, B1⟩
  ihave S0 := (a28 _) $$ S0
  ihave S1 := (a28 _) $$ S1
  ihave R0 := (a28 _) $$ R0
  ihave R1 := (a28 _) $$ R1
  ihave X0 := (a1 _) $$ X0
  ihave X1 := (a1 _) $$ X1
  ihave X2 := (a1 _) $$ X2
  ihave X3 := (a1 _) $$ X3
  ihave X4 := (a1 _) $$ X4
  ihave X5 := (a1 _) $$ X5
  ihave X6 := (a1 _) $$ X6
  ihave Y0 := (a1 _) $$ Y0
  ihave Y1 := (a1 _) $$ Y1
  ihave Y2 := (a1 _) $$ Y2
  ihave Y3 := (a1 _) $$ Y3
  ihave Y4 := (a1 _) $$ Y4
  ihave Y5 := (a1 _) $$ Y5
  ihave Y6 := (a1 _) $$ Y6
  ihave Y7 := (a1 _) $$ Y7
  ihave T0 := (a18 _) $$ T0
  ihave T1 := (a18 _) $$ T1
  ihave L0 := (a2 _) $$ L0
  ihave L1 := (a2 _) $$ L1
  ihave C0 := (a13 _) $$ C0
  ihave C1 := (a13 _) $$ C1
  ihave D0 := (a14 _) $$ D0
  ihave D1 := (a14 _) $$ D1
  iframe S0 S1 R0 R1 X0 X1 X2 X3 X4 X5 X6 T0 T1 L0 L1 C0 C1 D0 D1 B0 B1 Y0 Y1 Y2 Y3 Y4 Y5 Y6 Y7

/-- The rights a device uses. -/
def mine : sProp 𝕄 := iprop(OwnT (F := F) c ∗ RcvT (F := F) (nx 0 c) 0 ∗ RcvT (F := F) (nx 1 c) 1 ∗ CrT (F := F) (pv 0 c) 0 ∗ CrT (F := F) (pv 1 c) 1
    ∗ bigSep Finset.univ fun c' : Dev nD => Tok (F := F) c' (.axr c) 0 0)

end Toks

/-- The devices, moved on by one. -/
def nxE (d : Fin 2) : Dev nD ≃ Dev nD := ⟨nx d, pv d, fun c => pv_nx d c, fun c => nx_pv d c⟩

theorem toks_around : (bigSep Finset.univ fun c : Dev nD => toks (F := F) c) ⊢ bigSep Finset.univ fun c => mine (F := F) c := by
  refine (bigSep_mono fun c _ => toks_split (F := F) c).trans ?_
  unfold mine
  simp only [bigSep_sep']
  rw [bigSep_univ_equiv (nxE 0) (fun c : Dev nD => RcvT (F := F) c 0), bigSep_univ_equiv (nxE 1) (fun c : Dev nD => RcvT (F := F) c 1),
    bigSep_univ_equiv (nxE 0).symm (fun c : Dev nD => CrT (F := F) c 0), bigSep_univ_equiv (nxE 1).symm (fun c : Dev nD => CrT (F := F) c 1),
    bigSep_univ_comm (fun (c : Dev nD) (j : Fin 8) => Tok (F := F) c (.axr j) 0 0)]
  exact BI.Entails.refl _

/-! ## The certainty of being paid -/

theorem launch_sum (D : Dev nD → Nat → CellTallies nD τ sig ℕ) (c : Dev nD) : ∀ n,
    (Pipeline.launchCred (fun c => ∑ i ∈ Finset.Ico 0 n, D c i) c : sProp 𝕄) = bigSep (Finset.Ico 0 n) fun i => Pipeline.launchCred (fun c => D c i) c
  | 0 => by simp only [Finset.Ico_self, Finset.sum_empty]; rw [Pipeline.launchCred_zero]; rfl
  | n + 1 => by
    rw [ico_snoc 0 n (Nat.zero_le _), ← launch_sum D c n]
    rw [show (fun c => ∑ i ∈ Finset.Ico 0 (n + 1), D c i) = fun c => D c n + ∑ i ∈ Finset.Ico 0 n, D c i from
      funext fun c => by rw [Finset.sum_Ico_succ_top (Nat.zero_le _), add_comm]]
    exact Pipeline.launchCred_add _ _ _

theorem launch_one (e : Dev nD ≃ Dev nD) (f : Dev nD → CK) (r n : Nat) (c : Dev nD) :
    (Pipeline.launchCred (fun c => tallyAt (cell (e c) (f c)) r n) c : sProp 𝕄) ⊢ cred (tallyAt (cell c (f (e.symm c))) r n) := by
  refine (Pipeline.launchCred_elim _ c (csem (f (e.symm c)))).trans ?_
  have h : tallyOn (cell c (f (e.symm c))) (launchCredit (Pipeline.owing fun c => tallyAt (cell (e c) (f c)) r n) 0 (cell c (f (e.symm c))))
      = (tallyAt (cell c (f (e.symm c))) r n : CellTallies nD τ sig ℕ) := ?_
  · rw [h]
  unfold tallyAt
  refine congrArg _ (Finsupp.ext fun u => ?_)
  show launchCredit (Pipeline.owing fun c => tallyAt (cell (e c) (f c)) r n) 0 (cell c (f (e.symm c))) u = _
  rw [Pipeline.launchCredit_owing, Fintype.sum_eq_single (e.symm c) fun d hd => ?_]
  · rw [tallyAt_apply, Equiv.apply_symm_apply, Finsupp.single_apply]
    by_cases h : u = r
    · rw [if_pos ⟨rfl, h⟩, if_pos h.symm]
    · rw [if_neg (fun h' => h h'.2), if_neg (fun h' => h h'.symm)]
  · rw [tallyAt_apply, if_neg]
    rintro ⟨h, -⟩
    exact hd (by rw [(cell_inj h).1, Equiv.symm_apply_apply])

/-- The payments, sorted. -/
abbrev PayIx := Fin 2 ⊕ (Fin 2 × Fin 28) ⊕ (Fin 2 × Fin 27) ⊕ Fin 7
theorem place_lt : ∀ x : PayIx, (match x with
    | .inl d => d.val
    | .inr (.inl (d, r)) => txI r.val d
    | .inr (.inr (.inl (d, k))) => crI (k.val + 1) d
    | .inr (.inr (.inr k)) => 58 + k.val) < 119 := by decide +kernel
/-- Where they stand. -/
def place (x : PayIx) : Fin 119 := ⟨_, place_lt x⟩
theorem place_inj : Function.Injective place := by
  have h : ∀ a b : PayIx, place a = place b → a = b := by decide +kernel
  exact fun a b => h a b
/-- Every payment has its place. -/
def placeE : PayIx ≃ Fin 119 := Equiv.ofBijective place ((Fintype.bijective_iff_injective_and_card place).mpr ⟨place_inj, by decide +kernel⟩)

/-- The `k`th device on. -/
def fwdE (k : Fin 7) : Dev nD ≃ Dev nD := ⟨fwd (k.val + 1), fwd (7 - k.val), by revert k; decide, by revert k; decide⟩

section Creds

variable (c : Dev nD)

/-- What a device is sure of being paid. -/
def sure : sProp 𝕄 := iprop(cred (tallyAt (cell c .bar) 0 2) ∗ (bigSep (Finset.Ico 0 28) fun r => Crd (F := F) c (.rcv 0) r)
  ∗ (bigSep (Finset.Ico 0 28) fun r => Crd (F := F) c (.rcv 1) r) ∗ CrW (F := F) c 0 1 ∗ CrW (F := F) c 1 1
  ∗ bigSep (Finset.Ico 1 8) fun k => Crd (F := F) c (.axr (fwd k c)) 0)

theorem sure_bar (d : Fin 2) : (Pipeline.launchCred (fun c => dueAt c d.val) c : sProp 𝕄) ⊢ cred (tallyAt (cell c .bar) 0 1) := by
  unfold dueAt
  rw [slot_bar]
  exact launch_one (nxE d).symm (fun _ => .bar) 0 1 c

theorem sure_tx (d : Fin 2) (r : Fin 28) : (Pipeline.launchCred (fun c => dueAt c (txI r.val d)) c : sProp 𝕄) ⊢ Crd (F := F) c (.rcv d) r.val := by
  unfold dueAt
  rw [slot_tx]
  exact launch_one (nxE d) (fun _ => .rcv d) r.val (amt (.rcv d) r.val) c

theorem sure_cr (d : Fin 2) (k : Fin 27) : (Pipeline.launchCred (fun c => dueAt c (crI (k.val + 1) d)) c : sProp 𝕄) ⊢ Crd (F := F) c (crC d (k.val + 1)) (crR (k.val + 1)) := by
  unfold dueAt
  rw [slot_cr]
  exact launch_one (nxE d).symm (fun _ => crC d (k.val + 1)) (crR (k.val + 1)) (amt (crC d (k.val + 1)) (crR (k.val + 1))) c

theorem sure_ax (k : Fin 7) : (Pipeline.launchCred (fun c => dueAt c (58 + k.val)) c : sProp 𝕄) ⊢ Crd (F := F) c (.axr (fwd (7 - k.val) c)) 0 := by
  unfold dueAt
  rw [slot_ax]
  exact launch_one (fwdE k) (fun c => .axr c) 0 (amt (.axr c) 0) c

theorem pay_all (Φ : PayIx → sProp 𝕄) : bigSep Finset.univ Φ = iprop((bigSep Finset.univ fun d => Φ (.inl d))
    ∗ ((bigSep Finset.univ fun r => Φ (.inr (.inl (0, r)))) ∗ bigSep Finset.univ fun r => Φ (.inr (.inl (1, r))))
    ∗ ((bigSep Finset.univ fun k => Φ (.inr (.inr (.inl (0, k))))) ∗ bigSep Finset.univ fun k => Φ (.inr (.inr (.inl (1, k)))))
    ∗ bigSep Finset.univ fun k => Φ (.inr (.inr (.inr k)))) := by
  have two : ∀ Φ : Fin 2 → sProp 𝕄, bigSep Finset.univ Φ = iprop(Φ 0 ∗ Φ 1) := fun Φ => bigSep_univ_eq_bigSepL [0, 1] (by decide) (by decide) Φ
  rw [bigSep_univ_sum, bigSep_univ_sum, bigSep_univ_sum, bigSep_univ_prod, bigSep_univ_prod, two (fun d => bigSep Finset.univ fun r => _), two (fun d => bigSep Finset.univ fun r => _)]
  rfl

theorem creds : (Pipeline.launchCred (fun c => owed c 0) c : sProp 𝕄) ⊢ sure (F := F) c := by
  have htx : ∀ d : Fin 2, (bigSep Finset.univ fun r : Fin 28 => (Pipeline.launchCred (fun c => dueAt c (place (.inr (.inl (d, r)))).val) c : sProp 𝕄))
      ⊢ bigSep (Finset.Ico 0 28) fun r => Crd (F := F) c (.rcv d) r := fun d => by
    rw [← ico_fin 28 fun r => Crd (F := F) c (.rcv d) r]; exact bigSep_mono fun r _ => sure_tx c d r
  have hcr : ∀ d : Fin 2, (bigSep Finset.univ fun k : Fin 27 => (Pipeline.launchCred (fun c => dueAt c (place (.inr (.inr (.inl (d, k))))).val) c : sProp 𝕄))
      ⊢ CrW (F := F) c d 1 := fun d => by
    unfold CrW
    rw [ico_shift 1 27, ← ico_fin 27 fun k => Crd (F := F) c (crC d (k + 1)) (crR (k + 1))]; exact bigSep_mono fun k _ => sure_cr c d k
  have hax : (bigSep Finset.univ fun k : Fin 7 => (Pipeline.launchCred (fun c => dueAt c (place (.inr (.inr (.inr k)))).val) c : sProp 𝕄))
      ⊢ bigSep (Finset.Ico 1 8) fun k => Crd (F := F) c (.axr (fwd k c)) 0 := by
    refine (bigSep_mono fun k _ => sure_ax c k).trans ?_
    rw [ico7, bigSep_univ_eq_bigSepL [6, 5, 4, 3, 2, 1, 0] (by decide) (by decide)]
    show iprop(Crd (F := F) c (.axr (fwd 1 c)) 0 ∗ Crd (F := F) c (.axr (fwd 2 c)) 0 ∗ Crd (F := F) c (.axr (fwd 3 c)) 0 ∗ Crd (F := F) c (.axr (fwd 4 c)) 0
      ∗ Crd (F := F) c (.axr (fwd 5 c)) 0 ∗ Crd (F := F) c (.axr (fwd 6 c)) 0 ∗ Crd (F := F) c (.axr (fwd 7 c)) 0) ⊢ _
    iintro ⟨H1, H2, H3, H4, H5, H6, H7⟩
    iframe H1 H2 H3 H4 H5 H6 H7
  have hb : (bigSep Finset.univ fun d : Fin 2 => (Pipeline.launchCred (fun c => dueAt c (place (.inl d)).val) c : sProp 𝕄))
      ⊢ cred (tallyAt (cell c .bar) 0 2) := by
    refine (bigSep_mono fun d _ => sure_bar c d).trans ?_
    rw [bigSep_univ_eq_bigSepL [0, 1] (by decide) (by decide)]
    have h2 : (tallyAt (cell c .bar) 0 2 : CellTallies nD τ sig ℕ) = tallyAt (cell c .bar) 0 1 + tallyAt (cell c .bar) 0 1 := (tallyAt_add _ _ 1 1).symm
    rw [h2]
    exact (cred_add _ _).2
  have h0 : (Pipeline.launchCred (fun c => owed c 0) c : sProp 𝕄) = bigSep (Finset.Ico 0 119) fun i => Pipeline.launchCred (fun c => dueAt c i) c := launch_sum dueAt c 119
  rw [h0, ← ico_fin 119 fun i => (Pipeline.launchCred (fun c => dueAt c i) c : sProp 𝕄), bigSep_univ_equiv placeE, pay_all]
  simp only [placeE, Equiv.ofBijective_apply]
  unfold sure
  iintro ⟨HB, ⟨T0, T1⟩, ⟨C0, C1⟩, HX⟩
  ihave HB := hb $$ HB
  ihave T0 := (htx 0) $$ T0
  ihave T1 := (htx 1) $$ T1
  ihave C0 := (hcr 0) $$ C0
  ihave C1 := (hcr 1) $$ C1
  ihave HX := hax $$ HX
  iframe HB T0 T1 C0 C1 HX

end Creds

end Cert.Proof.KI
-- ==== Proof.Mem.lean ====
/- The buffers as the parts that the kernel moves. -/
module

public import proofs.«01_k».proof.Proof.Deal

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts

variable (c : Dev nD) {T : Type} [Fintype T] [DecidableEq T] (b : Ref sig .tc) (r : T → Rect b.ty.shape) (hr : ∀ t a, (r t).stride a = 1)
  (g : b.ty.shape.Idx → T) (hg : ∀ t j, g ((r t).emb j) = t) (hc : ∀ i, i ∈ (r (g i)).set)

include hg in
theorem parts_disj (t t' : T) (h : t ≠ t') : Disjoint (r t).set (r t').set := by
  rw [Finset.disjoint_left]
  intro i h1 h2
  obtain ⟨j1, rfl⟩ := (r t).exists_idx_of_mem h1
  obtain ⟨j2, h2⟩ := (r t').exists_idx_of_mem h2
  have e1 := hg t j1
  have e2 := hg t' j2
  rw [show (r t').emb j2 = (r t).emb j1 from h2] at e2
  exact h (e1.symm.trans e2)

include hc in
theorem parts_cover : (Finset.univ : Finset T).biUnion (fun t => (r t).set) = Finset.univ := by
  ext i
  simp only [Finset.mem_biUnion, Finset.mem_univ, true_and, iff_true]
  exact ⟨g i, hc i⟩

/-- The values of the parts, put together. -/
def glue {α : Type} (Y : (t : T) → (r t).shape.Idx → α) (i : b.ty.shape.Idx) : α :=
  Y (g i) (Classical.choose ((r (g i)).exists_idx_of_mem (hc i)))

include hg in
theorem glue_emb {α : Type} (Y : (t : T) → (r t).shape.Idx → α) (t : T) : (fun j => glue b r g hc Y ((r t).emb j)) = Y t := by
  funext j
  have key : ∀ t' (h : t' = t) (k : (r t').shape.Idx), (r t').emb k = (r t).emb j → Y t' k = Y t j := by
    intro t' h k hk; subst h; rw [(r t').emb.injective hk]
  exact key _ (hg t j) _ (Classical.choose_spec ((r (g ((r t).emb j))).exists_idx_of_mem (hc ((r t).emb j))))

include hg hc in
theorem parts_split : (iprop(∃ f : Buf (Elt F) ((c : Thread nD τ).loc b), (c : Thread nD τ).loc b ↦{fullShare} f) : sProp 𝕄)
    ⊢ bigSep Finset.univ fun t => some (F := F) c ((Memref.whole b).slice (r t) (hr t)) := by
  iintro ⟨%f, H⟩
  ihave H := (Entails.of_eq (owns_whole (c : Thread nD τ) b fullShare f).symm) $$ H
  ihave H := (owns_rects (c : Thread nD τ) (Memref.whole b) fullShare r hr (parts_disj b r g hg) (parts_cover b r g hc) f) $$ H
  have h : (bigSep Finset.univ fun t => (owns (c : Thread nD τ) ((Memref.whole b).slice (r t) (hr t)) fullShare (fun j => f ((r t).emb j)) : sProp 𝕄))
      ⊢ bigSep Finset.univ fun t => some (F := F) c ((Memref.whole b).slice (r t) (hr t)) := bigSep_mono fun t _ => owns_some c _ _
  iapply h; iexact H

include hg hc in
theorem parts_join_at (Y : b.ty.Contents (Elt F)) : (bigSep Finset.univ fun t => owns (c : Thread nD τ) ((Memref.whole b).slice (r t) (hr t)) fullShare (fun j => Y ((r t).emb j)))
    ⊢ ((c : Thread nD τ).loc b ↦{fullShare} Y : sProp 𝕄) := by
  exact (owns_of_rects (c : Thread nD τ) (Memref.whole b) fullShare r hr (parts_disj b r g hg) (parts_cover b r g hc) Y).trans (Entails.of_eq (owns_whole (c : Thread nD τ) b fullShare Y))

include hg hc in
theorem parts_join : (bigSep Finset.univ fun t => some (F := F) c ((Memref.whole b).slice (r t) (hr t)))
    ⊢ (iprop(∃ f : Buf (Elt F) ((c : Thread nD τ).loc b), (c : Thread nD τ).loc b ↦{fullShare} f) : sProp 𝕄) := by
  unfold some
  haveI : ∀ t, Nonempty ((r t).shape.Idx → Elt F b.ty.elt) := fun t => ⟨fun _ => Classical.choice inferInstance⟩
  iintro H
  ihave H := (BI.bigSep_exists_pi Finset.univ fun (t : T) (X : (r t).shape.Idx → Elt F b.ty.elt) => (owns (c : Thread nD τ) ((Memref.whole b).slice (r t) (hr t)) fullShare X : sProp 𝕄)) $$ H
  icases H with ⟨%Y, H⟩
  iexists (glue b r g hc Y)
  iapply (parts_join_at c b r hr g hg hc (glue b r g hc Y))
  iapply (Entails.of_eq (bigSep_congr fun t _ => by rw [glue_emb b r g hg hc Y t])); iexact H

end Parts

/-! ## The kernel's buffers -/

section Bufs

variable (c : Dev nD)

abbrev rC (j : Fin 4) : Rect S4x512x2048 := Rect.unit (s := S4x512x2048) ![j.val, 0, 0] S1x512x2048.size (inb4 j)
abbrev rA (j : Fin 8) : Rect S8x8x128 := Rect.unit (s := S8x8x128) ![j.val, 0, 0] S1x8x128.size (inb8 j)
abbrev rD (d : Fin 2) : Rect S512x4096 := Rect.unit (s := S512x4096) ![0, 2048 * d.val] S512x2048.size (inbD d)
abbrev rO (t : Fin 8 × Fin 4) : Rect S4096x8192 := Rect.unit (s := S4096x8192) ![512 * t.1.val, 2048 * t.2.val] S512x2048.size (inbO t.1 t.2)

abbrev gC (i : S4x512x2048.Idx) : Fin 4 := i 0
abbrev gA (i : S8x8x128.Idx) : Fin 8 := i 0
abbrev gD (i : S512x4096.Idx) : Fin 2 := ⟨(i 1).val / 2048, by have : (i 1).val < 4096 := (i 1).isLt; omega⟩
abbrev gO (i : S4096x8192.Idx) : Fin 8 × Fin 4 :=
  (⟨(i 0).val / 512, by have : (i 0).val < 4096 := (i 0).isLt; omega⟩, ⟨(i 1).val / 2048, by have : (i 1).val < 8192 := (i 1).isLt; omega⟩)

theorem gC_emb (t : Fin 4) (j : (rC t).shape.Idx) : gC ((rC t).emb j) = t :=
  Fin.ext (show t.val + 1 * (j 0).val = t.val by have : (j 0).val < 1 := (j 0).isLt; omega)
theorem gA_emb (t : Fin 8) (j : (rA t).shape.Idx) : gA ((rA t).emb j) = t :=
  Fin.ext (show t.val + 1 * (j 0).val = t.val by have : (j 0).val < 1 := (j 0).isLt; omega)
theorem gD_emb (t : Fin 2) (j : (rD t).shape.Idx) : gD ((rD t).emb j) = t :=
  Fin.ext (show (2048 * t.val + 1 * (j 1).val) / 2048 = t.val by have : (j 1).val < 2048 := (j 1).isLt; omega)
theorem gO_emb (t : Fin 8 × Fin 4) (j : (rO t).shape.Idx) : gO ((rO t).emb j) = t :=
  Prod.ext (Fin.ext (show (512 * t.1.val + 1 * (j 0).val) / 512 = t.1.val by have : (j 0).val < 512 := (j 0).isLt; omega))
    (Fin.ext (show (2048 * t.2.val + 1 * (j 1).val) / 2048 = t.2.val by have : (j 1).val < 2048 := (j 1).isLt; omega))

theorem gC_mem (i : S4x512x2048.Idx) : i ∈ (rC (gC i)).set := (rC (gC i)).mem_set.mpr fun a => by
  fin_cases a
  · exact ⟨0, Nat.one_pos, show (i 0).val = (i 0).val + 1 * 0 by omega⟩
  · exact ⟨(i 1).val, (i 1).isLt, show (i 1).val = 0 + 1 * (i 1).val by omega⟩
  · exact ⟨(i 2).val, (i 2).isLt, show (i 2).val = 0 + 1 * (i 2).val by omega⟩
theorem gA_mem (i : S8x8x128.Idx) : i ∈ (rA (gA i)).set := (rA (gA i)).mem_set.mpr fun a => by
  fin_cases a
  · exact ⟨0, Nat.one_pos, show (i 0).val = (i 0).val + 1 * 0 by omega⟩
  · exact ⟨(i 1).val, (i 1).isLt, show (i 1).val = 0 + 1 * (i 1).val by omega⟩
  · exact ⟨(i 2).val, (i 2).isLt, show (i 2).val = 0 + 1 * (i 2).val by omega⟩
theorem gD_mem (i : S512x4096.Idx) : i ∈ (rD (gD i)).set := (rD (gD i)).mem_set.mpr fun a => by
  fin_cases a
  · exact ⟨(i 0).val, (i 0).isLt, show (i 0).val = 0 + 1 * (i 0).val by omega⟩
  · exact ⟨(i 1).val % 2048, Nat.mod_lt _ (by decide), show (i 1).val = 2048 * ((i 1).val / 2048) + 1 * ((i 1).val % 2048) by omega⟩
theorem gO_mem (i : S4096x8192.Idx) : i ∈ (rO (gO i)).set := (rO (gO i)).mem_set.mpr fun a => by
  fin_cases a
  · exact ⟨(i 0).val % 512, Nat.mod_lt _ (by decide), show (i 0).val = 512 * ((i 0).val / 512) + 1 * ((i 0).val % 512) by omega⟩
  · exact ⟨(i 1).val % 2048, Nat.mod_lt _ (by decide), show (i 1).val = 2048 * ((i 1).val / 2048) + 1 * ((i 1).val % 2048) by omega⟩

/-- A buffer with some contents. -/
abbrev anyB (b : Ref sig .tc) : sProp 𝕄 := iprop(∃ f : Buf (Elt F) ((c : Thread nD τ).loc b), (c : Thread nD τ).loc b ↦{fullShare} f)

theorem cS_all : (bigSep Finset.univ fun j : Fin 4 => some (F := F) c (cS j)) = anyB (F := F) c cc0_scratch0 := by
  rw [bigSep_congr fun j _ => some_squeeze c _ _]
  exact BI.equiv_iff.mp ⟨parts_join c cc0_scratch0 rC (fun _ _ => rfl) gC gC_emb gC_mem, parts_split c cc0_scratch0 rC (fun _ _ => rfl) gC gC_emb gC_mem⟩
theorem qS_all : (bigSep Finset.univ fun j : Fin 4 => some (F := F) c (qS j)) = anyB (F := F) c cc0_scratch1 := by
  rw [bigSep_congr fun j _ => some_squeeze c _ _]
  exact BI.equiv_iff.mp ⟨parts_join c cc0_scratch1 rC (fun _ _ => rfl) gC gC_emb gC_mem, parts_split c cc0_scratch1 rC (fun _ _ => rfl) gC gC_emb gC_mem⟩
theorem aS_all : (bigSep Finset.univ fun j : Fin 8 => some (F := F) c (aS j)) = anyB (F := F) c cc0_scratch3 := by
  rw [bigSep_congr fun j _ => some_squeeze c _ _]
  exact BI.equiv_iff.mp ⟨parts_join c cc0_scratch3 rA (fun _ _ => rfl) gA gA_emb gA_mem, parts_split c cc0_scratch3 rA (fun _ _ => rfl) gA gA_emb gA_mem⟩
theorem dH_all : (bigSep Finset.univ fun j : Fin 2 => some (F := F) c (dH j)) = anyB (F := F) c cc0_scratch2 :=
  BI.equiv_iff.mp ⟨parts_join c cc0_scratch2 rD (fun _ _ => rfl) gD gD_emb gD_mem, parts_split c cc0_scratch2 rD (fun _ _ => rfl) gD gD_emb gD_mem⟩
theorem oB_all : anyB (F := F) c main_v1 ⊢ (bigSep Finset.univ fun t : Fin 8 × Fin 4 => some (F := F) c (oB t.1 t.2)) :=
  parts_split c main_v1 rO (fun _ _ => rfl) gO gO_emb gO_mem

theorem four (Φ : Fin 4 → sProp 𝕄) : bigSep Finset.univ Φ = iprop(Φ (sl 0 0) ∗ Φ (sl 0 1) ∗ Φ (sl 1 0) ∗ Φ (sl 1 1)) :=
  bigSep_univ_eq_bigSepL [sl 0 0, sl 0 1, sl 1 0, sl 1 1] (by decide) (by decide) Φ
theorem two (Φ : Fin 2 → sProp 𝕄) : bigSep Finset.univ Φ = iprop(Φ 0 ∗ Φ 1) := bigSep_univ_eq_bigSepL [0, 1] (by decide) (by decide) Φ

/-! ### The result -/

/-- The chunks, in the order in which direction `d` brings them. -/
def chunkE (d : Fin 2) : Fin 8 ≃ Fin 8 := Equiv.ofBijective (fun u => chunk d u.val c) (by
  have h : ∀ (c : Dev nD) (d : Fin 2), Function.Injective fun u : Fin 8 => (chunk d u.val c : Fin 8) := by unfold Function.Injective; decide
  exact (Fintype.bijective_iff_injective_and_card _).mpr ⟨h c d, rfl⟩)
/-- The quarters of the columns. -/
def quarterE : Fin 2 × Fin 2 ≃ Fin 4 := ⟨fun x => qd x.1 x.2, fun b => (⟨b.val / 2, by omega⟩, ⟨b.val % 2, by omega⟩), by decide, by decide⟩

/-- All blocks of the result. -/
theorem blocks_all (Φ : Fin 8 → Fin 4 → sProp 𝕄) : (bigSep Finset.univ fun t : Fin 8 × Fin 4 => Φ t.1 t.2)
    = iprop((bigSep (Finset.Ico 0 8) fun u => Φ (chunk 0 u c) (qd 0 0)) ∗ (bigSep (Finset.Ico 0 8) fun u => Φ (chunk 1 u c) (qd 0 1))
      ∗ (bigSep (Finset.Ico 0 8) fun u => Φ (chunk 0 u c) (qd 1 0)) ∗ bigSep (Finset.Ico 0 8) fun u => Φ (chunk 1 u c) (qd 1 1)) := by
  have h : ∀ (d : Fin 2) (b : Fin 4), (bigSep Finset.univ fun k : Fin 8 => Φ k b) = bigSep (Finset.Ico 0 8) fun u => Φ (chunk d u c) b := fun d b => by
    rw [← ico_fin 8 fun u => Φ (chunk d u c) b, bigSep_univ_equiv (chunkE c d)]; rfl
  rw [bigSep_univ_prod, bigSep_univ_comm, bigSep_univ_eq_bigSepL [qd 0 0, qd 0 1, qd 1 0, qd 1 1] (by decide) (by decide)]
  rw [← h 0, ← h 1, ← h 0, ← h 1]
  rfl

variable (X : Dev nD → Vec F S4096x512 .f32) (W : Dev nD → Vec F S512x8192 .f32)

/-- The result of the kernel, the same on every device. -/
def outV : Vec F S4096x8192 .f32 := fun i =>
  ob X W ⟨(i 1).val / 4096, by have : (i 1).val < 8192 := (i 1).isLt; omega⟩ ⟨(i 1).val / 2048 % 2, Nat.mod_lt _ (by decide)⟩
    ⟨(i 0).val / 512, by have : (i 0).val < 4096 := (i 0).isLt; show _ < 8; omega⟩
    (fun a => match a with | ⟨0, _⟩ => ⟨(i 0).val % 512, Nat.mod_lt _ (by decide)⟩ | ⟨1, _⟩ => ⟨(i 1).val % 2048, Nat.mod_lt _ (by decide)⟩)

theorem outV_emb (h d : Fin 2) (k : Fin 8) : (fun j => outV X W ((rO (k, qd h d)).emb j)) = ob X W h d k := by
  funext j
  have h0 : (j 0).val < 512 := (j 0).isLt
  have h1 : (j 1).val < 2048 := (j 1).isLt
  have hh := h.isLt
  have hd := d.isLt
  have key : ∀ (h' d' : Fin 2) (k' : Dev nD) (j' : S512x2048.Idx), h' = h → d' = d → k' = k → j' = j → ob X W h' d' k' j' = ob X W h d k j := by
    rintro _ _ _ _ rfl rfl rfl rfl; rfl
  refine key _ _ _ _ (Fin.ext ?_) (Fin.ext ?_) (Fin.ext ?_) (funext fun a => ?_)
  · show (2048 * (2 * h.val + d.val) + 1 * (j 1).val) / 4096 = h.val; omega
  · show (2048 * (2 * h.val + d.val) + 1 * (j 1).val) / 2048 % 2 = d.val; omega
  · show (512 * k.val + 1 * (j 0).val) / 512 = k.val; omega
  · fin_cases a
    · exact Fin.ext (show (512 * k.val + 1 * (j 0).val) % 512 = (j 0).val by omega)
    · exact Fin.ext (show (2048 * (2 * h.val + d.val) + 1 * (j 1).val) % 2048 = (j 1).val by omega)

theorem td_all : anyB (F := F) c main_v1 ⊢ iprop(TD (F := F) c 0 0 0 ∗ TD (F := F) c 1 0 0 ∗ TD (F := F) c 0 1 0 ∗ TD (F := F) c 1 1 0) := by
  refine (oB_all c).trans ?_
  rw [blocks_all c fun k b => some (F := F) c (oB k b)]
  exact BI.Entails.refl _

theorem dn_all : iprop(DN X W c 0 0 8 ∗ DN X W c 1 0 8 ∗ DN X W c 0 1 8 ∗ DN X W c 1 1 8) ⊢ ((c : Thread nD τ).loc main_v1 ↦{fullShare} outV X W : sProp 𝕄) := by
  refine BI.Entails.trans ?_ (parts_join_at c main_v1 rO (fun _ _ => rfl) gO gO_emb gO_mem (outV X W))
  refine BI.Entails.trans ?_ (Entails.of_eq (blocks_all c fun k b => (owns (c : Thread nD τ) (oB k b) fullShare (fun j => outV X W ((rO (k, b)).emb j)) : sProp 𝕄)).symm)
  have h : ∀ h d : Fin 2, DN X W c d h 8 = bigSep (Finset.Ico 0 8) fun u =>
      (owns (c : Thread nD τ) (oB (chunk d u c) (qd h d)) fullShare (fun j => outV X W ((rO (chunk d u c, qd h d)).emb j)) : sProp 𝕄) := fun h d => by
    unfold DN; exact bigSep_congr fun u _ => congrArg (owns (c : Thread nD τ) (oB (chunk d u c) (qd h d)) fullShare) (outV_emb X W h d (chunk d u c)).symm
  rw [h, h, h, h]
  exact BI.Entails.refl _

end Bufs

end Cert.Proof.KI
-- ==== Proof.Ends.lean ====
/- From the launch to the start of the body, and from its end to the exit. -/
module

public import proofs.«01_k».proof.Proof.Mem

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Ends

variable (X : Dev nD → Vec F S4096x512 .f32) (W : Dev nD → Vec F S512x8192 .f32) (K : Dev nD × CK → ℕ) (c : Dev nD)

/-- The cells of a device, in groups. -/
theorem ck_groups (Φ : CK → sProp 𝕄) : bigSep Finset.univ Φ = iprop(Φ .bar ∗ Φ (.snd 0) ∗ Φ (.snd 1) ∗ Φ (.rcv 0) ∗ Φ (.rcv 1)
    ∗ (bigSep (Finset.Ico 1 8) fun k => Φ (.axs (ak k))) ∗ (Φ (.axr c) ∗ bigSep (Finset.Ico 1 8) fun k => Φ (.axr (fwd k c)))
    ∗ Φ (.sto 0) ∗ Φ (.sto 1) ∗ Φ (.lod 0) ∗ Φ (.lod 1) ∗ Φ (.rsc 0) ∗ Φ (.rsc 1) ∗ Φ (.agc 0) ∗ Φ (.agc 1)) := by
  have h7 : (bigSep (Finset.Ico 1 8) fun k => Φ (.axs (ak k))) = iprop(Φ (.axs 0) ∗ Φ (.axs 1) ∗ Φ (.axs 2) ∗ Φ (.axs 3) ∗ Φ (.axs 4) ∗ Φ (.axs 5) ∗ Φ (.axs 6) ∗ emp) := by
    rw [ico7]; rfl
  have h8 := univ_fwd c fun j => Φ (.axr j)
  rw [univ8] at h8
  rw [h7, ← h8, ck_all]
  refine BI.equiv_iff.mp ⟨?_, ?_⟩
  · show (_ : sProp 𝕄) ⊢ _
    iintro ⟨B, S0, S1, R0, R1, A0, A1, A2, A3, A4, A5, A6, Y0, Y1, Y2, Y3, Y4, Y5, Y6, Y7, T0, T1, L0, L1, C0, C1, D0, D1⟩
    iframe B S0 S1 R0 R1 A0 A1 A2 A3 A4 A5 A6 Y0 Y1 Y2 Y3 Y4 Y5 Y6 Y7 T0 T1 L0 L1 C0 C1 D0 D1
  · show (_ : sProp 𝕄) ⊢ _
    iintro ⟨B, S0, S1, R0, R1, ⟨A0, A1, A2, A3, A4, A5, A6, -⟩, ⟨Y0, Y1, Y2, Y3, Y4, Y5, Y6, Y7, -⟩, T0, T1, L0, L1, C0, C1, D0, D1⟩
    iframe B S0 S1 R0 R1 A0 A1 A2 A3 A4 A5 A6 Y0 Y1 Y2 Y3 Y4 Y5 Y6 Y7 T0 T1 L0 L1 C0 C1 D0 D1

theorem axt_of : iprop((Tok (F := F) c (.axs 0) 0 0 ∗ Tok (F := F) c (.axs 1) 0 0 ∗ Tok (F := F) c (.axs 2) 0 0 ∗ Tok (F := F) c (.axs 3) 0 0 ∗ Tok (F := F) c (.axs 4) 0 0
      ∗ Tok (F := F) c (.axs 5) 0 0 ∗ Tok (F := F) c (.axs 6) 0 0) ∗ (bigSep (Finset.Ico 1 8) fun k => At (F := F) c (.axs (ak k)) 0)
      ∗ bigSep (Finset.Ico 1 8) fun k => Tok (F := F) (fwd k c) (.axr c) 0 0) ⊢ AxT (F := F) c := by
  have h7 : (bigSep (Finset.Ico 1 8) fun k => Tok (F := F) c (.axs (ak k)) 0 0) = iprop(Tok (F := F) c (.axs 0) 0 0 ∗ Tok (F := F) c (.axs 1) 0 0 ∗ Tok (F := F) c (.axs 2) 0 0
      ∗ Tok (F := F) c (.axs 3) 0 0 ∗ Tok (F := F) c (.axs 4) 0 0 ∗ Tok (F := F) c (.axs 5) 0 0 ∗ Tok (F := F) c (.axs 6) 0 0 ∗ emp) := by
    rw [ico7]; rfl
  unfold AxT
  rw [bigSep_sep' _ _ _, bigSep_sep' _ _ _, h7]
  iintro ⟨⟨A0, A1, A2, A3, A4, A5, A6⟩, H1, H2⟩
  iframe A0 A1 A2 A3 A4 A5 A6 H1 H2

theorem dir_of (d : Fin 2) : iprop(TR (F := F) c (.snd d) 28 ∗ RcvT (F := F) (nx d c) d ∗ (bigSep (Finset.Ico 0 28) fun r => Crd (F := F) c (.rcv d) r)
      ∗ (TR (F := F) (pv d c) (.rsc d) 13 ∗ TR (F := F) (pv d c) (.agc d) 14) ∗ CrW (F := F) c d 1
      ∗ At (F := F) c (.rsc d) 0 ∗ At (F := F) c (.agc d) 0 ∗ At (F := F) c (.snd d) 0 ∗ At (F := F) c (.rcv d) 0) ⊢ Dir0 (F := F) c d := by
  have h := cr_join d fun ck r => Tok (F := F) (pv d c) ck r 0
  unfold Dir0 Rnds CrS CPos Rnd TR RcvT TR
  rw [bigSep_sep' _ _ _, bigSep_sep' _ _ _, show min 0 13 = 0 from rfl, show 0 - 13 = 0 from rfl]
  iintro ⟨H1, H2, H3, H4, H5, H6, H7, H8, H9⟩
  ihave H4 := (Entails.of_eq h) $$ H4
  iframe H1 H2 H3 H4 H5 H6 H7 H8 H9

theorem bn_of : (bigSep (Finset.Ico 1 8) fun k => some (F := F) c (aS (fwd k c))) ⊢ Bn (F := F) c 0 0 := by
  unfold Bn
  rw [if_pos (by decide)]
  exact BI.Entails.refl _

theorem rw_of : iprop((bigSep (Finset.Ico 1 8) fun k => Crd (F := F) c (.axr (fwd k c)) 0) ∗ bigSep (Finset.Ico 1 8) fun k => At (F := F) c (.axr (fwd k c)) 0) ⊢ RW' X W c 1 := by
  unfold RW' RowW
  rw [bigSep_sep' _ _ _, ico_nil]
  iintro ⟨H1, H2⟩
  iframe H1 H2

/-- What a device holds when its body starts, before it is sorted. -/
def Raw : sProp 𝕄 := iprop(mine (F := F) c ∗ (bigSep Finset.univ fun ck => At (F := F) c ck 0) ∗ sure (F := F) c)

/-- The buffers, with some contents. -/
def Bufs : sProp 𝕄 := iprop(anyB (F := F) c cc0_scratch0 ∗ anyB (F := F) c cc0_scratch1 ∗ anyB (F := F) c cc0_scratch2 ∗ anyB (F := F) c cc0_scratch3)

theorem start_of : iprop(recs X W K ∗ Own (F := F) c 0 ∗ Raw (F := F) c ∗ anyB (F := F) c main_v1 ∗ Bufs (F := F) c ∗ Data X W c)
    ⊢ iprop(Start X W K c ∗ At (F := F) c (.axr c) 0) := by
  unfold Raw Bufs mine OwnT CrT sure
  rw [ck_groups c, ← cS_all c, ← qS_all c, ← aS_all c, ← dH_all c, four, four, two, univ_fwd c, univ_fwd c fun j => some (F := F) c (aS j)]
  iintro ⟨#R, HO, ⟨⟨⟨S0, S1, T0, T1, L0, L1, A0, A1, A2, A3, A4, A5, A6⟩, V0, V1, ⟨B0, C0, D0⟩, ⟨B1, C1, D1⟩, -, AX⟩,
    ⟨PB, PS0, PS1, PR0, PR1, PA, ⟨PY, PYs⟩, PT0, PT1, PL0, PL1, PC0, PC1, PD0, PD1⟩, CB, CR0, CR1, CW0, CW1, CX⟩, M,
    ⟨⟨K0, K1, K2, K3⟩, ⟨Q0, Q1, Q2, Q3⟩, ⟨E0, E1⟩, ⟨G, Gs⟩⟩, HD⟩
  ihave M := (td_all c) $$ M
  icases M with ⟨M0, M1, M2, M3⟩
  ihave AXT := (axt_of c) $$ [A0 A1 A2 A3 A4 A5 A6 PA AX]
  · iframe A0 A1 A2 A3 A4 A5 A6 PA AX
  ihave D0 := (dir_of c 0) $$ [S0 V0 CR0 C0 D0 CW0 PC0 PD0 PS0 PR0]
  · iframe S0 V0 CR0 C0 D0 CW0 PC0 PD0 PS0 PR0
  ihave D1 := (dir_of c 1) $$ [S1 V1 CR1 C1 D1 CW1 PC1 PD1 PS1 PR1]
  · iframe S1 V1 CR1 C1 D1 CW1 PC1 PD1 PS1 PR1
  ihave BN := (bn_of c) $$ Gs
  ihave RW := (rw_of X W c) $$ [CX PYs]
  · iframe CX PYs
  unfold Start Idle LIdle
  unfold TR
  iframe R HO PB CB B0 B1 K0 K1 K2 K3 D0 D1 HD Q0 Q1 Q2 Q3 E0 E1 BN G M0 M1 M2 M3 PT0 T0 PT1 T1 PL0 L0 PL1 L1 AXT RW PY

/-- A device that stands behind the last round of each of its cells takes them back. -/
theorem close_all : iprop(recs X W K ∗ bigSep Finset.univ fun ck => At (F := F) c ck (rounds c ck))
    ⊢ (|={Set.univ}=> bigSep Finset.univ fun ck => semVal (cell c ck) 0 : sProp 𝕄) := by
  have h1 : ∀ ck, iprop(recs X W K ∗ At (F := F) c ck (rounds c ck)) ⊢ (|={Set.univ}=> semVal (cell c ck) 0 : sProp 𝕄) := fun ck => by
    unfold At
    iintro ⟨#R, HA, -⟩
    ihave HI := (recs_inv X W K c ck) $$ R
    imod (Rounds.cell_close ER (ring X W) (κ := K (c, ck)) (Set.mem_univ _) (fun h => h) (R := rounds c ck) (fun r hr => ring_later X W c ck r hr)) $$ [HI HA] with Hz
    · isplitl [HI]; · iexact HI
      iexact HA
    imodintro; iexact Hz
  have h2 : iprop(recs X W K ∗ bigSep Finset.univ fun ck => At (F := F) c ck (rounds c ck))
      ⊢ bigSep Finset.univ fun ck => iprop(|={Set.univ}=> semVal (cell c ck) 0) := by
    refine (sep_mono_left (BI.bigSep_of_persistent (Finset.univ : Finset CK) (recs X W K))).trans ?_
    rw [← bigSep_sep']
    exact bigSep_mono fun ck _ => h1 ck
  exact h2.trans (bigSep_fupd _ _)

theorem at_end : iprop(At (F := F) c .bar 1 ∗ Af (F := F) c 0 27 ∗ Af (F := F) c 1 27 ∗ AxD (F := F) c ∗ Idle (F := F) c 0 18 ∗ Idle (F := F) c 1 18 ∗ LIdle (F := F) c 0 2
      ∗ LIdle (F := F) c 1 2 ∗ At (F := F) c (.axr c) 0) ⊢ bigSep Finset.univ fun ck => At (F := F) c ck (rounds c ck) := by
  rw [ck_groups c]
  have h1 : (bigSep (Finset.Ico 1 8) fun k => At (F := F) c (.axr (fwd k c)) (rounds c (.axr (fwd k c)))) = bigSep (Finset.Ico 1 8) fun k => At (F := F) c (.axr (fwd k c)) 1 :=
    bigSep_congr fun k hk => by
      rw [show rounds c (.axr (fwd k c)) = 1 from if_neg (fwd_ne k (Finset.mem_Ico.mp hk).1 (Finset.mem_Ico.mp hk).2 c)]
  rw [h1, show rounds c (.axr c) = 0 from if_pos rfl]
  have e1 : rounds c .bar = 1 := rfl
  have e2 : ∀ d, rounds c (.snd d) = 28 := fun _ => rfl
  have e3 : ∀ d, rounds c (.rcv d) = 28 := fun _ => rfl
  have e4 : ∀ k, rounds c (.axs k) = 1 := fun _ => rfl
  have e5 : ∀ d, rounds c (.sto d) = 18 := fun _ => rfl
  have e6 : ∀ d, rounds c (.lod d) = 2 := fun _ => rfl
  have e7 : ∀ d, rounds c (.rsc d) = 13 := fun _ => rfl
  have e8 : ∀ d, rounds c (.agc d) = 14 := fun _ => rfl
  unfold Af AxD Idle LIdle CPos
  rw [e1, e2, e2, e3, e3, e5, e5, e6, e6, e7, e7, e8, e8, show 27 + 1 = 28 from rfl, show min 27 13 = 13 from rfl, show 27 - 13 = 14 from rfl]
  simp only [e4]
  iintro ⟨HB, ⟨-, -, -, ⟨C0, G0⟩, S0, R0, -⟩, ⟨-, -, -, ⟨C1, G1⟩, S1, R1, -⟩, ⟨XR, XS⟩, ⟨T0, -⟩, ⟨T1, -⟩, ⟨L0, -⟩, ⟨L1, -⟩, Y⟩
  iframe HB C0 G0 S0 R0 C1 G1 S1 R1 XR XS T0 T1 L0 L1 Y

/-- The end of the body, with the cells taken back. -/
theorem end_of : iprop(End X W K c ∗ At (F := F) c (.axr c) 0)
    ⊢ (|={Set.univ}=> iprop((bigSep Finset.univ fun ck => semVal (cell c ck) 0) ∗ Own (F := F) c 119 ∗ ((c : Thread nD τ).loc main_v1 ↦{fullShare} outV X W)
      ∗ Bufs (F := F) c ∗ Data X W c) : sProp 𝕄) := by
  have hrows : Rows X W c ⊢ bigSep Finset.univ fun j : Fin 8 => some (F := F) c (aS j) := bigSep_mono fun j _ => owns_some c _ _
  unfold End Bufs
  rw [← cS_all c, ← qS_all c, ← aS_all c, ← dH_all c, four, four, two]
  iintro ⟨⟨#R, HO, HB, D0, D1, AXD, I0, I1, L0, L1, HD, C00, C01, C10, C11, Q00, Q01, Q10, Q11, E0, E1, ROWS, T00, T10, T01, T11⟩, Y⟩
  ihave HA := (at_end c) $$ [HB D0 D1 AXD I0 I1 L0 L1 Y]
  · iframe HB D0 D1 AXD I0 I1 L0 L1 Y
  imod (close_all X W K c) $$ [HA] with Hz
  · iframe R HA
  ihave HM := (dn_all c X W) $$ [T00 T10 T01 T11]
  · iframe T00 T10 T01 T11
  ihave ROWS := hrows $$ ROWS
  imodintro
  iframe Hz HO HM C00 C01 C10 C11 Q00 Q01 Q10 Q11 E0 E1 ROWS HD

end Ends

end Cert.Proof.KI
-- ==== Proof.Run.lean ====
/- The launch: every device runs the body, and every run ends with the result and with all counters at zero. -/
module

public import proofs.«01_k».proof.Proof.Ends
public import Idealize.ShloMosaic.Lib.Pipeline.Launch
public import Idealize.ShloMosaic.Lib.Pipeline.Kit
public import Idealize.ShloMosaic.Lib.Pipeline.CollectiveSegs

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

theorem cfg0_N : cfg0.N = 1 := by decide
/-- The one point of the grid. -/
def t₀ : Fin cfg0.N := ⟨0, by rw [cfg0_N]; decide⟩
theorem fin_N (t : Fin cfg0.N) : t = t₀ := by obtain ⟨t, ht⟩ := t; have := cfg0_N; apply Fin.ext; show t = 0; omega

section Run

variable (m : (ℓ : Loc nD τ sig) → Buf (Elt F) ℓ) (ρ : Dev nD → PrngReg)

/-- The memory a run starts from. -/
abbrev s₀ : MemSt nD τ sig (Elt F) := ⟨m, fun _ => 0, ρ⟩
/-- A device's columns of the first argument. -/
def argX (c : Dev nD) : Vec F S4096x512 .f32 := (win0_0.blk (0 : Fin 1)).view.read (Elt F) ((s₀ m ρ).mem ((c : Thread nD τ).loc main_arg0))
/-- A device's rows of the second argument. -/
def argW (c : Dev nD) : Vec F S512x8192 .f32 := (win0_1.blk (0 : Fin 1)).view.read (Elt F) ((s₀ m ρ).mem ((c : Thread nD τ).loc main_arg1))

/-- What a device has before the body, besides its buffers. -/
def Rest (c : Dev nD) : sProp 𝕄 :=
  iprop((∃ K, recs (argX m ρ) (argW m ρ) K) ∗ Raw (F := F) c ∗ anyB (F := F) c main_v1)
def Φ₀ (c : Dev nD) : sProp 𝕄 := iprop(Rest m ρ c ∗ Bufs (F := F) c)
/-- What it has after. -/
def Φ₁ (c : Dev nD) : sProp 𝕄 :=
  iprop((bigSep Finset.univ fun ck => semVal (cell c ck) 0) ∗ ((c : Thread nD τ).loc main_v1 ↦{fullShare} outV (argX m ρ) (argW m ρ)) ∗ Bufs (F := F) c)

/-- The run of a device as the launch reads it. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => argX m ρ c
    | ⟨1, _⟩ => argW m ρ c
  Φ t := match t with
    | ⟨0, _⟩ => Φ₀ m ρ c
    | ⟨_ + 1, _⟩ => Φ₁ m ρ c
  q _ := fullShare
  owed t := match t with
    | ⟨0, _⟩ => owed c 0
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win 0).fetch t = true := by rw [fin_N t]; rfl
theorem fetch_1 (t : Fin cfg0.N) : (cfg0.win 1).fetch t = true := by rw [fin_N t]; rfl
theorem owns_whole_eq (c : Dev nD) (b : Ref sig .tc) (Y : b.ty.shape.Idx → Elt F b.ty.elt) :
    (owns (Ix := ℕ) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

/-- A staging buffer at given contents. -/
abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

def bodyPre (c : Dev nD) : sProp 𝕄 :=
  iprop(Φ₀ m ρ c ∗ (dats m ρ 0 c).owesAt 0 t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m ρ c ∗ (dats m ρ 0 c).owesAt 0 t₀.succ ∗ stg c cc0_stg0_0 (argX m ρ c) ∗ stg c cc0_stg1_0 (argW m ρ c))

theorem own_start (c : Dev nD) : (dats m ρ 0 c).owesAt 0 t₀.castSucc ⊢ Own (F := F) c 0 := by
  unfold Dat.owesAt Pipeline.owesWithin Own
  rw [show (dats m ρ 0 c).owed t₀.castSucc = owed c 0 from rfl]
  iintro ⟨%Wt, %hW, HO⟩
  iexists Wt
  iexact HO
theorem own_end (c : Dev nD) : Own (F := F) c 119 ⊢ (dats m ρ 0 c).owesAt 0 t₀.succ := by
  unfold Dat.owesAt Pipeline.owesWithin Own
  rw [show (dats m ρ 0 c).owed t₀.succ = 0 from rfl, owed_end]
  iintro ⟨%Wt, HO⟩
  iexists Wt
  isplitr
  · ipureintro; exact fun _ _ => Or.inl trivial
  iexact HO

theorem post_of (c : Dev nD) (K : Dev nD × CK → ℕ) : iprop(End (argX m ρ) (argW m ρ) K c ∗ At (F := F) c (.axr c) 0)
    ⊢ (|={Set.univ}=> bodyPost m ρ c : sProp 𝕄) := by
  refine (end_of (argX m ρ) (argW m ρ) K c).trans (BI.fupd_mono ?_)
  unfold Data bodyPost Φ₁
  iintro ⟨HS, HO, HV, HB, HX, HW⟩
  ihave HO := (own_end m ρ c) $$ HO
  isplitl [HS HV HB]
  · iframe HS HV HB
  isplitl [HO]; · iexact HO
  isplitl [HX]
  · iexists _; isplitr; · (ipureintro; rfl)
    iexact HX
  iexists _; isplitr; · (ipureintro; rfl)
  iexact HW

theorem pre_of (c : Dev nD) : bodyPre m ρ c ⊢ iprop(∃ K, Start (argX m ρ) (argW m ρ) K c ∗ At (F := F) c (.axr c) 0) := by
  unfold bodyPre Φ₀ Rest
  iintro ⟨⟨⟨⟨%K, R⟩, HR, HV⟩, HB⟩, HO, ⟨%d0, %g0, %hg0, HX⟩, ⟨%d1, %g1, %hg1, HW⟩⟩
  have hx : g0 = argX m ρ c := by rw [hg0]; unfold Dat.before; rw [if_pos (fetch_0 t₀)]; rfl
  have hw : g1 = argW m ρ c := by rw [hg1]; unfold Dat.before; rw [if_pos (fetch_1 t₀)]; rfl
  subst hx hw
  ihave HO := (own_start m ρ c) $$ HO
  iexists K
  iapply (start_of (argX m ρ) (argW m ρ) K c)
  unfold Data
  iframe R HO HR HV HB HX HW

set_option maxRecDepth 4000 in
theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre m ρ c ⊢ WP c (cc0_body (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11) (fun _ => bodyPost m ρ c)
  refine (pre_of m ρ c).trans ?_
  iintro ⟨%K, HS, HA⟩
  have h : iprop(Start (argX m ρ) (argW m ρ) K c ∗ At (F := F) c (.axr c) 0) ⊢ WP c (cc0_body (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11) (fun _ => bodyPost m ρ c) :=
    (sep_mono_left (body_run (argX m ρ) (argW m ρ) K c)).trans ((wp_frame_r frame _ _).trans ((wp_mono frame _ _ fun _ => post_of m ρ c K).trans (wp_fupd frame _ _ _ _)))
  iapply h
  isplitl [HS] <;> iassumption

/-! ## The start -/

/-- The kernel's own semaphores that are not the barrier. -/
def osem : Fin 27 → SemLoc sig := fun i => csem (cks.tail.get (i.cast (by decide)))

theorem ownSemFacts : Pipeline.OwnSemFacts cfg0.spec osem := by decide
theorem share_eq (c : Dev nD) (w : Fin cfg0.W) : (dats m ρ 0 c).share w = fullShare := by unfold Dat.share; split <;> rfl

theorem ownSems0_eq (c : Dev nD) : (Pipeline.ownSems0 (Ix := ℕ) (Name := ℕ) (U := UU) (Lvl := ℕ) (Val := Elt F) (τ := τ) osem c : sProp 𝕄)
    = iprop(semVal (cell c (.snd 0)) 0 ∗ semVal (cell c (.snd 1)) 0 ∗ semVal (cell c (.rcv 0)) 0 ∗ semVal (cell c (.rcv 1)) 0
      ∗ semVal (cell c (.axs 0)) 0 ∗ semVal (cell c (.axs 1)) 0 ∗ semVal (cell c (.axs 2)) 0 ∗ semVal (cell c (.axs 3)) 0 ∗ semVal (cell c (.axs 4)) 0 ∗ semVal (cell c (.axs 5)) 0 ∗ semVal (cell c (.axs 6)) 0
      ∗ semVal (cell c (.axr 0)) 0 ∗ semVal (cell c (.axr 1)) 0 ∗ semVal (cell c (.axr 2)) 0 ∗ semVal (cell c (.axr 3)) 0 ∗ semVal (cell c (.axr 4)) 0 ∗ semVal (cell c (.axr 5)) 0 ∗ semVal (cell c (.axr 6)) 0
      ∗ semVal (cell c (.axr 7)) 0 ∗ semVal (cell c (.sto 0)) 0 ∗ semVal (cell c (.sto 1)) 0 ∗ semVal (cell c (.lod 0)) 0 ∗ semVal (cell c (.lod 1)) 0
      ∗ semVal (cell c (.rsc 0)) 0 ∗ semVal (cell c (.rsc 1)) 0 ∗ semVal (cell c (.agc 0)) 0 ∗ semVal (cell c (.agc 1)) 0) := by
  rw [Pipeline.ownSems0_eq_of_list c osem [0, 1, 2, 3, 4, 5, 6, 7, 8, 9, 10, 11, 12, 13, 14, 15, 16, 17, 18, 19, 20, 21, 22, 23, 24, 25, 26] (by decide) (by decide)]; rfl
theorem unscopedSems0_eq (c : Dev nD) : (unscopedSems0 c : sProp 𝕄) = semVal (cell c .bar) 0 := by
  unfold unscopedSems0; rw [bigSep_eq_bigSepL_of_eq [SemLoc.reg ⟨4, by decide⟩] (by decide) (by decide)]; rfl
theorem sems0_eq (c : Dev nD) : (bigSep Finset.univ fun ck => semVal (cell c ck) 0 : sProp 𝕄)
    = iprop(unscopedSems0 c ∗ Pipeline.ownSems0 (Ix := ℕ) (Name := ℕ) (U := UU) (Lvl := ℕ) (Val := Elt F) (τ := τ) osem c) := by
  rw [ck_all, unscopedSems0_eq, ownSems0_eq]

/-- The ghost state at the launch. -/
def u₀ : UU := (Rounds.initOf (Pipeline.cells cfgs cellOf_inj) (Pipeline.launchToks cfgs cellOf_inj), Rounds.initOf allCells allToks)

/-- What a device gets of it. -/
def G (c : Dev nD) : sProp 𝕄 :=
  iprop((bigSep Finset.univ fun ck : CK => roundState ER (ring (argX m ρ) (argW m ρ)) (cell c ck) 0)
    ∗ (bigSep Finset.univ fun ck : CK => iprop(atPos ER (cell c ck) 0 ∅ 0 ∗ reached ER (cell c ck) 0)) ∗ toks (F := F) c)
/-- The records that need no level. -/
def rec0 (K : Dev nD × CK → ℕ) : sProp 𝕄 :=
  iprop((bigSep Finset.univ fun p : Dev nD × CK => cellInv ER (ring (argX m ρ) (argW m ρ)) (K p) (cell p.1 p.2))
    ∗ (bigSep Finset.univ fun p : Dev nD × CK => reached ER (cell p.1 p.2) 0))
instance rec0_persistent (K : Dev nD × CK → ℕ) : BI.Persistent (rec0 m ρ K) := by unfold rec0; infer_instance
/-- What a device has once the cells stand. -/
def G' (c : Dev nD) : sProp 𝕄 := iprop(∃ K, rec0 m ρ K ∗ mine (F := F) c ∗ bigSep Finset.univ fun ck : CK => At (F := F) c ck 0)

theorem fund_ring : BI.own (ER (Rounds.initOf allCells allToks)) ⊢ (|==> bigSep Finset.univ (G m ρ) : sProp 𝕄) := by
  have hX (Φ : GSem nD τ sig → sProp 𝕄) : bigSep allCells Φ = bigSep Finset.univ fun c : Dev nD => bigSep Finset.univ fun ck : CK => Φ (cell c ck) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]; rfl
  iintro HX
  imod (Rounds.fund ER (ring (argX m ρ) (argW m ρ)) allCells allToks) $$ HX with ⟨Hst, Hr, Hat, Htok⟩
  imodintro
  ihave Hst := (Entails.of_eq (hX fun g => roundState ER (ring (argX m ρ) (argW m ρ)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hat Hr Htok

theorem core_alloc (c : Dev nD) :
    iprop(Pipeline.ownSems0 (Ix := ℕ) (Name := ℕ) (U := UU) (Lvl := ℕ) (Val := Elt F) (τ := τ) osem c ∗ unscopedSems0 c ∗ G m ρ c)
      ⊢ (|={Set.univ}=> iprop((bigSep Finset.univ fun ck : CK => iprop(∃ κ : ℕ, cellInv ER (ring (argX m ρ) (argW m ρ)) κ (cell c ck)))
          ∗ (bigSep Finset.univ fun ck : CK => iprop(atPos ER (cell c ck) 0 ∅ 0 ∗ reached ER (cell c ck) 0)) ∗ toks (F := F) c) : sProp 𝕄) := by
  have h : iprop((bigSep Finset.univ fun ck : CK => semVal (cell c ck) 0) ∗ bigSep Finset.univ fun ck : CK => roundState ER (ring (argX m ρ) (argW m ρ)) (cell c ck) 0)
      ⊢ (|={Set.univ}=> bigSep Finset.univ fun ck : CK => iprop(∃ κ : ℕ, cellInv ER (ring (argX m ρ) (argW m ρ)) κ (cell c ck)) : sProp 𝕄) := by
    rw [← bigSep_sep']
    exact (bigSep_mono fun ck _ => (Rounds.body_intro ER (ring (argX m ρ) (argW m ρ)) (cell c ck)).trans inv_alloc).trans (bigSep_fupd _ _)
  rw [sems0_eq] at h
  unfold G
  iintro ⟨Ho, Hu, Hst, Hat, Htok⟩
  imod h $$ [Ho Hu Hst] with Hinv
  · iframe Ho Hu Hst
  imodintro
  iframe Hinv Hat Htok

theorem each_of {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem at_of (c : Dev nD) (K : Dev nD × CK → ℕ) :
    iprop(rec0 m ρ K ∗ mine (F := F) c ∗ bigSep Finset.univ fun ck : CK => atPos ER (cell c ck) 0 ∅ 0) ⊢ G' m ρ c := by
  have hr : (bigSep Finset.univ fun p : Dev nD × CK => (reached ER (cell p.1 p.2) 0 : sProp 𝕄)) ⊢ bigSep Finset.univ fun ck : CK => reached ER (cell c ck) 0 := by
    rw [bigSep_univ_prod]; exact bigSep_elim (Finset.mem_univ c)
  unfold G' At
  iintro ⟨#R, HM, HA⟩
  iexists K
  isplitr; · iexact R
  isplitl [HM]; · iexact HM
  unfold rec0
  rw [bigSep_sep' _ _ _]
  isplitl [HA]; · iexact HA
  icases R with ⟨-, HR⟩
  iapply hr
  iexact HR

theorem regroup :
    (bigSep Finset.univ fun c : Dev nD => iprop((bigSep Finset.univ fun ck : CK => iprop(∃ κ : ℕ, cellInv ER (ring (argX m ρ) (argW m ρ)) κ (cell c ck)))
          ∗ (bigSep Finset.univ fun ck : CK => iprop(atPos ER (cell c ck) 0 ∅ 0 ∗ reached ER (cell c ck) 0)) ∗ toks (F := F) c) : sProp 𝕄)
      ⊢ bigSep Finset.univ (G' m ρ) := by
  rw [bigSep_sep', bigSep_sep', ← bigSep_univ_prod (fun p : Dev nD × CK => iprop(∃ κ : ℕ, cellInv ER (ring (argX m ρ) (argW m ρ)) κ (cell p.1 p.2))),
    bigSep_congr (s := Finset.univ) (fun (c : Dev nD) _ => bigSep_sep' Finset.univ (fun ck : CK => (atPos ER (cell c ck) 0 ∅ 0 : sProp 𝕄)) (fun ck => reached ER (cell c ck) 0)),
    bigSep_sep', ← bigSep_univ_prod (fun p : Dev nD × CK => (reached ER (cell p.1 p.2) 0 : sProp 𝕄))]
  iintro ⟨HI, ⟨Hat, #HR⟩, Htok⟩
  ihave HK := (BI.bigSep_exists_pi Finset.univ (fun (p : Dev nD × CK) (κ : ℕ) => (cellInv ER (ring (argX m ρ) (argW m ρ)) κ (cell p.1 p.2) : sProp 𝕄))) $$ HI
  icases HK with ⟨%K, #HI⟩
  ihave Htk := (toks_around (F := F)) $$ Htok
  iapply (each_of (R := rec0 m ρ K) (Φ := fun c => iprop(mine (F := F) c ∗ bigSep Finset.univ fun ck : CK => atPos ER (cell c ck) 0 ∅ 0)) fun c _ => at_of m ρ c K)
  rw [bigSep_sep']
  isplitr
  · unfold rec0; isplitl; · iexact HI
    iexact HR
  iframe Htk Hat

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts Lx lv
        ∗ Pipeline.launchCred (fun c => owed c 0) c ∗ prngReg c (ρ c) ∗ G' m ρ c)
      ⊢ (|={Set.univ}=> iprop(Rest m ρ c ∗ emp) : sProp 𝕄) := by
  rw [Pipeline.unscopedRestP_none, unscopedRest0_eq]
  unfold G' rec0 Rest recs Raw anyB
  iintro ⟨Hv, #Hlev, Hcr, -, ⟨%K, ⟨#HI, #HR⟩, HM, HA⟩⟩
  ihave Hc := (creds (F := F) c) $$ Hcr
  imodintro
  isplitl
  · isplitr
    · iexists K
      isplitr; · iexact HI
      isplitr; · iexact HR
      iexact Hlev
    isplitl [HM HA Hc]
    · iframe HM HA Hc
    iexists _
    iexact Hv
  · iempintro

theorem phi0_intro (c : Dev nD) :
    iprop(Rest m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ Bufs anyB
  iintro ⟨Hs, -, Hr⟩
  isplitl [Hs]; · iexact Hs
  iexact Hr

theorem phi1_exit (c : Dev nD) :
    (dats m ρ 0 c).Φ (Fin.last cfg0.N) ⊢ iprop((unscopedSems0 c ∗ ((c : Thread nD τ).loc main_v1 ↦{fullShare} outV (argX m ρ) (argW m ρ)))
      ∗ Pipeline.ownSems0 osem c ∗ Pipeline.scopedRest cfg0.spec c) := by
  rw [show (dats m ρ 0 c).Φ (Fin.last cfg0.N) = Φ₁ m ρ c from rfl, scopedRest0_eq]
  unfold Φ₁ Bufs anyB
  rw [sems0_eq]
  iintro ⟨⟨Hu, Ho⟩, Hv, Hr⟩
  isplitl [Hu Hv]
  · iframe Hu Hv
  isplitl [Ho]; · iexact Ho
  iexact Hr

theorem waits (c : Dev nD) : (levAts Lx lv : sProp 𝕄) ⊢ Pipeline.cellsWaits cfgs (dats m ρ) 0 0 c :=
  Pipeline.cellsWaits_intro cfgs (dats m ρ) 0 0 c fun w s t => by
    rcases t with ⟨_ | _, ht⟩
    · exact mayWait_at c _ 0 0 (by decide) (by revert c; fin_cases w <;> fin_cases s <;> decide)
    · have h := mayWait_at (F := F) c (.dma ((cfg0.win w).sem s)) 0 119 (by decide) (by revert c; fin_cases w <;> fin_cases s <;> decide)
      rw [owed_end] at h
      exact h

/-! ## The run -/

set_option maxRecDepth 8000 in
/-- Every run ends with every device's result at `outV`, the arguments as they were and all counters at zero. -/
theorem run_main : θ_run defs (onTc (τ := τ) (main (F := F))) (s₀ m ρ) (fun r => (∀ c : Dev nD,
      r.2.mem ((c : Thread nD τ).loc main_v1) = outV (argX m ρ) (argW m ρ)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owed c 0) (howed₀ := fun _ => rfl) (howedN := fun _ => rfl)
    (L := Lx) (lv := lv) (hL := fun g h => if_neg h) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := Rest m ρ) (Y := fun c => iprop(unscopedSems0 c ∗ ((c : Thread nD τ).loc main_v1 ↦{fullShare} outV (argX m ρ) (argW m ρ)))) (Z := fun _ => iprop(emp))
    (hX := start_intro m ρ) (hin := phi0_intro m ρ) (hout := phi1_exit m ρ)
    (QY := fun c s => s.mem ((c : Thread nD τ).loc main_v1) = outV (argX m ρ) (argW m ρ)
      ∧ ∀ sm : SemLoc sig, sm.isScoped .tc = false → s.sem ((c.tc : Thread nD τ), sm) = 0)
    (hY := fun c s' => by
      iintro ⟨⟨Hu, Hv⟩, -, HSI⟩
      ihave H := (pointsTo_read_all' ({()} : Finset Unit) (fun _ => (c : Thread nD τ).loc main_v1) (fun _ => outV (argX m ρ) (argW m ρ)) s' (fun _ => fullShare)) $$ [Hv HSI]
      · rw [bigSep_singleton]
        isplitl [Hv] <;> iassumption
      icases H with ⟨%hv, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hv () (Finset.mem_singleton_self _), hs⟩
      iexact HSI)
    (hQ := fun _ h hs => ⟨fun c => ⟨(h c).2.2.1, ((h c).1 (0 : Fin 2)).trans ((dats (F := F) m ρ 0 c).arrAt_in (0 : Fin 2) rfl _),
      ((h c).1 (1 : Fin 2)).trans ((dats (F := F) m ρ 0 c).arrAt_in (1 : Fin 2) rfl _)⟩, sem_eq_zero hs fun c => (h c).2.2.2⟩)

end Run

end Cert.Proof.KI
-- ==== Proof.Value.lean ====
/- The kernel's result over the extended reals: the sums, the maximum and the scaling agree with the reference's. -/
module

public import proofs.«01_k».proof.Proof.Run
public import proofs.«01_k».proof.Proof.Gen.ReferenceIdeal.Skeleton
public import Idealize.ShloMosaic.Lib.ValueIdx
public import Idealize.ShloMosaic.Lib.MatmulPlain
public import Idealize.ShloMosaic.Lib.Layout
public import Idealize.ShloMosaic.PureOps.Ideal.Laws

@[expose] public section

noncomputable section

namespace Cert.Proof.KI

open Cert.KernelIdeal Cert.KernelIdeal.Gen
open Idealize.ShloMosaic
open Idealize.ShloMosaic.TcCoe
open Idealize.ShloMosaic.ValueIdx

/-! ## Sums -/

/-- The eight terms in the order a chunk collects them. -/
theorem sum_ring {M : Type} [AddCommMonoid M] (g : Dev nD → Dev nD → M) (d : Fin 2) (k : Dev nD) (a : Nat → Dev nD → M)
    (h0 : ∀ c, a 0 c = g c c) (hs : ∀ s c, a (s + 1) c = a s (pv d c) + g c (up d (s + 1) c)) :
    a 7 (pv d k) = ∑ c : Fin 8, g c k := by
  simp only [hs, h0]
  have e0 : ∀ (d : Fin 2) (k : Fin 8), up d 7 (pv d k) = k := by decide
  have e1 : ∀ (d : Fin 2) (k : Fin 8), up d 6 (pv d (pv d k)) = k := by decide
  have e2 : ∀ (d : Fin 2) (k : Fin 8), up d 5 (pv d (pv d (pv d k))) = k := by decide
  have e3 : ∀ (d : Fin 2) (k : Fin 8), up d 4 (pv d (pv d (pv d (pv d k)))) = k := by decide
  have e4 : ∀ (d : Fin 2) (k : Fin 8), up d 3 (pv d (pv d (pv d (pv d (pv d k))))) = k := by decide
  have e5 : ∀ (d : Fin 2) (k : Fin 8), up d 2 (pv d (pv d (pv d (pv d (pv d (pv d k)))))) = k := by decide
  have e6 : ∀ (d : Fin 2) (k : Fin 8), up d 1 (pv d (pv d (pv d (pv d (pv d (pv d (pv d k))))))) = k := by decide
  have e7 : ∀ (d : Fin 2) (k : Fin 8), pv d (pv d (pv d (pv d (pv d (pv d (pv d (pv d k))))))) = k := by decide
  simp only [e0, e1, e2, e3, e4, e5, e6, e7, Nat.reduceAdd, zero_add]
  have hp : ∀ (d : Fin 2) (k : Fin 8), ([k, pv d (pv d (pv d (pv d (pv d (pv d (pv d k)))))), pv d (pv d (pv d (pv d (pv d (pv d k))))),
      pv d (pv d (pv d (pv d (pv d k)))), pv d (pv d (pv d (pv d k))), pv d (pv d (pv d k)), pv d (pv d k), pv d k] : List (Fin 8)).Perm (List.finRange 8) := by
    decide
  have hsum := ((hp d k).map fun c => g c k).sum_eq
  rw [← List.ofFn_eq_map, List.sum_ofFn] at hsum
  rw [← hsum]; simp only [List.map_cons, List.map_nil, List.sum_cons, List.sum_nil, add_zero]
  ac_rfl

/-- A sum over the whole contraction is the sum over the devices' parts. -/
theorem sum_parts {M : Type} [AddCommMonoid M] (f : Fin 4096 → M) :
    ∑ t : Fin 4096, f t = ∑ c : Fin 8, ∑ s : Fin 512, f ⟨512 * c.val + s.val, by omega⟩ := by
  rw [← Fintype.sum_prod_type' (f := fun (c : Fin 8) (s : Fin 512) => f ⟨512 * c.val + s.val, by omega⟩)]
  refine (Equiv.sum_comp (finProdFinEquiv (m := 8) (n := 512)) f).symm.trans (Finset.sum_congr rfl fun p _ => congrArg f (Fin.ext ?_))
  show p.2.val + 512 * p.1.val = 512 * p.1.val + p.2.val
  omega

theorem dotK_plain : dot_S512x512_S512x2048_S512x2048_1_0_0_1_n_n = DotDims.plain 512 512 2048 := rfl
theorem dotR_plain : Cert.ReferenceIdeal.dot_S4096x4096_S4096x8192_S4096x8192_1_0_0_1_n_n = DotDims.plain 4096 4096 8192 := rfl

theorem mm_apply (a : Vec Ideal S512x512 .f32) (b : Vec Ideal S512x2048 .f32) (r : Fin 512) (n : Fin 2048) :
    mm a b (ix2 r n) = ∑ t : Fin 512, a (ix2 r t) * b (ix2 t n) := by
  unfold mm; simp only [matmul]
  rw [dotK_plain, Ideal.matmul_plain_apply]
  exact (congrArg (· + _) Ideal.ofBits_zero_f32).trans (zero_add _)

/-- The reference's product. -/
def yR (A : Vec Ideal Cert.ReferenceIdeal.S4096x4096 .f32) (B : Vec Ideal Cert.ReferenceIdeal.S4096x8192 .f32) : FVec Ideal Cert.ReferenceIdeal.S4096x8192 .f32 :=
  matmul (φ₁ := .f32) (φ₂ := .f32) Cert.ReferenceIdeal.dot_S4096x4096_S4096x8192_S4096x8192_1_0_0_1_n_n none A B (constant Cert.ReferenceIdeal.S4096x8192 .f32 0x00000000#32)

theorem yR_apply (A : Vec Ideal Cert.ReferenceIdeal.S4096x4096 .f32) (B : Vec Ideal Cert.ReferenceIdeal.S4096x8192 .f32) (r : Fin 4096) (n : Fin 8192) :
    yR A B (ix2 r n) = ∑ t : Fin 4096, A (ix2 r t) * B (ix2 t n) := by
  unfold yR; simp only [matmul]
  rw [dotR_plain, Ideal.matmul_plain_apply]
  exact (congrArg (· + _) Ideal.ofBits_zero_f32).trans (zero_add _)

section Sums

variable (X : Dev nD → Vec Ideal S4096x512 .f32) (W : Dev nD → Vec Ideal S512x8192 .f32)
  (A : Vec Ideal Cert.ReferenceIdeal.S4096x4096 .f32) (B : Vec Ideal Cert.ReferenceIdeal.S4096x8192 .f32)

/-- The devices hold the parts of the whole arrays. -/
def Cut : Prop :=
  (∀ (c : Fin 8) (r : Fin 4096) (t : Fin 512), X c (ix2 r t) = A (ix2 r ⟨512 * c.val + t.val, by omega⟩))
  ∧ ∀ (c : Fin 8) (t : Fin 512) (n : Fin 8192), W c (ix2 t n) = B (ix2 ⟨512 * c.val + t.val, by omega⟩ n)

variable {X W A B}

theorem prod_apply (H : Cut X W A B) (c k : Fin 8) (h d : Fin 2) (r : Fin 512) (n : Fin 2048) :
    prod X W c k h d (ix2 r n) = ∑ t : Fin 512, A (ix2 ⟨512 * k.val + r.val, by omega⟩ ⟨512 * c.val + t.val, by omega⟩)
      * B (ix2 ⟨512 * c.val + t.val, by omega⟩ ⟨4096 * h.val + 2048 * d.val + n.val, by omega⟩) := by
  unfold prod
  rw [mm_apply]
  refine Finset.sum_congr rfl fun t _ => ?_
  rw [← H.1, ← H.2]
  refine congrArg₂ (· * ·) (congrArg (X c) (funext fun a => Fin.ext ?_)) (congrArg (W c) (funext fun a => Fin.ext ?_))
  · match a with
    | ⟨0, _⟩ => show 512 * k.val + 1 * r.val = 512 * k.val + r.val; omega
    | ⟨1, _⟩ => show 0 + 1 * t.val = t.val; omega
  · match a with
    | ⟨0, _⟩ => show 0 + 1 * t.val = t.val; omega
    | ⟨1, _⟩ => show 2048 * (2 * h.val + d.val) + 1 * n.val = 4096 * h.val + 2048 * d.val + n.val; omega

/-- The sum that ends on a device is its block of the whole product. -/
theorem acc_apply (H : Cut X W A B) (h d : Fin 2) (k : Fin 8) (r : Fin 512) (n : Fin 2048) :
    acc X W h d 7 (pv d k) (ix2 r n) = yR A B (ix2 ⟨512 * k.val + r.val, by omega⟩ ⟨4096 * h.val + 2048 * d.val + n.val, by omega⟩) := by
  rw [yR_apply, sum_parts]
  refine (sum_ring (fun c k => prod X W c k h d (ix2 r n)) d k (fun s c => acc X W h d s c (ix2 r n)) (fun _ => rfl) (fun _ _ => rfl)).trans ?_
  exact Finset.sum_congr rfl fun c _ => prod_apply H c k h d r n

end Sums

/-! ## The maximum -/

theorem ofBits_neg_inf : Ideal.ofBits .f32 0xFF800000#32 = (⊥ : EReal) := by simp [Ideal.ofBits, Ideal.ieee]
theorem ofBits_448 : Ideal.ofBits .f32 0x43E00000#32 = ((448 : ℝ) : EReal) := by
  simp [Ideal.ofBits, Ideal.ieee]; rw [← EReal.coe_mul]; norm_num
theorem ofBits_neg_448 : Ideal.ofBits .f32 0xC3E00000#32 = ((-448 : ℝ) : EReal) := by
  simp [Ideal.ofBits, Ideal.ieee]; rw [← EReal.coe_mul]; norm_num

/-- A reshaped array has the same entries. -/
theorem cast_le {s t : Shape} (h : s.ShapeCasts t) (x : s.Idx → EReal) (b : EReal) :
    (∀ j, shapeCast t x h j ≤ b) ↔ ∀ i, x i ≤ b :=
  ⟨fun H i => by have := H ((Shape.reshapeEquiv h).symm i); simpa [shapeCast] using this, fun H j => H _⟩

/-- A maximum over all entries lies below a bound exactly when every entry does. -/
theorem max_le_iff_all {s : Shape} {axes : List (Fin s.rank)} (x : FVec Ideal s .f32) (h : s.Reduces axes S1) (b : EReal) (j : S1.Idx) :
    multiReduction .maximumf axes S1 x 0xFF800000#32 h (.inl rfl) rfl j ≤ b ↔ ∀ i, x i ≤ b := by
  refine (Iff.of_eq (congrArg (· ≤ b) (multiReduction_maximumf_eq_fold x _ h (.inl rfl) rfl j))).trans ?_
  refine (Finset.fold_max_le (b := Ideal.ofBits .f32 0xFF800000#32) b).trans ?_
  have hj : ∀ i, h.drop i = j := fun i => funext fun a => by
    match a with
    | ⟨0, _⟩ => exact Subsingleton.elim (α := Fin 1) _ _
  rw [ofBits_neg_inf]
  simp [hj]

theorem extract_le_iff_all {s : Shape} {axes : List (Fin s.rank)} (x : FVec Ideal s .f32) (h : s.Reduces axes S1) (hc : S1.ShapeCasts S1x1x1)
    (hp : ∀ a, (![0, 0, 0] : Fin 3 → Nat) a < S1x1x1.size a) (b : EReal) :
    (extractAt ![0, 0, 0] (shapeCast S1x1x1 (multiReduction .maximumf axes S1 x 0xFF800000#32 h (.inl rfl) rfl) hc) hp : EReal) ≤ b ↔ ∀ i, x i ≤ b := by
  unfold extractAt shapeCast
  exact max_le_iff_all x h b _

section Maxima

variable (X : Dev nD → Vec Ideal S4096x512 .f32) (W : Dev nD → Vec Ideal S512x8192 .f32)

/-- The largest magnitude of a chunk. -/
def top1 (v : FVec Ideal S512x2048 .f32) : EReal :=
  extractAt ![0, 0, 0] (shapeCast S1x1x1 (multiReduction .maximumf [1, 2] S1 (shapeCast S1x512x2048 (absf v) shapeCasts_S512x2048_S1x512x2048) 0xFF800000#32
    reduces_S1x512x2048_S1 (.inl rfl) rfl) shapeCasts_S1_S1x1x1) inpos_S1x1x1_p0_0_0

theorem top1_le (v : FVec Ideal S512x2048 .f32) (b : EReal) : top1 v ≤ b ↔ ∀ i, (max (v i) (-v i) : EReal) ≤ b := by
  unfold top1
  exact (extract_le_iff_all _ reduces_S1x512x2048_S1 shapeCasts_S1_S1x1x1 inpos_S1x1x1_p0_0_0 b).trans (cast_le _ (absf v) b)

theorem cast_up1 (u : FVec Ideal S512x2048 .f32) : (shapeCast S512x2048 (up1 u) shapeCasts_S1x512x2048_S512x2048 : S512x2048.Idx → _) = u := by
  simp only [shapeCast_shapeCast, shapeCast_self]

theorem pay17_top (u v : FVec Ideal S512x2048 .f32) :
    k0_pay17 (F := Ideal) (up1 u) (up1 v) = Scalar.maximumf (F := Ideal) (φ := .f32) (top1 u) (top1 v) := by
  unfold k0_pay17
  rw [cast_up1, cast_up1]
  unfold top1
  with_reducible rfl

theorem pay23_top (g : Ideal .f32) (u v : FVec Ideal S512x2048 .f32) :
    k0_pay23 (F := Ideal) g (up1 u) (up1 v)
      = Scalar.maximumf (F := Ideal) (φ := .f32) g (Scalar.maximumf (F := Ideal) (φ := .f32) (top1 u) (top1 v)) := by
  unfold k0_pay23
  rw [cast_up1, cast_up1]
  unfold top1
  with_reducible rfl

theorem scalar_max_le (x y : Ideal .f32) (b : EReal) : (Scalar.maximumf (F := Ideal) (φ := .f32) x y : EReal) ≤ b ↔ (x : EReal) ≤ b ∧ (y : EReal) ≤ b :=
  max_le_iff (α := EReal)

theorem lam_le (c : Dev nD) (b : EReal) :
    (lam X W c : EReal) ≤ b ↔ ∀ (h d : Fin 2) (j : S512x2048.Idx), (max (acc X W h d 7 c j) (-acc X W h d 7 c j) : EReal) ≤ b := by
  have e : (∀ (h d : Fin 2) (j : S512x2048.Idx), (max (acc X W h d 7 c j) (-acc X W h d 7 c j) : EReal) ≤ b)
      ↔ ∀ h d : Fin 2, top1 (acc X W h d 7 c) ≤ b := forall_congr' fun h => forall_congr' fun d => (top1_le _ b).symm
  rw [e, Fin.forall_fin_two, Fin.forall_fin_two, Fin.forall_fin_two]
  unfold lam
  rw [pay17_top, pay23_top, scalar_max_le, scalar_max_le, scalar_max_le]

theorem amv_eq (c : Dev nD) : amv X W c = broadcast S8x128 (lam X W c) := by
  unfold amv k0_pay24; simp only [shapeCast_shapeCast, shapeCast_self]

theorem cast_upA (u : FVec Ideal S8x128 .f32) : (shapeCast S8x128 (upA u) shapeCasts_S1x8x128_S8x128 : S8x128.Idx → _) = u := by
  simp only [shapeCast_shapeCast, shapeCast_self]

/-- The largest entry of a table row built from eight. -/
def top8 (v : FVec Ideal S8x128 .f32) : EReal :=
  extractAt ![0, 0, 0] (shapeCast S1x1x1 (multiReduction .maximumf [1, 2] S1 (upA v) 0xFF800000#32
    reduces_S1x8x128_S1 (.inl rfl) rfl) shapeCasts_S1_S1x1x1) inpos_S1x1x1_p0_0_0

theorem top8_le (v : FVec Ideal S8x128 .f32) (b : EReal) : top8 v ≤ b ↔ ∀ i, (v i : EReal) ≤ b := by
  unfold top8
  exact (extract_le_iff_all _ reduces_S1x8x128_S1 shapeCasts_S1_S1x1x1 inpos_S1x1x1_p0_0_0 b).trans (cast_le _ v b)

theorem pay26_top (v0 v1 v2 v3 v4 v5 v6 v7 : FVec Ideal S8x128 .f32) :
    k0_pay26 (F := Ideal) (k0_pay25 (upA v0)) (upA v1) (upA v2) (upA v3) (upA v4) (upA v5) (upA v6) (upA v7)
      = top8 (maximumf (maximumf (maximumf (maximumf (maximumf (maximumf (maximumf v0 v1) v2) v3) v4) v5) v6) v7) := by
  unfold k0_pay26 k0_pay25
  rw [cast_upA, cast_upA, cast_upA, cast_upA, cast_upA, cast_upA, cast_upA, cast_upA]
  unfold top8
  with_reducible rfl

theorem eight_le (f : Fin 8 → Ideal .f32) (b : EReal) :
    (∀ i, ((maximumf (F := Ideal) (φ := .f32) (maximumf (maximumf (maximumf (maximumf (maximumf (maximumf (broadcast S8x128 (f 0)) (broadcast S8x128 (f 1))) (broadcast S8x128 (f 2)))
      (broadcast S8x128 (f 3))) (broadcast S8x128 (f 4))) (broadcast S8x128 (f 5))) (broadcast S8x128 (f 6))) (broadcast S8x128 (f 7))) i : EReal) ≤ b)
      ↔ ∀ c, (f c : EReal) ≤ b := by
  have pt : ∀ a0 a1 a2 a3 a4 a5 a6 a7 : EReal, max (max (max (max (max (max (max a0 a1) a2) a3) a4) a5) a6) a7 ≤ b
      ↔ (a0 ≤ b ∧ a1 ≤ b ∧ a2 ≤ b ∧ a3 ≤ b ∧ a4 ≤ b ∧ a5 ≤ b ∧ a6 ≤ b ∧ a7 ≤ b) := by
    intros; simp only [max_le_iff, and_assoc]
  constructor
  · intro H c
    obtain ⟨h0, h1, h2, h3, h4, h5, h6, h7⟩ := (pt (f 0) (f 1) (f 2) (f 3) (f 4) (f 5) (f 6) (f 7)).1 (H (ix2 (0 : Fin 8) (0 : Fin 128)))
    match c with
    | 0 => exact h0
    | 1 => exact h1
    | 2 => exact h2
    | 3 => exact h3
    | 4 => exact h4
    | 5 => exact h5
    | 6 => exact h6
    | 7 => exact h7
  · exact fun H i => (pt (f 0) (f 1) (f 2) (f 3) (f 4) (f 5) (f 6) (f 7)).2 ⟨H 0, H 1, H 2, H 3, H 4, H 5, H 6, H 7⟩

/-- The largest magnitude on any device. -/
def big : Ideal .f32 :=
  k0_pay26 (F := Ideal) (k0_pay25 (upA (amv X W 0))) (upA (amv X W 1)) (upA (amv X W 2)) (upA (amv X W 3)) (upA (amv X W 4)) (upA (amv X W 5)) (upA (amv X W 6)) (upA (amv X W 7))

theorem big_le (b : EReal) :
    (big X W : EReal) ≤ b ↔ ∀ (c : Fin 8) (h d : Fin 2) (j : S512x2048.Idx), (max (acc X W h d 7 c j) (-acc X W h d 7 c j) : EReal) ≤ b := by
  have all : (∀ (c : Fin 8) (h d : Fin 2) (j : S512x2048.Idx), (max (acc X W h d 7 c j) (-acc X W h d 7 c j) : EReal) ≤ b) ↔ ∀ c : Fin 8, (lam X W c : EReal) ≤ b :=
    forall_congr' fun c => (lam_le X W c b).symm
  rw [all]
  unfold big
  rw [pay26_top, top8_le]
  rw [amv_eq, amv_eq, amv_eq, amv_eq, amv_eq, amv_eq, amv_eq, amv_eq]
  exact eight_le (lam X W) b

end Maxima

end Cert.Proof.KI
-- ==== Proof.Scale.lean ====
/- Scaling over the extended reals: clipping does nothing below the largest magnitude. -/
module

public import proofs.«01_k».proof.Proof.Value

@[expose] public section

noncomputable section

namespace Cert.Proof.KI

open Idealize.ShloMosaic

theorem div_448 (a : EReal) : Ideal.div a ((448 : ℝ) : EReal) = a * ((1 / 448 : ℝ) : EReal) := Ideal.div_coe (by norm_num) a

/-- A value below the largest magnitude `a`, scaled, clipped and scaled back, is what the kernel makes of it. -/
theorem scale_eq (a y : EReal) (h : max y (-y) ≤ a) :
    y * Ideal.div ((448 : ℝ) : EReal) a * Ideal.div a ((448 : ℝ) : EReal)
      = min ((448 : ℝ) : EReal) (max ((-448 : ℝ) : EReal) (Ideal.div y (Ideal.div a ((448 : ℝ) : EReal)))) * Ideal.div a ((448 : ℝ) : EReal) := by
  obtain ⟨h1, h2⟩ := max_le_iff.1 h
  rw [div_448]
  induction a with
  | bot =>
    rw [le_bot_iff] at h1 h2
    rw [h1] at h2; simp at h2
  | top =>
    have e : ((⊤ : EReal) * ((1 / 448 : ℝ) : EReal)) = ⊤ := EReal.top_mul_coe_of_pos (by norm_num)
    have hd : ∀ x : EReal, Ideal.div x ⊤ = 0 := fun x => by unfold Ideal.div; rw [if_neg (by simp)]; simp
    rw [e, hd, hd, mul_zero, zero_mul]
    have : (max ((-448 : ℝ) : EReal) 0) = 0 := max_eq_right (by exact_mod_cast (by norm_num : (-448 : ℝ) ≤ 0))
    rw [this, min_eq_right (by exact_mod_cast (by norm_num : (0 : ℝ) ≤ 448)), zero_mul]
  | coe r =>
    induction y with
    | bot => simp at h2
    | top => simp at h1
    | coe s =>
      have h1' : s ≤ r := by exact_mod_cast h1
      have h2' : -s ≤ r := by exact_mod_cast h2
      by_cases hr : r = 0
      · have : s = 0 := by linarith
        subst hr; subst this; simp
      · have hp : 0 < r := lt_of_le_of_ne (by linarith) (Ne.symm hr)
        rw [Ideal.div_coe hr, ← EReal.coe_mul r, Ideal.div_coe (by positivity)]
        simp only [← EReal.coe_mul]
        rw [← EReal.coe_strictMono.monotone.map_max, ← EReal.coe_strictMono.monotone.map_min, ← EReal.coe_mul]
        have e : s * (1 / (r * (1 / 448))) = 448 * (s / r) := by field_simp
        have b1 : s / r ≤ 1 := (div_le_one hp).2 h1'
        have b2 : -1 ≤ s / r := by rw [le_div_iff₀ hp]; linarith
        rw [e, max_eq_right (by linarith), min_eq_right (by linarith)]
        congr 1; field_simp

end Cert.Proof.KI
-- ==== Proof.Meet.lean ====
/- The kernel's result is the reference's. -/
module

public import proofs.«01_k».proof.Proof.Scale

@[expose] public section

noncomputable section

namespace Cert.Proof.KI

open Cert.KernelIdeal Cert.KernelIdeal.Gen
open Idealize.ShloMosaic
open Idealize.ShloMosaic.TcCoe
open Idealize.ShloMosaic.ValueIdx

section Meet

variable {X : Dev nD → Vec Ideal S4096x512 .f32} {W : Dev nD → Vec Ideal S512x8192 .f32}
  {A : Vec Ideal Cert.ReferenceIdeal.S4096x4096 .f32} {B : Vec Ideal Cert.ReferenceIdeal.S4096x8192 .f32}

/-- The reference's largest magnitude. -/
def topR (v : FVec Ideal Cert.ReferenceIdeal.S4096x8192 .f32) : Ideal .f32 :=
  extractAt ![0, 0, 0] (shapeCast S1x1x1 (multiReduction .maximumf [1, 2] S1
    (shapeCast Cert.ReferenceIdeal.S1x4096x8192 (absf v) Cert.ReferenceIdeal.Facts₀.shapeCasts_S4096x8192_S1x4096x8192) 0xFF800000#32
    Cert.ReferenceIdeal.Facts₀.reduces_S1x4096x8192_S1 (.inl rfl) rfl) shapeCasts_S1_S1x1x1) inpos_S1x1x1_p0_0_0

theorem topR_le (v : FVec Ideal Cert.ReferenceIdeal.S4096x8192 .f32) (b : EReal) : (topR v : EReal) ≤ b ↔ ∀ i, (max (v i) (-v i) : EReal) ≤ b := by
  unfold topR
  exact (extract_le_iff_all _ Cert.ReferenceIdeal.Facts₀.reduces_S1x4096x8192_S1 shapeCasts_S1_S1x1x1 inpos_S1x1x1_p0_0_0 b).trans (cast_le _ (absf v) b)

/-- The reference's steps after the product and its largest magnitude `g`: scale, clip, round, scale back. -/
def fin1 (v : FVec Ideal Cert.ReferenceIdeal.S4096x8192 .f32) (g w u : Ideal .f32) : FVec Ideal Cert.ReferenceIdeal.S4096x8192 .f32 :=
  mulf (extf .f32 (truncf .fp8e4m3 (minimumf (broadcast Cert.ReferenceIdeal.S4096x8192 w) (maximumf (broadcast Cert.ReferenceIdeal.S4096x8192 u)
    (divf v (broadcast Cert.ReferenceIdeal.S4096x8192 (Scalar.divf g w))))) bitsLt_fp8e4m3_f32) bitsLt_fp8e4m3_f32)
    (broadcast Cert.ReferenceIdeal.S4096x8192 (Scalar.divf g w))

/-- The reference's result, entry by entry. -/
theorem ref_apply (i : Cert.ReferenceIdeal.S4096x8192.Idx) :
    Cert.ReferenceIdeal.Gen.k0_pay1 (F := Ideal) A B i
      = min ((448 : ℝ) : EReal) (max ((-448 : ℝ) : EReal) (Ideal.div (yR A B i) (Ideal.div (topR (yR A B)) ((448 : ℝ) : EReal))))
        * Ideal.div (topR (yR A B)) ((448 : ℝ) : EReal) := by
  have e : Cert.ReferenceIdeal.Gen.k0_pay1 (F := Ideal) A B = fin1 (yR A B) (topR (yR A B)) (Scalar.ofBits .f32 0x43E00000#32) (Scalar.ofBits .f32 0xC3E00000#32) := by
    unfold Cert.ReferenceIdeal.Gen.k0_pay1 fin1 yR topR
    with_reducible rfl
  rw [← ofBits_448, ← ofBits_neg_448, e]
  generalize topR (yR A B) = g
  generalize yR A B = v
  generalize hk : (Scalar.ofBits .f32 0x43E00000#32 : Ideal .f32) = w
  generalize hl : (Scalar.ofBits .f32 0xC3E00000#32 : Ideal .f32) = u
  rw [show Ideal.ofBits .f32 0x43E00000#32 = w from hk, show Ideal.ofBits .f32 0xC3E00000#32 = u from hl]
  rfl

/-- The kernel's steps after the sum `v` and the largest magnitude `g`. -/
def fin0 (v : FVec Ideal S512x2048 .f32) (g w : Ideal .f32) : FVec Ideal S512x2048 .f32 :=
  mulf (extf .f32 (truncf .fp8e4m3 (mulf v (broadcast S512x2048 (Scalar.divf w g))) bitsLt_fp8e4m3_f32) bitsLt_fp8e4m3_f32)
    (broadcast S512x2048 (Scalar.divf g w))

theorem fin0_apply (v : FVec Ideal S512x2048 .f32) (g w : Ideal .f32) (j : S512x2048.Idx) :
    fin0 v g w j = (v j * Ideal.div w g * Ideal.div g w : EReal) := rfl

/-- The kernel's result on a block. -/
theorem ob_apply (h d : Fin 2) (k : Dev nD) (j : S512x2048.Idx) :
    ob X W h d k j = (acc X W h d 7 (pv d k) j * Ideal.div ((448 : ℝ) : EReal) (big X W) * Ideal.div (big X W) ((448 : ℝ) : EReal) : EReal) := by
  have es : scl X W = Scalar.divf (F := Ideal) (φ := .f32) (big X W) (Scalar.ofBits .f32 0x43E00000#32) := by
    unfold scl k0_pay27 big; with_reducible rfl
  have ei : inv X W = Scalar.divf (F := Ideal) (φ := .f32) (Scalar.ofBits .f32 0x43E00000#32) (big X W) := by
    unfold inv k0_pay28 big; with_reducible rfl
  have e : ob X W h d k = fin0 (acc X W h d 7 (pv d k)) (big X W) (Scalar.ofBits .f32 0x43E00000#32) := by
    unfold ob dq q0 fin0
    rw [es, ei]
  rw [e, ← ofBits_448]
  exact fin0_apply _ _ _ j

theorem dev_pv (d : Fin 2) (c : Fin 8) : ∃ k : Fin 8, c = pv d k := by revert d c; decide

theorem big_eq (H : Cut X W A B) : (big X W : EReal) = topR (yR A B) := by
  refine eq_of_forall_ge_iff fun b => ?_
  rw [big_le, topR_le]
  constructor
  · intro h i
    have h0 : (i 0).val < 4096 := (i 0).isLt
    have h1 : (i 1).val < 8192 := (i 1).isLt
    have := h (pv ⟨(i 1).val / 2048 % 2, by omega⟩ (⟨(i 0).val / 512, by omega⟩ : Fin 8)) ⟨(i 1).val / 4096, by omega⟩ ⟨(i 1).val / 2048 % 2, by omega⟩
      (ix2 (⟨(i 0).val % 512, by omega⟩ : Fin 512) (⟨(i 1).val % 2048, by omega⟩ : Fin 2048))
    rw [acc_apply H] at this
    refine le_of_eq_of_le ?_ this
    refine congrArg (fun i => max (yR A B i) (-yR A B i)) (funext fun a => Fin.ext ?_)
    match a with
    | ⟨0, _⟩ => show (i 0).val = 512 * ((i 0).val / 512) + (i 0).val % 512; omega
    | ⟨1, _⟩ => show (i 1).val = 4096 * ((i 1).val / 4096) + 2048 * ((i 1).val / 2048 % 2) + (i 1).val % 2048; omega
  · intro h c h' d j
    obtain ⟨k, rfl⟩ := dev_pv d c
    have e := (congrArg (acc X W h' d 7 (pv d k)) (eq_ix2 j)).trans (acc_apply H h' d k (j 0) (j 1))
    rw [e]
    exact h _

theorem outV_eq (H : Cut X W A B) : outV X W = Cert.ReferenceIdeal.Gen.k0_pay1 (F := Ideal) A B := by
  funext i
  have h0 : (i 0).val < 4096 := (i 0).isLt
  have h1 : (i 1).val < 8192 := (i 1).isLt
  rw [ref_apply, ← big_eq H, ← scale_eq _ _ (by rw [big_eq H]; exact (topR_le _ _).1 le_rfl i)]
  unfold outV
  rw [ob_apply]
  refine congrArg (fun y : EReal => y * Ideal.div ((448 : ℝ) : EReal) (big X W) * Ideal.div (big X W) ((448 : ℝ) : EReal)) ?_
  have hj : (fun a => match a with | ⟨0, _⟩ => ⟨(i 0).val % 512, Nat.mod_lt _ (by decide)⟩ | ⟨1, _⟩ => ⟨(i 1).val % 2048, Nat.mod_lt _ (by decide)⟩ : S512x2048.Idx)
      = ix2 (⟨(i 0).val % 512, by omega⟩ : Fin 512) (⟨(i 1).val % 2048, by omega⟩ : Fin 2048) := by
    funext a
    match a with
    | ⟨0, _⟩ => rfl
    | ⟨1, _⟩ => rfl
  refine (congrArg (acc X W _ _ 7 _) hj).trans ((acc_apply H _ _ _ _ _).trans ?_)
  refine congrArg (yR A B) (funext fun a => Fin.ext ?_)
  match a with
  | ⟨0, _⟩ => show 512 * ((i 0).val / 512) + (i 0).val % 512 = (i 0).val; omega
  | ⟨1, _⟩ => show 4096 * ((i 1).val / 4096) + 2048 * ((i 1).val / 2048 % 2) + (i 1).val % 2048 = (i 1).val; omega

end Meet

section Args

variable (m : (ℓ : Loc nD τ sig) → Buf (Elt Ideal) ℓ) (ρ : Dev nD → PrngReg)

theorem argX_eq (c : Dev nD) : argX m ρ c = m ((c : Thread nD τ).loc main_arg0) := by
  funext j
  show m ((c : Thread nD τ).loc main_arg0) ((win0_0.blk (0 : Fin 1)).view.emb j) = _
  refine congrArg (m ((c : Thread nD τ).loc main_arg0)) (funext fun a => Fin.ext ?_)
  match a with
  | ⟨0, _⟩ => show win0_0.index (0 : Fin 1) (0 : Fin 2) * 4096 + 1 * (j 0).val = (j 0).val; have : win0_0.index (0 : Fin 1) (0 : Fin 2) = 0 := by decide
              omega
  | ⟨1, _⟩ => show win0_0.index (0 : Fin 1) (1 : Fin 2) * 512 + 1 * (j 1).val = (j 1).val; have : win0_0.index (0 : Fin 1) (1 : Fin 2) = 0 := by decide
              omega

theorem argW_eq (c : Dev nD) : argW m ρ c = m ((c : Thread nD τ).loc main_arg1) := by
  funext j
  show m ((c : Thread nD τ).loc main_arg1) ((win0_1.blk (0 : Fin 1)).view.emb j) = _
  refine congrArg (m ((c : Thread nD τ).loc main_arg1)) (funext fun a => Fin.ext ?_)
  match a with
  | ⟨0, _⟩ => show win0_1.index (0 : Fin 1) (0 : Fin 2) * 512 + 1 * (j 0).val = (j 0).val; have : win0_1.index (0 : Fin 1) (0 : Fin 2) = 0 := by decide
              omega
  | ⟨1, _⟩ => show win0_1.index (0 : Fin 1) (1 : Fin 2) * 8192 + 1 * (j 1).val = (j 1).val; have : win0_1.index (0 : Fin 1) (1 : Fin 2) = 0 := by decide
              omega

/-- Devices that start with their blocks of the whole arrays hold the parts. -/
theorem cut_of (A : Vec Ideal Cert.ReferenceIdeal.S4096x4096 .f32) (B : Vec Ideal Cert.ReferenceIdeal.S4096x8192 .f32)
    (h : ∀ c : Dev nD, m ((c : Thread nD τ).loc main_arg0) = Layout.block ⟨2, ![4096, 512]⟩ ⟨2, ![4096, 4096]⟩ 1 8 c A
      ∧ m ((c : Thread nD τ).loc main_arg1) = Layout.block ⟨2, ![512, 8192]⟩ ⟨2, ![4096, 8192]⟩ 0 8 c B) :
    Cut (argX m ρ) (argW m ρ) A B := by
  constructor
  · intro c r t
    rw [argX_eq, (h c).1]
    refine congrArg A (funext fun a => Fin.ext ?_)
    match a with
    | ⟨0, _⟩ => rfl
    | ⟨1, _⟩ => show c.val * 512 + t.val = 512 * c.val + t.val; omega
  · intro c t n
    rw [argW_eq, (h c).2]
    refine congrArg B (funext fun a => Fin.ext ?_)
    match a with
    | ⟨0, _⟩ => show c.val * 512 + t.val = 512 * c.val + t.val; omega
    | ⟨1, _⟩ => rfl

end Args

end Cert.Proof.KI
-- ==== Proof.Same.lean ====
/- The compiled kernel and the one read at the extended reals are the same text. -/
module

public import proofs.«01_k».proof.Proof.Run
public import proofs.«01_k».proof.Proof.Gen.Kernel

@[expose] public section

namespace Cert.Proof

open Idealize.ShloMosaic

variable {F : FTy → Type} [FloatOps F]

set_option maxRecDepth 100000 in
theorem same_body : @Cert.Kernel.cc0_body F _ Cert.Kernel.Gen.facts = @Cert.KernelIdeal.cc0_body F _ Cert.KernelIdeal.Gen.facts := by
  unfold Cert.Kernel.cc0_body Cert.KernelIdeal.cc0_body
  rfl

theorem same_main : @Cert.Kernel.main F Cert.Kernel.Gen.facts = @Cert.KernelIdeal.main F Cert.KernelIdeal.Gen.facts := rfl

set_option maxRecDepth 100000 in
theorem same_defs₀ : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => ?_)
  fin_cases l
  funext x
  obtain ⟨t, s⟩ := x
  dsimp only
  rw [same_body]

set_option maxRecDepth 100000 in
theorem same_defs : @Cert.Kernel.defs F _ Cert.Kernel.Gen.facts = @Cert.KernelIdeal.defs F _ Cert.KernelIdeal.Gen.facts := by
  unfold Cert.Kernel.defs Cert.KernelIdeal.defs
  rw [same_defs₀]
  rfl

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Meet
public import proofs.«01_k».proof.Proof.Same
public import Idealize.ShloMosaic.Adequacy
public import Idealize.ShloMosaic.Init

@[expose] public section

noncomputable section

namespace Cert.Proof

open Idealize.ShloMosaic Idealize.SL.Sem

/-- The run with its values dropped. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := F)) _ _).mono (fun _ h => ⟨fun c => (h.1 c).2, h.2⟩) (Cert.Proof.KI.run_main m ρ)

/-- The compiled kernel's frame: the run at the machine's floats. -/
theorem frame_kernel : Cert.quiescent_Kernel := fun m ρ _ => by
  have h := run_frame (F := Bits) m ρ
  rw [← same_defs, ← same_main] at h
  exact h

/-- The frame at the extended reals. -/
theorem frame_ideal : Cert.quiescent_KernelIdeal := fun m ρ _ => run_frame (F := Ideal) m ρ

/-- The reference's frame. -/
theorem frame_reference : Cert.quiescent_ReferenceIdeal := fun m ρ _ => Cert.ReferenceIdeal.Gen.frame m ρ

/-- The kernel's result on every device is the reference's. -/
theorem algebraic : Cert.algebraic_KernelIdeal_ReferenceIdeal := fun m g m' g' _ h => by
  refine ⟨Cert.ReferenceIdeal.Value.G2 (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono (fun r H c => ⟨?_, (H.1 c).2⟩) (Cert.Proof.KI.run_main (F := Ideal) m g)
    exact (H.1 c).1.trans (Cert.Proof.KI.outV_eq (Cert.Proof.KI.cut_of m g _ _ h))
  · exact (θ_run (Cert.ReferenceIdeal.defs (F := Ideal)) _ _).mono (fun r H => H 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, algebraic⟩

end Cert.Proof

end
